-- ==== Defs.lean ====
def Pre_Gather [hPre_indices_in_range : Cert.Pre_indices_in_range.Facts] (m : (ℓ : Loc Cert.Gather.nD Cert.Gather.τ Cert.Gather.sig) → Buf (Elt Bits) ℓ) : Prop :=
  ∀ c : Dev Cert.Gather.nD,
    (Cert.Pre_indices_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_indices_in_range : Cert.Pre_indices_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_indices_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal (m : (ℓ : Loc Cert.GatherRefIdeal.nD Cert.GatherRefIdeal.τ Cert.GatherRefIdeal.sig) → Buf (Elt Ideal) ℓ) : Prop :=
  True

def Pre_GatherRefIdeal_indices_in_range [hPre_indices_in_range : Cert.Pre_indices_in_range.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_indices_in_range.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def Pre_GatherRef [hPre_indices_in_range : Cert.Pre_indices_in_range.Facts] (m : (ℓ : Loc Cert.GatherRef.nD Cert.GatherRef.τ Cert.GatherRef.sig) → Buf (Elt Bits) ℓ) : Prop :=
  ∀ c : Dev Cert.GatherRef.nD,
    (Cert.Pre_indices_in_range.fn (F := Bits) (m ((c.tc : Thread Cert.GatherRef.nD Cert.GatherRef.τ).loc Cert.GatherRef.main_arg0)) (m ((c.tc : Thread Cert.GatherRef.nD Cert.GatherRef.τ).loc Cert.GatherRef.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Gather [hGather : Cert.Gather.Facts] [hPre_indices_in_range : Cert.Pre_indices_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_indices_in_range : Cert.Pre_indices_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRefIdeal_pre_indices_in_range [hGatherRefIdeal : Cert.GatherRefIdeal.Facts] [hPre_indices_in_range : Cert.Pre_indices_in_range.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal_indices_in_range m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRef [hGatherRef : Cert.GatherRef.Facts] [hPre_indices_in_range : Cert.Pre_indices_in_range.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Gather_GatherIdeal : Prop :=
  True

def bitexact_Gather_GatherRef [hGather : Cert.Gather.Facts] [hGatherRef : Cert.GatherRef.Facts] [hPre_indices_in_range : Cert.Pre_indices_in_range.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m' ((c.tc : Thread Cert.GatherRef.nD Cert.GatherRef.τ).loc Cert.GatherRef.main_arg0) = m ((c.tc : Thread Cert.Gather.nD Cert.Gather.τ).loc Cert.Gather.main_arg0)
      ∧ m' ((c.tc : Thread Cert.GatherRef.nD Cert.GatherRef.τ).loc Cert.GatherRef.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v4)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v4) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherRef.defs (F := Bits)) (onTc (τ := Cert.GatherRef.τ) (Cert.GatherRef.main (F := Bits))) ⟨m', fun _ => 0, g'⟩ (fun r => ∀ c : Dev Cert.GatherRef.nD,
          r.2.mem ((c.tc : Thread Cert.GatherRef.nD Cert.GatherRef.τ).loc Cert.GatherRef.main_v0) = v0 c
          ∧ r.2.mem ((c.tc : Thread Cert.GatherRef.nD Cert.GatherRef.τ).loc Cert.GatherRef.main_arg0) = m' ((c.tc : Thread Cert.GatherRef.nD Cert.GatherRef.τ).loc Cert.GatherRef.main_arg0)
          ∧ r.2.mem ((c.tc : Thread Cert.GatherRef.nD Cert.GatherRef.τ).loc Cert.GatherRef.main_arg1) = m' ((c.tc : Thread Cert.GatherRef.nD Cert.GatherRef.τ).loc Cert.GatherRef.main_arg1))

def algebraic_GatherIdeal_GatherRefIdeal [hGatherIdeal : Cert.GatherIdeal.Facts] [hGatherRefIdeal : Cert.GatherRefIdeal.Facts] [hPre_indices_in_range : Cert.Pre_indices_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v4)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v4) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v0) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hGather : Cert.Gather.Facts) (hGatherIdeal : Cert.GatherIdeal.Facts) (hGatherRefIdeal : Cert.GatherRefIdeal.Facts) (hGatherRef : Cert.GatherRef.Facts) (hKernelIdeal : Cert.KernelIdeal.Facts) (hReferenceIdeal : Cert.ReferenceIdeal.Facts) (hPre_indices_in_range : Cert.Pre_indices_in_range.Facts) (hPre_finite : Cert.Pre_finite.Facts),
    quiescent_Gather (hGather := hGather) (hPre_indices_in_range := hPre_indices_in_range)
    ∧ quiescent_GatherIdeal (hGatherIdeal := hGatherIdeal) (hPre_indices_in_range := hPre_indices_in_range)
    ∧ quiescent_GatherRefIdeal (hGatherRefIdeal := hGatherRefIdeal)
    ∧ quiescent_GatherRefIdeal_pre_indices_in_range (hGatherRefIdeal := hGatherRefIdeal) (hPre_indices_in_range := hPre_indices_in_range)
    ∧ quiescent_GatherRef (hGatherRef := hGatherRef) (hPre_indices_in_range := hPre_indices_in_range)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Gather_GatherIdeal
    ∧ bitexact_Gather_GatherRef (hGather := hGather) (hGatherRef := hGatherRef) (hPre_indices_in_range := hPre_indices_in_range)
    ∧ algebraic_GatherIdeal_GatherRefIdeal (hGatherIdeal := hGatherIdeal) (hGatherRefIdeal := hGatherRefIdeal) (hPre_indices_in_range := hPre_indices_in_range)
    ∧ algebraic_KernelIdeal_ReferenceIdeal_pre_finite (hKernelIdeal := hKernelIdeal) (hReferenceIdeal := hReferenceIdeal) (hPre_finite := hPre_finite)
-- ==== Pre_finite.lean ====
abbrev S18432x64 : Shape := ⟨2, ![18432, 64]⟩
abbrev S1024x64 : Shape := ⟨2, ![1024, 64]⟩
abbrev S_ : Shape := ⟨0, ![]⟩

class Facts : Prop where
  bcast_S_S18432x64 : S_.BroadcastsInDim S18432x64 (![] : Fin 0 → Fin S18432x64.rank)
  reducesTo_S18432x64_S_d0_1 : S18432x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S18432x64 .f32) (main_arg1 : FVec F S1024x64 .f32) : IVec S_ 1 :=
  let main_v0 : FVec F S18432x64 .f32 := Host.absf main_arg0
  let main_cst : FVec F S_ .f32 := constant S_ .f32 0x7F800000#32
  let main_v1 : FVec F S18432x64 .f32 := broadcastInDim S18432x64 ![] bcast_S_S18432x64 main_cst
  let main_v2 : IVec S18432x64 1 := cmpf .olt main_v0 main_v1
  let main_c : IVec S_ 1 := constantI S_ 1 1#1
  let main_v3 : IVec S_ 1 := (fun x v => Host.reduce IntOp.andi x v reducesTo_S18432x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Pre_indices_in_range.lean ====
abbrev S1024x64 : Shape := ⟨2, ![1024, 64]⟩
abbrev S18432 : Shape := ⟨1, ![18432]⟩
abbrev S_ : Shape := ⟨0, ![]⟩

class Facts : Prop where
  bcast_S_S18432 : S_.BroadcastsInDim S18432 (![] : Fin 0 → Fin S18432.rank)

variable [Facts]

def fn {F : FTy → Type} [FloatOps F] (main_arg0 : FVec F S1024x64 .f32) (main_arg1 : IVec S18432 32) : IVec S18432 1 :=
  let main_c : IVec S_ 32 := constantI S_ 32 0#32
  let main_v0 : IVec S18432 32 := broadcastInDim S18432 ![] bcast_S_S18432 main_c
  let main_v1 : IVec S18432 1 := cmpi .sge main_arg1 main_v0
  let main_c_0 : IVec S_ 32 := constantI S_ 32 1024#32
  let main_v2 : IVec S18432 32 := broadcastInDim S18432 ![] bcast_S_S18432 main_c_0
  let main_v3 : IVec S18432 1 := cmpi .slt main_arg1 main_v2
  let main_v4 : IVec S18432 1 := andi main_v1 main_v3
  main_v4
-- ==== Gather.lean ====
abbrev S1024x64 : Shape := ⟨2, ![1024, 64]⟩
abbrev S18432 : Shape := ⟨1, ![18432]⟩
abbrev S_ : Shape := ⟨0, ![]⟩
abbrev S1024x128 : Shape := ⟨2, ![1024, 128]⟩
abbrev S1x18432 : Shape := ⟨2, ![1, 18432]⟩
abbrev S18432x128 : Shape := ⟨2, ![18432, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S18432x64 : Shape := ⟨2, ![18432, 64]⟩

abbrev nBuf : Table → Nat
  | .hbm => 8
  | .local .scVector .vmem => 2
  | _ => 0

abbrev bufTy : (tb : Table) → Fin (nBuf tb) → BufTy
  | .hbm, ⟨0, _⟩ => ⟨S1024x64, .f32⟩
  | .hbm, ⟨1, _⟩ => ⟨S18432, .i32⟩
  | .hbm, ⟨2, _⟩ => ⟨S_, .f32⟩
  | .hbm, ⟨3, _⟩ => ⟨S1024x64, .f32⟩
  | .hbm, ⟨4, _⟩ => ⟨S1024x128, .f32⟩
  | .hbm, ⟨5, _⟩ => ⟨S1x18432, .i32⟩
  | .hbm, ⟨6, _⟩ => ⟨S18432x128, .f32⟩
  | .hbm, ⟨7, _⟩ => ⟨S18432x64, .f32⟩
  | .local .scVector .vmem, ⟨0, _⟩ => ⟨S2x1x256, .i32⟩
  | .local .scVector .vmem, ⟨1, _⟩ => ⟨S2x256x128, .f32⟩
  | _, _ => ⟨S1024x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_57_r0 : BitVec 32 := 2#32
  let v80_r0 : BitVec 32 := Scalar.remui c0_i32_24_r0 c2_i32_57_r0
  let c0_i32_58_r0 : BitVec 32 := 0#32
  let c0_i32_59_r0 : BitVec 32 := 0#32
  ![v80_r0.toNat, 0, 0]
def k0_off2 (i : grid0.Coords) : Fin 2 → Nat :=
  let c0_i32_60_r0 : BitVec 32 := 0#32
  let c256_i32_r0 : BitVec 32 := 256#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v20_r0 : BitVec 32 := Scalar.addi c0_i32_10_r0 v10
  let v81_r0 : BitVec 32 := Scalar.muli c256_i32_r0 v20_r0
  ![0, v81_r0.toNat]
def k0_off3 : Fin 1 → Nat :=
  let c0_i32_24_r0 : BitVec 32 := 0#32
  let c2_i32_57_r0 : BitVec 32 := 2#32
  let v80_r0 : BitVec 32 := Scalar.remui c0_i32_24_r0 c2_i32_57_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off5 (i : grid0.Coords) (arg10_r0 : BitVec 32) : Fin 2 → Nat :=
  let c0_i32_105_r0 : BitVec 32 := 0#32
  let c256_i32_r0 : BitVec 32 := 256#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let v168_r0 : BitVec 32 := Scalar.muli c256_i32_r0 v95_r0
  ![0, v168_r0.toNat]
def k0_off6 (arg6_r0 : BitVec 32) : Fin 1 → Nat :=
  let c2_i32_102_r0 : BitVec 32 := 2#32
  let v167_r0 : BitVec 32 := Scalar.remui arg6_r0 c2_i32_102_r0
  ![v167_r0.toNat]
def k0_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off8 (i : grid0.Coords) (arg10_r0 : BitVec 32) : Fin 2 → Nat :=
  let c0_i32_105_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v167_r0 : BitVec 32 := Scalar.muli c256_i32_r0 v84_r0
  ![0, v167_r0.toNat]
def k0_off9 (arg7_r0 : BitVec 32) : Fin 1 → Nat :=
  let c2_i32_102_r0 : BitVec 32 := 2#32
  let v168_r0 : BitVec 32 := Scalar.remui arg7_r0 c2_i32_102_r0
  ![v168_r0.toNat]
def k0_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x256x128.size a ≤ S2x256x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x256x128.size a ≤ S2x256x128.size a := fun i arg8_r0 k0_hw2 k0_h1 => k0_hw2 k0_h1

def k0_off11 (arg7_r0 : BitVec 32) : Fin 3 → Nat :=
  let c2_i32_84_r0 : BitVec 32 := 2#32
  let v131_r0 : BitVec 32 := Scalar.remui arg7_r0 c2_i32_84_r0
  let c0_i32_104_r1 : BitVec 32 := 0#32
  let c0_i32_105_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x256.size a ≤ S2x1x256.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x256.size a ≤ S2x1x256.size a := fun i arg7_r0 k0_hw3 k0_h1 => k0_hw3 k0_h1

def k0_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k0_off13 (i : grid0.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v168_r0 : BitVec 32 := Scalar.muli c256_i32_r0 v84_r0
  let c0_i32_105_r0 : BitVec 32 := 0#32
  ![v168_r0.toNat, 0]
def k0_off14 (arg8_r0 : BitVec 32) : Fin 1 → Nat :=
  let c2_i32_102_r0 : BitVec 32 := 2#32
  let v167_r0 : BitVec 32 := Scalar.remui arg8_r0 c2_i32_102_r0
  ![v167_r0.toNat]
def k0_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k0_off16 (i : grid0.Coords) (arg10_r0 : BitVec 32) : Fin 2 → Nat :=
  let c256_i32_r0 : BitVec 32 := 256#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v168_r0 : BitVec 32 := Scalar.muli c256_i32_r0 v90_r0
  let c0_i32_105_r0 : BitVec 32 := 0#32
  ![v168_r0.toNat, 0]
def k0_off17 (arg9_r0 : BitVec 32) : Fin 1 → Nat :=
  let c2_i32_102_r0 : BitVec 32 := 2#32
  let v167_r0 : BitVec 32 := Scalar.remui arg9_r0 c2_i32_102_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x256.size a ≤ S2x1x256.size a) ∧
  (∀ (k0_h1 : k0_cond1 i = 1#1), ∀ (k0_h3 : k0_cond3 i k0_t1 arg10_r0 = 1#1), ∀ a, (k0_off5 i arg10_r0) a + S1x256.size a ≤ S1x18432.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x256.size a ≤ S2x1x256.size a) ∧
  (∀ (k0_h1 : k0_cond1 i = 1#1), ∀ (k0_h4 : k0_cond4 i k0_t1 arg10_r0 = 1#1), ∀ a, (k0_off8 i arg10_r0) a + S1x256.size a ≤ S1x18432.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x256x128.size a ≤ S2x256x128.size a) ∧
  (∀ (k0_h1 : k0_cond1 i = 1#1), ∀ (k0_h7 : k0_cond7 i k0_t1 arg10_r0 = 1#1), ∀ a, (k0_off13 i arg10_r0) a + S256x128.size a ≤ S18432x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x256x128.size a ≤ S2x256x128.size a) ∧
  (∀ (k0_h1 : k0_cond1 i = 1#1), ∀ (k0_h9 : k0_cond9 i k0_t1 arg10_r0 = 1#1), ∀ a, (k0_off16 i arg10_r0) a + S256x128.size a ≤ S18432x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x256.size a ≤ S2x1x256.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x256.size a ≤ S1x18432.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x256.size a ≤ S2x1x256.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x256.size a ≤ S1x18432.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x256x128.size a ≤ S2x256x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S256x128.size a ≤ S18432x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x256x128.size a ≤ S2x256x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S256x128.size a ≤ S18432x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off19 (i : grid0.Coords) (arg10_r0 : BitVec 32) : Fin 2 → Nat :=
  let c0_i32_105_r0 : BitVec 32 := 0#32
  let c256_i32_r0 : BitVec 32 := 256#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let v168_r0 : BitVec 32 := Scalar.muli c256_i32_r0 v95_r0
  ![0, v168_r0.toNat]
def k0_off20 (arg6_r0 : BitVec 32) : Fin 1 → Nat :=
  let c2_i32_102_r0 : BitVec 32 := 2#32
  let v167_r0 : BitVec 32 := Scalar.remui arg6_r0 c2_i32_102_r0
  ![v167_r0.toNat]
def k0_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off22 (i : grid0.Coords) (arg10_r0 : BitVec 32) : Fin 2 → Nat :=
  let c0_i32_105_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v167_r0 : BitVec 32 := Scalar.muli c256_i32_r0 v84_r0
  ![0, v167_r0.toNat]
def k0_off23 (arg7_r0 : BitVec 32) : Fin 1 → Nat :=
  let c2_i32_102_r0 : BitVec 32 := 2#32
  let v168_r0 : BitVec 32 := Scalar.remui arg7_r0 c2_i32_102_r0
  ![v168_r0.toNat]
def k0_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x256x128.size a ≤ S2x256x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x256x128.size a ≤ S2x256x128.size a := fun i k0_t2 arg8_r0 k0_hw5 k0_h1 => k0_hw5 k0_h1

def k0_off25 (arg7_r0 : BitVec 32) : Fin 3 → Nat :=
  let c2_i32_84_r0 : BitVec 32 := 2#32
  let v131_r0 : BitVec 32 := Scalar.remui arg7_r0 c2_i32_84_r0
  let c0_i32_104_r2 : BitVec 32 := 0#32
  let c0_i32_105_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x256.size a ≤ S2x1x256.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x256.size a ≤ S2x1x256.size a := fun i k0_t2 arg7_r0 k0_hw6 k0_h1 => k0_hw6 k0_h1

def k0_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k0_off27 (i : grid0.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v168_r0 : BitVec 32 := Scalar.muli c256_i32_r0 v84_r0
  let c0_i32_105_r0 : BitVec 32 := 0#32
  ![v168_r0.toNat, 0]
def k0_off28 (arg8_r0 : BitVec 32) : Fin 1 → Nat :=
  let c2_i32_102_r0 : BitVec 32 := 2#32
  let v167_r0 : BitVec 32 := Scalar.remui arg8_r0 c2_i32_102_r0
  ![v167_r0.toNat]
def k0_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k0_off30 (i : grid0.Coords) (arg10_r0 : BitVec 32) : Fin 2 → Nat :=
  let c256_i32_r0 : BitVec 32 := 256#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v168_r0 : BitVec 32 := Scalar.muli c256_i32_r0 v90_r0
  let c0_i32_105_r0 : BitVec 32 := 0#32
  ![v168_r0.toNat, 0]
def k0_off31 (arg9_r0 : BitVec 32) : Fin 1 → Nat :=
  let c2_i32_102_r0 : BitVec 32 := 2#32
  let v167_r0 : BitVec 32 := Scalar.remui arg9_r0 c2_i32_102_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x256.size a ≤ S2x1x256.size a) ∧
  (∀ (k0_h1 : k0_cond1 i = 1#1), ∀ (k0_h10 : k0_cond10 i k0_t2 arg10_r0 = 1#1), ∀ a, (k0_off19 i arg10_r0) a + S1x256.size a ≤ S1x18432.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x256.size a ≤ S2x1x256.size a) ∧
  (∀ (k0_h1 : k0_cond1 i = 1#1), ∀ (k0_h11 : k0_cond11 i k0_t2 arg10_r0 = 1#1), ∀ a, (k0_off22 i arg10_r0) a + S1x256.size a ≤ S1x18432.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x256x128.size a ≤ S2x256x128.size a) ∧
  (∀ (k0_h1 : k0_cond1 i = 1#1), ∀ (k0_h14 : k0_cond14 i k0_t2 arg10_r0 = 1#1), ∀ a, (k0_off27 i arg10_r0) a + S256x128.size a ≤ S18432x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x256x128.size a ≤ S2x256x128.size a) ∧
  (∀ (k0_h1 : k0_cond1 i = 1#1), ∀ (k0_h16 : k0_cond16 i k0_t2 arg10_r0 = 1#1), ∀ a, (k0_off30 i arg10_r0) a + S256x128.size a ≤ S18432x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x256.size a ≤ S2x1x256.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x256.size a ≤ S1x18432.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x256.size a ≤ S2x1x256.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x256.size a ≤ S1x18432.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x256x128.size a ≤ S2x256x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S256x128.size a ≤ S18432x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x256x128.size a ≤ S2x256x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S256x128.size a ≤ S18432x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_57_r0 : BitVec 32 := 2#32
  let v80_r0 : BitVec 32 := Scalar.remui v48_3_r0 c2_i32_57_r0
  let c0_i32_58_r0 : BitVec 32 := 0#32
  let c0_i32_59_r0 : BitVec 32 := 0#32
  ![v80_r0.toNat, 0, 0]

def k0_off33 (i : grid0.Coords) (v48_4_r0 : BitVec 32) : Fin 2 → Nat :=
  let c256_i32_r0 : BitVec 32 := 256#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let c1_i32_40_r0 : BitVec 32 := 1#32
  let v52_r0 : BitVec 32 := Scalar.subi v5 c1_i32_40_r0
  let v53_r0 : BitVec 32 := Scalar.select v51_r0 v52_r0 v50_r0
  let c8_i32_0 : BitVec 32 := 8#32
  let v6 : BitVec 1 := Scalar.cmpi .slt v3 c8_i32_0
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v59_r0 : BitVec 32 := Scalar.addi v53_r0 v10
  let v81_r0 : BitVec 32 := Scalar.muli c256_i32_r0 v59_r0
  let c0_i32_60_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S256x128.size a ≤ S18432x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S256x128.size a ≤ S18432x128.size a := fun i v48_4_r0 k0_hw8 k0_h1 k0_h18 => k0_hw8 k0_h1 k0_h18

def k0_off34 (v48_3_r0 : BitVec 32) : Fin 1 → Nat :=
  let c2_i32_57_r0 : BitVec 32 := 2#32
  let v80_r0 : BitVec 32 := Scalar.remui v48_3_r0 c2_i32_57_r0
  ![v80_r0.toNat]
def k0_off35 (v48_3_r0 : BitVec 32) : Fin 3 → Nat :=
  let c2_i32_57_r0 : BitVec 32 := 2#32
  let v80_r0 : BitVec 32 := Scalar.remui v48_3_r0 c2_i32_57_r0
  let c0_i32_62_r0 : BitVec 32 := 0#32
  let c0_i32_63_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x256x128.size a ≤ S2x256x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x256x128.size a ≤ S2x256x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x256x128.size a ≤ S2x256x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x256x128.size a ≤ S2x256x128.size a := fun i v48_3_r0 k0_hw7 k0_h1 k0_h18 => k0_hw7.2.2 k0_h1 k0_h18

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRef.lean ====
abbrev S1024x64 : Shape := ⟨2, ![1024, 64]⟩
abbrev S18432 : Shape := ⟨1, ![18432]⟩
abbrev S_ : Shape := ⟨0, ![]⟩
abbrev S18432x1 : Shape := ⟨2, ![18432, 1]⟩
abbrev S1 : Shape := ⟨1, ![1]⟩
abbrev S1x1 : Shape := ⟨2, ![1, 1]⟩
abbrev S18432x64 : Shape := ⟨2, ![18432, 64]⟩

abbrev nBuf : Space → Nat
  | .hbm => 25
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S18432, .i32⟩
  | .hbm, ⟨2, _⟩ => ⟨S_, .i32⟩
  | .hbm, ⟨3, _⟩ => ⟨S18432, .i32⟩
  | .hbm, ⟨4, _⟩ => ⟨S18432, .i1⟩
  | .hbm, ⟨5, _⟩ => ⟨S_, .i32⟩
  | .hbm, ⟨6, _⟩ => ⟨S18432, .i32⟩
  | .hbm, ⟨7, _⟩ => ⟨S18432, .i32⟩
  | .hbm, ⟨8, _⟩ => ⟨S18432, .i32⟩
  | .hbm, ⟨9, _⟩ => ⟨S18432x1, .i32⟩
  | .hbm, ⟨10, _⟩ => ⟨S1, .i32⟩
  | .hbm, ⟨11, _⟩ => ⟨S_, .i32⟩
  | .hbm, ⟨12, _⟩ => ⟨S18432x1, .i32⟩
  | .hbm, ⟨13, _⟩ => ⟨S18432x1, .i1⟩
  | .hbm, ⟨14, _⟩ => ⟨S1x1, .i32⟩
  | .hbm, ⟨15, _⟩ => ⟨S18432x1, .i32⟩
  | .hbm, ⟨16, _⟩ => ⟨S18432x1, .i1⟩
  | .hbm, ⟨17, _⟩ => ⟨S18432x1, .i1⟩
  | .hbm, ⟨18, _⟩ => ⟨S_, .i1⟩
  | .hbm, ⟨19, _⟩ => ⟨S18432, .i1⟩
  | .hbm, ⟨20, _⟩ => ⟨S18432x64, .f32⟩
  | .hbm, ⟨21, _⟩ => ⟨S18432x64, .i1⟩
  | .hbm, ⟨22, _⟩ => ⟨S_, .f32⟩
  | .hbm, ⟨23, _⟩ => ⟨S18432x64, .f32⟩
  | .hbm, ⟨24, _⟩ => ⟨S18432x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== KernelIdeal.lean ====
abbrev S18432x64 : Shape := ⟨2, ![18432, 64]⟩
abbrev S1024x64 : Shape := ⟨2, ![1024, 64]⟩
abbrev S_ : Shape := ⟨0, ![]⟩
abbrev S18432 : Shape := ⟨1, ![18432]⟩
abbrev S1x18432 : Shape := ⟨2, ![1, 18432]⟩
abbrev S1024 : Shape := ⟨1, ![1024]⟩
abbrev S1024x1 : Shape := ⟨2, ![1024, 1]⟩
abbrev S64x18432 : Shape := ⟨2, ![64, 18432]⟩
abbrev S1024x128 : Shape := ⟨2, ![1024, 128]⟩
abbrev S6x1x3072 : Shape := ⟨3, ![6, 1, 3072]⟩
abbrev S1x1 : Shape := ⟨2, ![1, 1]⟩
abbrev S64x3072 : Shape := ⟨2, ![64, 3072]⟩
abbrev S1x3072 : Shape := ⟨2, ![1, 3072]⟩
abbrev S1x1x3072 : Shape := ⟨3, ![1, 1, 3072]⟩
abbrev S1024x3072 : Shape := ⟨2, ![1024, 3072]⟩
abbrev S8x3072 : Shape := ⟨2, ![8, 3072]⟩
abbrev S4x3072 : Shape := ⟨2, ![4, 3072]⟩
abbrev S2x3072 : Shape := ⟨2, ![2, 3072]⟩
abbrev S1 : Shape := ⟨1, ![1]⟩
abbrev S1x1x1 : Shape := ⟨3, ![1, 1, 1]⟩
abbrev S18432x128 : Shape := ⟨2, ![18432, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1x256x128 : Shape := ⟨3, ![1, 256, 128]⟩
abbrev S256x128 : Shape := ⟨2, ![256, 128]⟩
abbrev S256 : Shape := ⟨1, ![256]⟩

abbrev nBuf : Table → Nat
  | .hbm => 26
  | .local .tc .vmem => 9
  | .local .scVector .vmem => 2
  | _ => 0

abbrev bufTy : (tb : Table) → Fin (nBuf tb) → BufTy
  | .hbm, ⟨0, _⟩ => ⟨S18432x64, .f32⟩
  | .hbm, ⟨1, _⟩ => ⟨S1024x64, .f32⟩
  | .hbm, ⟨2, _⟩ => ⟨S18432x64, .f32⟩
  | .hbm, ⟨3, _⟩ => ⟨S_, .f32⟩
  | .hbm, ⟨4, _⟩ => ⟨S18432, .f32⟩
  | .hbm, ⟨5, _⟩ => ⟨S1x18432, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S64x18432, .f32⟩
  | .hbm, ⟨11, _⟩ => ⟨S_, .f32⟩
  | .hbm, ⟨12, _⟩ => ⟨S1024x64, .f32⟩
  | .hbm, ⟨13, _⟩ => ⟨S1024x64, .f32⟩
  | .hbm, ⟨14, _⟩ => ⟨S_, .f32⟩
  | .hbm, ⟨15, _⟩ => ⟨S1024x64, .f32⟩
  | .hbm, ⟨16, _⟩ => ⟨S1024x128, .f32⟩
  | .hbm, ⟨17, _⟩ => ⟨S6x1x3072, .i32⟩
  | .hbm, ⟨18, _⟩ => ⟨S1x1, .f32⟩
  | .hbm, ⟨19, _⟩ => ⟨S18432, .i32⟩
  | .hbm, ⟨20, _⟩ => ⟨S1x18432, .i32⟩
  | .hbm, ⟨21, _⟩ => ⟨S18432x128, .f32⟩
  | .hbm, ⟨22, _⟩ => ⟨S18432x64, .f32⟩
  | .hbm, ⟨23, _⟩ => ⟨S_, .f32⟩
  | .hbm, ⟨24, _⟩ => ⟨S_, .f32⟩
  | .hbm, ⟨25, _⟩ => ⟨S_, .f32⟩
  | .local .tc .vmem, ⟨0, _⟩ => ⟨S1024x64, .f32⟩
  | .local .tc .vmem, ⟨1, _⟩ => ⟨S64x3072, .f32⟩
  | .local .tc .vmem, ⟨2, _⟩ => ⟨S64x3072, .f32⟩
  | .local .tc .vmem, ⟨3, _⟩ => ⟨S1x3072, .f32⟩
  | .local .tc .vmem, ⟨4, _⟩ => ⟨S1x3072, .f32⟩
  | .local .tc .vmem, ⟨5, _⟩ => ⟨S1024x1, .f32⟩
  | .local .tc .vmem, ⟨6, _⟩ => ⟨S1x1x3072, .i32⟩
  | .local .tc .vmem, ⟨7, _⟩ => ⟨S1x1x3072, .i32⟩
  | .local .tc .vmem, ⟨8, _⟩ => ⟨S1x1, .f32⟩
  | .local .scVector .vmem, ⟨0, _⟩ => ⟨S2x1x256, .i32⟩
  | .local .scVector .vmem, ⟨1, _⟩ => ⟨S2x256x128, .f32⟩
  | _, _ => ⟨S18432x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v10_scv : Ref sig .scVector := ⟨.hbm, 16, rfl⟩
abbrev main_v13_scv : Ref sig .scVector := ⟨.hbm, 20, rfl⟩
abbrev main_v14_scv : Ref sig .scVector := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v2097 : BitVec 1 := Scalar.cmpi .eq arg0 c0_i32
  let v2098 : BitVec 32 := Scalar.extui v2097
  let c0_i32_527 : BitVec 32 := 0#32
  let v2099 : BitVec 1 := Scalar.cmpi .ne v2098 c0_i32_527
  v2099

def k0_cond2 (i : grid0.Coords) : BitVec 1 :=
  let arg0 : BitVec 32 := BitVec.ofNat 32 (i 0).val
  let c0_i32_528 : BitVec 32 := 0#32
  let v2100 : BitVec 1 := Scalar.cmpi .sgt arg0 c0_i32_528
  let v2101 : BitVec 32 := Scalar.extui v2100
  let c0_i32_529 : BitVec 32 := 0#32
  let v2102 : BitVec 1 := Scalar.cmpi .ne v2101 c0_i32_529
  v2102

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x3072 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_cond1 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k1_cond2 (i : grid1.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k1_off1 : Fin 3 → Nat :=
  let c0_i32_24_r0 : BitVec 32 := 0#32
  let c2_i32_57_r0 : BitVec 32 := 2#32
  let v80_r0 : BitVec 32 := Scalar.remui c0_i32_24_r0 c2_i32_57_r0
  let c0_i32_58_r0 : BitVec 32 := 0#32
  let c0_i32_59_r0 : BitVec 32 := 0#32
  ![v80_r0.toNat, 0, 0]
def k1_off2 (i : grid1.Coords) : Fin 2 → Nat :=
  let c0_i32_60_r0 : BitVec 32 := 0#32
  let c256_i32_r0 : BitVec 32 := 256#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v20_r0 : BitVec 32 := Scalar.addi c0_i32_10_r0 v10
  let v81_r0 : BitVec 32 := Scalar.muli c256_i32_r0 v20_r0
  ![0, v81_r0.toNat]
def k1_off3 : Fin 1 → Nat :=
  let c0_i32_24_r0 : BitVec 32 := 0#32
  let c2_i32_57_r0 : BitVec 32 := 2#32
  let v80_r0 : BitVec 32 := Scalar.remui c0_i32_24_r0 c2_i32_57_r0
  ![v80_r0.toNat]
@[reducible] def k1_t1_loop (i : grid1.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k1_off4 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k1_cond3 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k1_t1
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k1_off5 (i : grid1.Coords) (arg10_r0 : BitVec 32) : Fin 2 → Nat :=
  let c0_i32_105_r0 : BitVec 32 := 0#32
  let c256_i32_r0 : BitVec 32 := 256#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let v168_r0 : BitVec 32 := Scalar.muli c256_i32_r0 v95_r0
  ![0, v168_r0.toNat]
def k1_off6 (arg6_r0 : BitVec 32) : Fin 1 → Nat :=
  let c2_i32_102_r0 : BitVec 32 := 2#32
  let v167_r0 : BitVec 32 := Scalar.remui arg6_r0 c2_i32_102_r0
  ![v167_r0.toNat]
def k1_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k1_cond4 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k1_t1
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k1_off8 (i : grid1.Coords) (arg10_r0 : BitVec 32) : Fin 2 → Nat :=
  let c0_i32_105_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v167_r0 : BitVec 32 := Scalar.muli c256_i32_r0 v84_r0
  ![0, v167_r0.toNat]
def k1_off9 (arg7_r0 : BitVec 32) : Fin 1 → Nat :=
  let c2_i32_102_r0 : BitVec 32 := 2#32
  let v168_r0 : BitVec 32 := Scalar.remui arg7_r0 c2_i32_102_r0
  ![v168_r0.toNat]
def k1_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k1_chk2 (i : grid1.Coords) (arg8_r0 : BitVec 32) : Prop :=
  (∀ (k1_h1 : k1_cond1 i = 1#1), ∀ a, (k1_off10 arg8_r0) a + S1x256x128.size a ≤ S2x256x128.size a)
theorem k1_off10_inb : ∀ (i : grid1.Coords) (arg8_r0 : BitVec 32) (k1_hw2 : k1_chk2 i arg8_r0), ∀ (k1_h1 : k1_cond1 i = 1#1), ∀ a, (k1_off10 arg8_r0) a + S1x256x128.size a ≤ S2x256x128.size a := fun i arg8_r0 k1_hw2 k1_h1 => k1_hw2 k1_h1

def k1_off11 (arg7_r0 : BitVec 32) : Fin 3 → Nat :=
  let c2_i32_84_r0 : BitVec 32 := 2#32
  let v131_r0 : BitVec 32 := Scalar.remui arg7_r0 c2_i32_84_r0
  let c0_i32_104_r1 : BitVec 32 := 0#32
  let c0_i32_105_r1 : BitVec 32 := 0#32
  ![v131_r0.toNat, 0, 0]

def k1_chk3 (i : grid1.Coords) (arg7_r0 : BitVec 32) : Prop :=
  (∀ (k1_h1 : k1_cond1 i = 1#1), ∀ a, (k1_off11 arg7_r0) a + S1x1x256.size a ≤ S2x1x256.size a)
theorem k1_off11_inb : ∀ (i : grid1.Coords) (arg7_r0 : BitVec 32) (k1_hw3 : k1_chk3 i arg7_r0), ∀ (k1_h1 : k1_cond1 i = 1#1), ∀ a, (k1_off11 arg7_r0) a + S1x1x256.size a ≤ S2x1x256.size a := fun i arg7_r0 k1_hw3 k1_h1 => k1_hw3 k1_h1

def k1_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k1_cond7 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k1_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k1_off13 (i : grid1.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v168_r0 : BitVec 32 := Scalar.muli c256_i32_r0 v84_r0
  let c0_i32_105_r0 : BitVec 32 := 0#32
  ![v168_r0.toNat, 0]
def k1_off14 (arg8_r0 : BitVec 32) : Fin 1 → Nat :=
  let c2_i32_102_r0 : BitVec 32 := 2#32
  let v167_r0 : BitVec 32 := Scalar.remui arg8_r0 c2_i32_102_r0
  ![v167_r0.toNat]
def k1_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k1_cond9 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k1_t1
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k1_off16 (i : grid1.Coords) (arg10_r0 : BitVec 32) : Fin 2 → Nat :=
  let c256_i32_r0 : BitVec 32 := 256#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v168_r0 : BitVec 32 := Scalar.muli c256_i32_r0 v90_r0
  let c0_i32_105_r0 : BitVec 32 := 0#32
  ![v168_r0.toNat, 0]
def k1_off17 (arg9_r0 : BitVec 32) : Fin 1 → Nat :=
  let c2_i32_102_r0 : BitVec 32 := 2#32
  let v167_r0 : BitVec 32 := Scalar.remui arg9_r0 c2_i32_102_r0
  ![v167_r0.toNat]

def k1_chk1 (i : grid1.Coords) (k1_t1 : Fin (k1_t1_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h3 : k1_cond3 i k1_t1 arg10_r0 = 1#1), ∀ a, (k1_off4 arg6_r0) a + S1x1x256.size a ≤ S2x1x256.size a) ∧
  (∀ (k1_h1 : k1_cond1 i = 1#1), ∀ (k1_h3 : k1_cond3 i k1_t1 arg10_r0 = 1#1), ∀ a, (k1_off5 i arg10_r0) a + S1x256.size a ≤ S1x18432.size a) ∧
  (∀ (k1_h1 : k1_cond1 i = 1#1), ∀ (k1_h3 : k1_cond3 i k1_t1 arg10_r0 = 1#1), ∀ a, (k1_off6 arg6_r0) a + S1.size a ≤ S2.size a) ∧
  (∀ (k1_h1 : k1_cond1 i = 1#1), ∀ (k1_h4 : k1_cond4 i k1_t1 arg10_r0 = 1#1), ∀ a, (k1_off7 arg7_r0) a + S1x1x256.size a ≤ S2x1x256.size a) ∧
  (∀ (k1_h1 : k1_cond1 i = 1#1), ∀ (k1_h4 : k1_cond4 i k1_t1 arg10_r0 = 1#1), ∀ a, (k1_off8 i arg10_r0) a + S1x256.size a ≤ S1x18432.size a) ∧
  (∀ (k1_h1 : k1_cond1 i = 1#1), ∀ (k1_h4 : k1_cond4 i k1_t1 arg10_r0 = 1#1), ∀ a, (k1_off9 arg7_r0) a + S1.size a ≤ S2.size a) ∧
  (∀ (k1_h1 : k1_cond1 i = 1#1), ∀ (k1_h7 : k1_cond7 i k1_t1 arg10_r0 = 1#1), ∀ a, (k1_off12 arg8_r0) a + S1x256x128.size a ≤ S2x256x128.size a) ∧
  (∀ (k1_h1 : k1_cond1 i = 1#1), ∀ (k1_h7 : k1_cond7 i k1_t1 arg10_r0 = 1#1), ∀ a, (k1_off13 i arg10_r0) a + S256x128.size a ≤ S18432x128.size a) ∧
  (∀ (k1_h1 : k1_cond1 i = 1#1), ∀ (k1_h7 : k1_cond7 i k1_t1 arg10_r0 = 1#1), ∀ a, (k1_off14 arg8_r0) a + S1.size a ≤ S2.size a) ∧
  (∀ (k1_h1 : k1_cond1 i = 1#1), ∀ (k1_h9 : k1_cond9 i k1_t1 arg10_r0 = 1#1), ∀ a, (k1_off15 arg9_r0) a + S1x256x128.size a ≤ S2x256x128.size a) ∧
  (∀ (k1_h1 : k1_cond1 i = 1#1), ∀ (k1_h9 : k1_cond9 i k1_t1 arg10_r0 = 1#1), ∀ a, (k1_off16 i arg10_r0) a + S256x128.size a ≤ S18432x128.size a) ∧
  (∀ (k1_h1 : k1_cond1 i = 1#1), ∀ (k1_h9 : k1_cond9 i k1_t1 arg10_r0 = 1#1), ∀ a, (k1_off17 arg9_r0) a + S1.size a ≤ S2.size a)
theorem k1_off4_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off4 arg6_r0) a + S1x1x256.size a ≤ S2x1x256.size a := fun i k1_t1 arg6_r0 arg7_r0 arg8_r0 arg9_r0 arg10_r0 k1_hw1 k1_h1 k1_h3 => k1_hw1.1 k1_h1 k1_h3
theorem k1_off5_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off5 i arg10_r0) a + S1x256.size a ≤ S1x18432.size a := fun i k1_t1 arg6_r0 arg7_r0 arg8_r0 arg9_r0 arg10_r0 k1_hw1 k1_h1 k1_h3 => k1_hw1.2.1 k1_h1 k1_h3
theorem k1_off6_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off6 arg6_r0) a + S1.size a ≤ S2.size a := fun i k1_t1 arg6_r0 arg7_r0 arg8_r0 arg9_r0 arg10_r0 k1_hw1 k1_h1 k1_h3 => k1_hw1.2.2.1 k1_h1 k1_h3
theorem k1_off7_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off7 arg7_r0) a + S1x1x256.size a ≤ S2x1x256.size a := fun i k1_t1 arg6_r0 arg7_r0 arg8_r0 arg9_r0 arg10_r0 k1_hw1 k1_h1 k1_h4 => k1_hw1.2.2.2.1 k1_h1 k1_h4
theorem k1_off8_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off8 i arg10_r0) a + S1x256.size a ≤ S1x18432.size a := fun i k1_t1 arg6_r0 arg7_r0 arg8_r0 arg9_r0 arg10_r0 k1_hw1 k1_h1 k1_h4 => k1_hw1.2.2.2.2.1 k1_h1 k1_h4
theorem k1_off9_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off9 arg7_r0) a + S1.size a ≤ S2.size a := fun i k1_t1 arg6_r0 arg7_r0 arg8_r0 arg9_r0 arg10_r0 k1_hw1 k1_h1 k1_h4 => k1_hw1.2.2.2.2.2.1 k1_h1 k1_h4
theorem k1_off12_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off12 arg8_r0) a + S1x256x128.size a ≤ S2x256x128.size a := fun i k1_t1 arg6_r0 arg7_r0 arg8_r0 arg9_r0 arg10_r0 k1_hw1 k1_h1 k1_h7 => k1_hw1.2.2.2.2.2.2.1 k1_h1 k1_h7
theorem k1_off13_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off13 i arg10_r0) a + S256x128.size a ≤ S18432x128.size a := fun i k1_t1 arg6_r0 arg7_r0 arg8_r0 arg9_r0 arg10_r0 k1_hw1 k1_h1 k1_h7 => k1_hw1.2.2.2.2.2.2.2.1 k1_h1 k1_h7
theorem k1_off14_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off14 arg8_r0) a + S1.size a ≤ S2.size a := fun i k1_t1 arg6_r0 arg7_r0 arg8_r0 arg9_r0 arg10_r0 k1_hw1 k1_h1 k1_h7 => k1_hw1.2.2.2.2.2.2.2.2.1 k1_h1 k1_h7
theorem k1_off15_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off15 arg9_r0) a + S1x256x128.size a ≤ S2x256x128.size a := fun i k1_t1 arg6_r0 arg7_r0 arg8_r0 arg9_r0 arg10_r0 k1_hw1 k1_h1 k1_h9 => k1_hw1.2.2.2.2.2.2.2.2.2.1 k1_h1 k1_h9
theorem k1_off16_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off16 i arg10_r0) a + S256x128.size a ≤ S18432x128.size a := fun i k1_t1 arg6_r0 arg7_r0 arg8_r0 arg9_r0 arg10_r0 k1_hw1 k1_h1 k1_h9 => k1_hw1.2.2.2.2.2.2.2.2.2.2.1 k1_h1 k1_h9
theorem k1_off17_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off17 arg9_r0) a + S1.size a ≤ S2.size a := fun i k1_t1 arg6_r0 arg7_r0 arg8_r0 arg9_r0 arg10_r0 k1_hw1 k1_h1 k1_h9 => k1_hw1.2.2.2.2.2.2.2.2.2.2.2 k1_h1 k1_h9

@[reducible] def k1_t2_loop (i : grid1.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k1_off18 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k1_cond10 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k1_t2
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k1_off19 (i : grid1.Coords) (arg10_r0 : BitVec 32) : Fin 2 → Nat :=
  let c0_i32_105_r0 : BitVec 32 := 0#32
  let c256_i32_r0 : BitVec 32 := 256#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let v168_r0 : BitVec 32 := Scalar.muli c256_i32_r0 v95_r0
  ![0, v168_r0.toNat]
def k1_off20 (arg6_r0 : BitVec 32) : Fin 1 → Nat :=
  let c2_i32_102_r0 : BitVec 32 := 2#32
  let v167_r0 : BitVec 32 := Scalar.remui arg6_r0 c2_i32_102_r0
  ![v167_r0.toNat]
def k1_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k1_cond11 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k1_t2
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k1_off22 (i : grid1.Coords) (arg10_r0 : BitVec 32) : Fin 2 → Nat :=
  let c0_i32_105_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v167_r0 : BitVec 32 := Scalar.muli c256_i32_r0 v84_r0
  ![0, v167_r0.toNat]
def k1_off23 (arg7_r0 : BitVec 32) : Fin 1 → Nat :=
  let c2_i32_102_r0 : BitVec 32 := 2#32
  let v168_r0 : BitVec 32 := Scalar.remui arg7_r0 c2_i32_102_r0
  ![v168_r0.toNat]
def k1_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k1_chk5 (i : grid1.Coords) (k1_t2 : Fin (k1_t2_loop i).trips) (arg8_r0 : BitVec 32) : Prop :=
  (∀ (k1_h1 : k1_cond1 i = 1#1), ∀ a, (k1_off24 arg8_r0) a + S1x256x128.size a ≤ S2x256x128.size a)
theorem k1_off24_inb : ∀ (i : grid1.Coords) (k1_t2 : Fin (k1_t2_loop i).trips) (arg8_r0 : BitVec 32) (k1_hw5 : k1_chk5 i k1_t2 arg8_r0), ∀ (k1_h1 : k1_cond1 i = 1#1), ∀ a, (k1_off24 arg8_r0) a + S1x256x128.size a ≤ S2x256x128.size a := fun i k1_t2 arg8_r0 k1_hw5 k1_h1 => k1_hw5 k1_h1

def k1_off25 (arg7_r0 : BitVec 32) : Fin 3 → Nat :=
  let c2_i32_84_r0 : BitVec 32 := 2#32
  let v131_r0 : BitVec 32 := Scalar.remui arg7_r0 c2_i32_84_r0
  let c0_i32_104_r2 : BitVec 32 := 0#32
  let c0_i32_105_r2 : BitVec 32 := 0#32
  ![v131_r0.toNat, 0, 0]

def k1_chk6 (i : grid1.Coords) (k1_t2 : Fin (k1_t2_loop i).trips) (arg7_r0 : BitVec 32) : Prop :=
  (∀ (k1_h1 : k1_cond1 i = 1#1), ∀ a, (k1_off25 arg7_r0) a + S1x1x256.size a ≤ S2x1x256.size a)
theorem k1_off25_inb : ∀ (i : grid1.Coords) (k1_t2 : Fin (k1_t2_loop i).trips) (arg7_r0 : BitVec 32) (k1_hw6 : k1_chk6 i k1_t2 arg7_r0), ∀ (k1_h1 : k1_cond1 i = 1#1), ∀ a, (k1_off25 arg7_r0) a + S1x1x256.size a ≤ S2x1x256.size a := fun i k1_t2 arg7_r0 k1_hw6 k1_h1 => k1_hw6 k1_h1

def k1_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k1_cond14 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k1_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k1_off27 (i : grid1.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v168_r0 : BitVec 32 := Scalar.muli c256_i32_r0 v84_r0
  let c0_i32_105_r0 : BitVec 32 := 0#32
  ![v168_r0.toNat, 0]
def k1_off28 (arg8_r0 : BitVec 32) : Fin 1 → Nat :=
  let c2_i32_102_r0 : BitVec 32 := 2#32
  let v167_r0 : BitVec 32 := Scalar.remui arg8_r0 c2_i32_102_r0
  ![v167_r0.toNat]
def k1_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k1_cond16 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k1_t2
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k1_off30 (i : grid1.Coords) (arg10_r0 : BitVec 32) : Fin 2 → Nat :=
  let c256_i32_r0 : BitVec 32 := 256#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v168_r0 : BitVec 32 := Scalar.muli c256_i32_r0 v90_r0
  let c0_i32_105_r0 : BitVec 32 := 0#32
  ![v168_r0.toNat, 0]
def k1_off31 (arg9_r0 : BitVec 32) : Fin 1 → Nat :=
  let c2_i32_102_r0 : BitVec 32 := 2#32
  let v167_r0 : BitVec 32 := Scalar.remui arg9_r0 c2_i32_102_r0
  ![v167_r0.toNat]

def k1_chk4 (i : grid1.Coords) (k1_t2 : Fin (k1_t2_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h10 : k1_cond10 i k1_t2 arg10_r0 = 1#1), ∀ a, (k1_off18 arg6_r0) a + S1x1x256.size a ≤ S2x1x256.size a) ∧
  (∀ (k1_h1 : k1_cond1 i = 1#1), ∀ (k1_h10 : k1_cond10 i k1_t2 arg10_r0 = 1#1), ∀ a, (k1_off19 i arg10_r0) a + S1x256.size a ≤ S1x18432.size a) ∧
  (∀ (k1_h1 : k1_cond1 i = 1#1), ∀ (k1_h10 : k1_cond10 i k1_t2 arg10_r0 = 1#1), ∀ a, (k1_off20 arg6_r0) a + S1.size a ≤ S2.size a) ∧
  (∀ (k1_h1 : k1_cond1 i = 1#1), ∀ (k1_h11 : k1_cond11 i k1_t2 arg10_r0 = 1#1), ∀ a, (k1_off21 arg7_r0) a + S1x1x256.size a ≤ S2x1x256.size a) ∧
  (∀ (k1_h1 : k1_cond1 i = 1#1), ∀ (k1_h11 : k1_cond11 i k1_t2 arg10_r0 = 1#1), ∀ a, (k1_off22 i arg10_r0) a + S1x256.size a ≤ S1x18432.size a) ∧
  (∀ (k1_h1 : k1_cond1 i = 1#1), ∀ (k1_h11 : k1_cond11 i k1_t2 arg10_r0 = 1#1), ∀ a, (k1_off23 arg7_r0) a + S1.size a ≤ S2.size a) ∧
  (∀ (k1_h1 : k1_cond1 i = 1#1), ∀ (k1_h14 : k1_cond14 i k1_t2 arg10_r0 = 1#1), ∀ a, (k1_off26 arg8_r0) a + S1x256x128.size a ≤ S2x256x128.size a) ∧
  (∀ (k1_h1 : k1_cond1 i = 1#1), ∀ (k1_h14 : k1_cond14 i k1_t2 arg10_r0 = 1#1), ∀ a, (k1_off27 i arg10_r0) a + S256x128.size a ≤ S18432x128.size a) ∧
  (∀ (k1_h1 : k1_cond1 i = 1#1), ∀ (k1_h14 : k1_cond14 i k1_t2 arg10_r0 = 1#1), ∀ a, (k1_off28 arg8_r0) a + S1.size a ≤ S2.size a) ∧
  (∀ (k1_h1 : k1_cond1 i = 1#1), ∀ (k1_h16 : k1_cond16 i k1_t2 arg10_r0 = 1#1), ∀ a, (k1_off29 arg9_r0) a + S1x256x128.size a ≤ S2x256x128.size a) ∧
  (∀ (k1_h1 : k1_cond1 i = 1#1), ∀ (k1_h16 : k1_cond16 i k1_t2 arg10_r0 = 1#1), ∀ a, (k1_off30 i arg10_r0) a + S256x128.size a ≤ S18432x128.size a) ∧
  (∀ (k1_h1 : k1_cond1 i = 1#1), ∀ (k1_h16 : k1_cond16 i k1_t2 arg10_r0 = 1#1), ∀ a, (k1_off31 arg9_r0) a + S1.size a ≤ S2.size a)
theorem k1_off18_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off18 arg6_r0) a + S1x1x256.size a ≤ S2x1x256.size a := fun i k1_t2 arg6_r0 arg7_r0 arg8_r0 arg9_r0 arg10_r0 k1_hw4 k1_h1 k1_h10 => k1_hw4.1 k1_h1 k1_h10
theorem k1_off19_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off19 i arg10_r0) a + S1x256.size a ≤ S1x18432.size a := fun i k1_t2 arg6_r0 arg7_r0 arg8_r0 arg9_r0 arg10_r0 k1_hw4 k1_h1 k1_h10 => k1_hw4.2.1 k1_h1 k1_h10
theorem k1_off20_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off20 arg6_r0) a + S1.size a ≤ S2.size a := fun i k1_t2 arg6_r0 arg7_r0 arg8_r0 arg9_r0 arg10_r0 k1_hw4 k1_h1 k1_h10 => k1_hw4.2.2.1 k1_h1 k1_h10
theorem k1_off21_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off21 arg7_r0) a + S1x1x256.size a ≤ S2x1x256.size a := fun i k1_t2 arg6_r0 arg7_r0 arg8_r0 arg9_r0 arg10_r0 k1_hw4 k1_h1 k1_h11 => k1_hw4.2.2.2.1 k1_h1 k1_h11
theorem k1_off22_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off22 i arg10_r0) a + S1x256.size a ≤ S1x18432.size a := fun i k1_t2 arg6_r0 arg7_r0 arg8_r0 arg9_r0 arg10_r0 k1_hw4 k1_h1 k1_h11 => k1_hw4.2.2.2.2.1 k1_h1 k1_h11
theorem k1_off23_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off23 arg7_r0) a + S1.size a ≤ S2.size a := fun i k1_t2 arg6_r0 arg7_r0 arg8_r0 arg9_r0 arg10_r0 k1_hw4 k1_h1 k1_h11 => k1_hw4.2.2.2.2.2.1 k1_h1 k1_h11
theorem k1_off26_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off26 arg8_r0) a + S1x256x128.size a ≤ S2x256x128.size a := fun i k1_t2 arg6_r0 arg7_r0 arg8_r0 arg9_r0 arg10_r0 k1_hw4 k1_h1 k1_h14 => k1_hw4.2.2.2.2.2.2.1 k1_h1 k1_h14
theorem k1_off27_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off27 i arg10_r0) a + S256x128.size a ≤ S18432x128.size a := fun i k1_t2 arg6_r0 arg7_r0 arg8_r0 arg9_r0 arg10_r0 k1_hw4 k1_h1 k1_h14 => k1_hw4.2.2.2.2.2.2.2.1 k1_h1 k1_h14
theorem k1_off28_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off28 arg8_r0) a + S1.size a ≤ S2.size a := fun i k1_t2 arg6_r0 arg7_r0 arg8_r0 arg9_r0 arg10_r0 k1_hw4 k1_h1 k1_h14 => k1_hw4.2.2.2.2.2.2.2.2.1 k1_h1 k1_h14
theorem k1_off29_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off29 arg9_r0) a + S1x256x128.size a ≤ S2x256x128.size a := fun i k1_t2 arg6_r0 arg7_r0 arg8_r0 arg9_r0 arg10_r0 k1_hw4 k1_h1 k1_h16 => k1_hw4.2.2.2.2.2.2.2.2.2.1 k1_h1 k1_h16
theorem k1_off30_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off30 i arg10_r0) a + S256x128.size a ≤ S18432x128.size a := fun i k1_t2 arg6_r0 arg7_r0 arg8_r0 arg9_r0 arg10_r0 k1_hw4 k1_h1 k1_h16 => k1_hw4.2.2.2.2.2.2.2.2.2.2.1 k1_h1 k1_h16
theorem k1_off31_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off31 arg9_r0) a + S1.size a ≤ S2.size a := fun i k1_t2 arg6_r0 arg7_r0 arg8_r0 arg9_r0 arg10_r0 k1_hw4 k1_h1 k1_h16 => k1_hw4.2.2.2.2.2.2.2.2.2.2.2 k1_h1 k1_h16

def k1_cond18 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k1_off32 (v48_3_r0 : BitVec 32) : Fin 3 → Nat :=
  let c2_i32_57_r0 : BitVec 32 := 2#32
  let v80_r0 : BitVec 32 := Scalar.remui v48_3_r0 c2_i32_57_r0
  let c0_i32_58_r0 : BitVec 32 := 0#32
  let c0_i32_59_r0 : BitVec 32 := 0#32
  ![v80_r0.toNat, 0, 0]

def k1_off33 (i : grid1.Coords) (v48_4_r0 : BitVec 32) : Fin 2 → Nat :=
  let c256_i32_r0 : BitVec 32 := 256#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c3_i32 : BitVec 32 := 3#32
  let c2_i32 : BitVec 32 := 2#32
  let v5 : BitVec 32 := Scalar.select v4 c3_i32 c2_i32
  let c1_i32_40_r0 : BitVec 32 := 1#32
  let v52_r0 : BitVec 32 := Scalar.subi v5 c1_i32_40_r0
  let v53_r0 : BitVec 32 := Scalar.select v51_r0 v52_r0 v50_r0
  let c8_i32_0 : BitVec 32 := 8#32
  let v6 : BitVec 1 := Scalar.cmpi .slt v3 c8_i32_0
  let v7 : BitVec 32 := Scalar.muli v3 v5
  let c2_i32_1 : BitVec 32 := 2#32
  let v8 : BitVec 32 := Scalar.muli v3 c2_i32_1
  let c8_i32_2 : BitVec 32 := 8#32
  let v9 : BitVec 32 := Scalar.addi v8 c8_i32_2
  let v10 : BitVec 32 := Scalar.select v6 v7 v9
  let v59_r0 : BitVec 32 := Scalar.addi v53_r0 v10
  let v81_r0 : BitVec 32 := Scalar.muli c256_i32_r0 v59_r0
  let c0_i32_60_r0 : BitVec 32 := 0#32
  ![v81_r0.toNat, 0]

def k1_chk8 (i : grid1.Coords) (v48_4_r0 : BitVec 32) : Prop :=
  (∀ (k1_h1 : k1_cond1 i = 1#1), ∀ (k1_h18 : k1_cond18 i = 1#1), ∀ a, (k1_off33 i v48_4_r0) a + S256x128.size a ≤ S18432x128.size a)
theorem k1_off33_inb : ∀ (i : grid1.Coords) (v48_4_r0 : BitVec 32) (k1_hw8 : k1_chk8 i v48_4_r0), ∀ (k1_h1 : k1_cond1 i = 1#1), ∀ (k1_h18 : k1_cond18 i = 1#1), ∀ a, (k1_off33 i v48_4_r0) a + S256x128.size a ≤ S18432x128.size a := fun i v48_4_r0 k1_hw8 k1_h1 k1_h18 => k1_hw8 k1_h1 k1_h18

def k1_off34 (v48_3_r0 : BitVec 32) : Fin 1 → Nat :=
  let c2_i32_57_r0 : BitVec 32 := 2#32
  let v80_r0 : BitVec 32 := Scalar.remui v48_3_r0 c2_i32_57_r0
  ![v80_r0.toNat]
def k1_off35 (v48_3_r0 : BitVec 32) : Fin 3 → Nat :=
  let c2_i32_57_r0 : BitVec 32 := 2#32
  let v80_r0 : BitVec 32 := Scalar.remui v48_3_r0 c2_i32_57_r0
  let c0_i32_62_r0 : BitVec 32 := 0#32
  let c0_i32_63_r0 : BitVec 32 := 0#32
  ![v80_r0.toNat, 0, 0]

def k1_chk7 (i : grid1.Coords) (v48_3_r0 : BitVec 32) : Prop :=
  (∀ (k1_h1 : k1_cond1 i = 1#1), ∀ (k1_h18 : k1_cond18 i = 1#1), ∀ a, (k1_off32 v48_3_r0) a + S1x256x128.size a ≤ S2x256x128.size a) ∧
  (∀ (k1_h1 : k1_cond1 i = 1#1), ∀ (k1_h18 : k1_cond18 i = 1#1), ∀ a, (k1_off34 v48_3_r0) a + S1.size a ≤ S2.size a) ∧
  (∀ (k1_h1 : k1_cond1 i = 1#1), ∀ (k1_h18 : k1_cond18 i = 1#1), ∀ a, (k1_off35 v48_3_r0) a + S1x256x128.size a ≤ S2x256x128.size a)
theorem k1_off32_inb : ∀ (i : grid1.Coords) (v48_3_r0 : BitVec 32) (k1_hw7 : k1_chk7 i v48_3_r0), ∀ (k1_h1 : k1_cond1 i = 1#1), ∀ (k1_h18 : k1_cond18 i = 1#1), ∀ a, (k1_off32 v48_3_r0) a + S1x256x128.size a ≤ S2x256x128.size a := fun i v48_3_r0 k1_hw7 k1_h1 k1_h18 => k1_hw7.1 k1_h1 k1_h18
theorem k1_off34_inb : ∀ (i : grid1.Coords) (v48_3_r0 : BitVec 32) (k1_hw7 : k1_chk7 i v48_3_r0), ∀ (k1_h1 : k1_cond1 i = 1#1), ∀ (k1_h18 : k1_cond18 i = 1#1), ∀ a, (k1_off34 v48_3_r0) a + S1.size a ≤ S2.size a := fun i v48_3_r0 k1_hw7 k1_h1 k1_h18 => k1_hw7.2.1 k1_h1 k1_h18
theorem k1_off35_inb : ∀ (i : grid1.Coords) (v48_3_r0 : BitVec 32) (k1_hw7 : k1_chk7 i v48_3_r0), ∀ (k1_h1 : k1_cond1 i = 1#1), ∀ (k1_h18 : k1_cond18 i = 1#1), ∀ a, (k1_off35 v48_3_r0) a + S1x256x128.size a ≤ S2x256x128.size a := fun i v48_3_r0 k1_hw7 k1_h1 k1_h18 => k1_hw7.2.2 k1_h1 k1_h18

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S18432x64 : Shape := ⟨2, ![18432, 64]⟩
abbrev S1024x64 : Shape := ⟨2, ![1024, 64]⟩
abbrev S_ : Shape := ⟨0, ![]⟩
abbrev S18432 : Shape := ⟨1, ![18432]⟩
abbrev S18432x1 : Shape := ⟨2, ![18432, 1]⟩
abbrev S64x1024 : Shape := ⟨2, ![64, 1024]⟩
abbrev S18432x1024 : Shape := ⟨2, ![18432, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S18432x64, .f32⟩
  | .hbm, ⟨1, _⟩ => ⟨S1024x64, .f32⟩
  | .hbm, ⟨2, _⟩ => ⟨S18432x64, .f32⟩
  | .hbm, ⟨3, _⟩ => ⟨S_, .f32⟩
  | .hbm, ⟨4, _⟩ => ⟨S18432, .f32⟩
  | .hbm, ⟨5, _⟩ => ⟨S18432x1, .f32⟩
  | .hbm, ⟨6, _⟩ => ⟨S64x1024, .f32⟩
  | .hbm, ⟨7, _⟩ => ⟨S18432x1024, .f32⟩
  | .hbm, ⟨8, _⟩ => ⟨S_, .f32⟩
  | .hbm, ⟨9, _⟩ => ⟨S18432x1024, .f32⟩
  | .hbm, ⟨10, _⟩ => ⟨S18432x1024, .f32⟩
  | .hbm, ⟨11, _⟩ => ⟨S18432x1024, .f32⟩
  | .hbm, ⟨12, _⟩ => ⟨S18432x1024, .f32⟩
  | .hbm, ⟨13, _⟩ => ⟨S1024x64, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S18432x1024, .f32⟩
  | .hbm, ⟨18, _⟩ => ⟨S18432x1024, .f32⟩
  | .hbm, ⟨19, _⟩ => ⟨S_, .f32⟩
  | .hbm, ⟨20, _⟩ => ⟨S18432x1024, .f32⟩
  | .hbm, ⟨21, _⟩ => ⟨S18432x1024, .f32⟩
  | .hbm, ⟨22, _⟩ => ⟨S18432x1024, .f32⟩
  | .hbm, ⟨23, _⟩ => ⟨S18432x1024, .i32⟩
  | .hbm, ⟨24, _⟩ => ⟨S_, .f32⟩
  | .hbm, ⟨25, _⟩ => ⟨S_, .i32⟩
  | .hbm, ⟨26, _⟩ => ⟨S18432, .f32⟩
  | .hbm, ⟨27, _⟩ => ⟨S18432, .i32⟩
  | .hbm, ⟨28, _⟩ => ⟨S_, .i32⟩
  | .hbm, ⟨29, _⟩ => ⟨S18432, .i32⟩
  | .hbm, ⟨30, _⟩ => ⟨S18432, .i1⟩
  | .hbm, ⟨31, _⟩ => ⟨S_, .i32⟩
  | .hbm, ⟨32, _⟩ => ⟨S18432, .i32⟩
  | .hbm, ⟨33, _⟩ => ⟨S18432, .i32⟩
  | .hbm, ⟨34, _⟩ => ⟨S18432, .i32⟩
  | .hbm, ⟨35, _⟩ => ⟨S18432x1, .i32⟩
  | .hbm, ⟨36, _⟩ => ⟨S1, .i32⟩
  | .hbm, ⟨37, _⟩ => ⟨S_, .i32⟩
  | .hbm, ⟨38, _⟩ => ⟨S18432x1, .i32⟩
  | .hbm, ⟨39, _⟩ => ⟨S18432x1, .i1⟩
  | .hbm, ⟨40, _⟩ => ⟨S1x1, .i32⟩
  | .hbm, ⟨41, _⟩ => ⟨S18432x1, .i32⟩
  | .hbm, ⟨42, _⟩ => ⟨S18432x1, .i1⟩
  | .hbm, ⟨43, _⟩ => ⟨S18432x1, .i1⟩
  | .hbm, ⟨44, _⟩ => ⟨S_, .i1⟩
  | .hbm, ⟨45, _⟩ => ⟨S18432, .i1⟩
  | .hbm, ⟨46, _⟩ => ⟨S18432x64, .f32⟩
  | .hbm, ⟨47, _⟩ => ⟨S18432x64, .i1⟩
  | .hbm, ⟨48, _⟩ => ⟨S_, .f32⟩
  | .hbm, ⟨49, _⟩ => ⟨S18432x64, .f32⟩
  | .hbm, ⟨50, _⟩ => ⟨S18432x64, .f32⟩
  | .hbm, ⟨51, _⟩ => ⟨S18432x64, .f32⟩
  | .hbm, ⟨52, _⟩ => ⟨S18432x64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S18432x64, .f32⟩
  | .hbm, ⟨58, _⟩ => ⟨S_, .f32⟩
  | .hbm, ⟨59, _⟩ => ⟨S18432x64, .f32⟩
  | .hbm, ⟨60, _⟩ => ⟨S18432x64, .f32⟩
  | .hbm, ⟨61, _⟩ => ⟨S18432x64, .f32⟩
  | _, _ => ⟨S18432x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩

abbrev nD : Nat := 1
abbrev τ : Topo := Topo.v7x

variable {F : FTy → Type} [FloatOps F]
-- ==== Proof.GatherWords.lean ====
/-
  The words of the row gather's tile body: which blocks of 256 output rows a tile owns, and what the body's offsets,
  conditions, checks and carried counters are on its step `t`. Each statement ranges over the 32 tiles and a tile's two
  or three steps, and is decided over them.
-/
module

public import proofs.«01_k».proof.Defs
public import proofs.«01_k».proof.Proof.Gen.GatherIdeal
public import proofs.«01_k».proof.Proof.Gen.GatherIdeal.Skeleton

@[expose] public section

set_option Elab.async false

namespace Cert.Proof.Gather

open Cert.GatherIdeal Cert.GatherIdeal.Gen
open Idealize.ShloMosaic Idealize.SL.Sem

/-- A tile's number: subcores 0–15 of SparseCore 0, then those of SparseCore 1. -/
def wid (i : grid0.Coords) : ℕ := (i 1).val + 16 * (i 0).val

/-- How many blocks of 256 rows the tile writes: 72 blocks over 32 tiles, three for the first eight tiles. -/
def nB (i : grid0.Coords) : ℕ := if wid i < 8 then 3 else 2

/-- The tile's first block. -/
def base (i : grid0.Coords) : ℕ := if wid i < 8 then 3 * wid i else 2 * wid i + 8

/-- The tile's number, its number of steps, its first block and the loop's end, as the task computes them. -/
def widW (i : grid0.Coords) : BitVec 32 :=
  Scalar.addi (Scalar.addi 0#32 (Scalar.muli (BitVec.ofNat 32 (i 1).val) 1#32)) (Scalar.muli (BitVec.ofNat 32 (i 0).val) 16#32)
def v5w (i : grid0.Coords) : BitVec 32 := Scalar.select (Scalar.cmpi .slt (widW i) 8#32) 3#32 2#32
def v10w (i : grid0.Coords) : BitVec 32 :=
  Scalar.select (Scalar.cmpi .slt (widW i) 8#32) (Scalar.muli (widW i) (v5w i)) (Scalar.addi (Scalar.muli (widW i) 2#32) 8#32)
def v11w (i : grid0.Coords) : BitVec 32 := Scalar.muli 1#32 (v5w i)

theorem nB_pos (i : grid0.Coords) : 2 ≤ nB i := by unfold nB; split <;> omega
theorem nB_le (i : grid0.Coords) : nB i ≤ 3 := by unfold nB; split <;> omega

theorem block_lt (i : grid0.Coords) {k : ℕ} (hk : k < nB i) : base i + k < 72 := by
  have h0 : (i 0).val < 2 := (i 0).isLt
  have h1 : (i 1).val < 16 := (i 1).isLt
  unfold nB at hk; unfold base; unfold wid at *
  split <;> simp_all <;> omega

theorem cond1_eq : ∀ i : grid0.Coords, k0_cond1 i = 1#1 := by decide +kernel
theorem cond2_eq : ∀ i : grid0.Coords, k0_cond2 i = 1#1 := by decide +kernel
theorem cond18_eq : ∀ i : grid0.Coords, k0_cond18 i = 1#1 := by decide +kernel
theorem off2_eq : ∀ i : grid0.Coords, k0_off2 i = ![0, 256 * base i] := by decide +kernel
theorem trips_eq : ∀ i : grid0.Coords, (k0_t1_loop i).trips = nB i := by decide +kernel
theorem trips2_eq : ∀ i : grid0.Coords, (k0_t2_loop i).trips = 0 := by decide +kernel

theorem cond3_iff : ∀ (i : grid0.Coords) (t : Fin (k0_t1_loop i).trips), k0_cond3 i t (BitVec.ofNat 32 t.val) = 1#1 ↔ t.val + 1 < nB i := by decide +kernel
theorem cond4_eq : ∀ (i : grid0.Coords) (t : Fin (k0_t1_loop i).trips), k0_cond4 i t (BitVec.ofNat 32 t.val) = 1#1 := by decide +kernel
theorem cond7_eq : ∀ (i : grid0.Coords) (t : Fin (k0_t1_loop i).trips), k0_cond7 i t (BitVec.ofNat 32 t.val) = 1#1 := by decide +kernel
theorem cond9_iff : ∀ (i : grid0.Coords) (t : Fin (k0_t1_loop i).trips), k0_cond9 i t (BitVec.ofNat 32 t.val) = 1#1 ↔ 0 < t.val := by decide +kernel

theorem off5_eq : ∀ (i : grid0.Coords) (t : Fin (k0_t1_loop i).trips), t.val + 1 < nB i → k0_off5 i (BitVec.ofNat 32 t.val) = ![0, 256 * (base i + (t.val + 1))] := by decide +kernel
theorem off8_eq : ∀ (i : grid0.Coords) (t : Fin (k0_t1_loop i).trips), k0_off8 i (BitVec.ofNat 32 t.val) = ![0, 256 * (base i + t.val)] := by decide +kernel
theorem off13_eq : ∀ (i : grid0.Coords) (t : Fin (k0_t1_loop i).trips), k0_off13 i (BitVec.ofNat 32 t.val) = ![256 * (base i + t.val), 0] := by decide +kernel
theorem off16_eq : ∀ (i : grid0.Coords) (t : Fin (k0_t1_loop i).trips), 0 < t.val → k0_off16 i (BitVec.ofNat 32 t.val) = ![256 * (base i + (t.val - 1)), 0] := by decide +kernel
theorem off33_eq : ∀ i : grid0.Coords, k0_off33 i 0#32 = ![256 * (base i + (nB i - 1)), 0] := by decide +kernel

/-- The step counter the body carries: back at 0 after the last step. -/
def stepW (i : grid0.Coords) (k : ℕ) : BitVec 32 := BitVec.ofNat 32 (if k < nB i then k else 0)

/-- The words the loop carries before its step `k`: copies in started, copies in awaited, copies out started, copies
    out awaited, the step. -/
def carried (i : grid0.Coords) (k : ℕ) : BitVec 32 × BitVec 32 × BitVec 32 × BitVec 32 × BitVec 32 :=
  (BitVec.ofNat 32 (min (k + 1) (nB i)), BitVec.ofNat 32 k, BitVec.ofNat 32 k, BitVec.ofNat 32 (k - 1), stepW i k)

theorem chk1_ok : ∀ (i : grid0.Coords) (t : Fin (k0_t1_loop i).trips),
    k0_chk1 i t (BitVec.ofNat 32 (min (t.val + 1) (nB i))) (BitVec.ofNat 32 t.val) (BitVec.ofNat 32 t.val) (BitVec.ofNat 32 (t.val - 1)) (BitVec.ofNat 32 t.val) := by decide +kernel
theorem chk2_ok : ∀ (i : grid0.Coords) (t : Fin (k0_t1_loop i).trips), k0_chk2 i (BitVec.ofNat 32 t.val) := by decide +kernel
theorem chk3_ok : ∀ (i : grid0.Coords) (t : Fin (k0_t1_loop i).trips), k0_chk3 i (BitVec.ofNat 32 t.val) := by decide +kernel
theorem chk7_ok : ∀ i : grid0.Coords, k0_chk7 i (BitVec.ofNat 32 (nB i - 1)) := by decide +kernel
theorem chk8_ok : ∀ i : grid0.Coords, k0_chk8 i 0#32 := by decide +kernel

/-- The slot of step `k`. -/
def par (k : ℕ) : Fin 2 := ⟨k % 2, Nat.mod_lt _ (by decide)⟩
theorem par_add_two (k : ℕ) : par (k + 2) = par k := Fin.ext (Nat.add_mod_right k 2)

theorem off4_eq : ∀ k : Fin 4, k0_off4 (BitVec.ofNat 32 k.val) = ![(par k.val).val, 0, 0] := by decide +kernel
theorem off6_eq : ∀ k : Fin 4, k0_off6 (BitVec.ofNat 32 k.val) = ![(par k.val).val] := by decide +kernel
theorem off7_eq : ∀ k : Fin 4, k0_off7 (BitVec.ofNat 32 k.val) = ![(par k.val).val, 0, 0] := by decide +kernel
theorem off9_eq : ∀ k : Fin 4, k0_off9 (BitVec.ofNat 32 k.val) = ![(par k.val).val] := by decide +kernel
theorem off10_eq : ∀ k : Fin 4, k0_off10 (BitVec.ofNat 32 k.val) = ![(par k.val).val, 0, 0] := by decide +kernel
theorem off11_eq : ∀ k : Fin 4, k0_off11 (BitVec.ofNat 32 k.val) = ![(par k.val).val, 0, 0] := by decide +kernel
theorem off12_eq : ∀ k : Fin 4, k0_off12 (BitVec.ofNat 32 k.val) = ![(par k.val).val, 0, 0] := by decide +kernel
theorem off14_eq : ∀ k : Fin 4, k0_off14 (BitVec.ofNat 32 k.val) = ![(par k.val).val] := by decide +kernel
theorem off15_eq : ∀ k : Fin 4, k0_off15 (BitVec.ofNat 32 k.val) = ![(par k.val).val, 0, 0] := by decide +kernel
theorem off17_eq : ∀ k : Fin 4, k0_off17 (BitVec.ofNat 32 k.val) = ![(par k.val).val] := by decide +kernel
theorem off34_eq : ∀ k : Fin 4, k0_off34 (BitVec.ofNat 32 k.val) = ![(par k.val).val] := by decide +kernel
theorem off35_eq : ∀ k : Fin 4, k0_off35 (BitVec.ofNat 32 k.val) = ![(par k.val).val, 0, 0] := by decide +kernel

/-- The block of the next step and of the last one, as the body computes them from the step's word. -/
def nextW (i : grid0.Coords) (a : BitVec 32) : BitVec 32 :=
  Scalar.addi (Scalar.select (Scalar.cmpi .eq (Scalar.select 1#1 (Scalar.addi a 1#32) a) (v5w i)) 0#32 (Scalar.select 1#1 (Scalar.addi a 1#32) a)) (v10w i)
def prevW (i : grid0.Coords) (a : BitVec 32) : BitVec 32 :=
  Scalar.addi (Scalar.select (Scalar.cmpi .eq (Scalar.select 1#1 (Scalar.subi a 1#32) a) 4294967295#32) (Scalar.subi (v5w i) 1#32)
    (Scalar.select 1#1 (Scalar.subi a 1#32) a)) (v10w i)

/-- What the body yields from what it carries. -/
def yielded (i : grid0.Coords) (t : ℕ) (a6 a7 a8 a9 a10 : BitVec 32) : BitVec 32 × BitVec 32 × BitVec 32 × BitVec 32 × BitVec 32 :=
  let cur := Scalar.addi a10 (v10w i)
  let n := Scalar.muli 1#32 (v5w i)
  let moves := Scalar.cmpi .ne cur (nextW i a10)
  let last := Scalar.cmpi .eq (Scf.iv 0#32 1#32 t) (Scalar.subi n 1#32)
  let first := Scalar.cmpi .eq (Scf.iv 0#32 1#32 t) 0#32
  (Scalar.select (Scalar.andi (Scalar.andi moves (Scalar.xori (Scalar.cmpi .sge (Scf.iv 0#32 1#32 t) (Scalar.addi (Scalar.subi n 2#32) 1#32)) 1#1)) 1#1) (Scalar.addi a6 1#32) a6,
    Scalar.select (Scalar.ori moves last) (Scalar.addi a7 1#32) a7,
    Scalar.select (Scalar.andi (Scalar.ori moves last) 1#1) (Scalar.addi a8 1#32) a8,
    Scalar.select (Scalar.andi (Scalar.andi (Scalar.cmpi .ne cur (prevW i a10)) (Scalar.xori first 1#1)) 1#1) (Scalar.addi a9 1#32) a9,
    Scalar.select (Scalar.cmpi .eq (Scalar.select 1#1 (Scalar.addi a10 1#32) a10) (v5w i)) 0#32 (Scalar.select 1#1 (Scalar.addi a10 1#32) a10))

theorem yielded_eq : ∀ (i : grid0.Coords) (t : Fin (k0_t1_loop i).trips),
    yielded i t.val (BitVec.ofNat 32 (min (t.val + 1) (nB i))) (BitVec.ofNat 32 t.val) (BitVec.ofNat 32 t.val) (BitVec.ofNat 32 (t.val - 1)) (BitVec.ofNat 32 t.val)
      = carried i (t.val + 1) := by decide +kernel

/-- Before the first step one copy in is started. -/
theorem first_eq : ∀ i : grid0.Coords,
    (Scalar.select (Scalar.andi 1#1 (Scalar.cmpi .sgt (Scalar.muli 1#32 (v5w i)) 0#32)) (Scalar.addi 0#32 1#32) 0#32, 0#32, 0#32, 0#32, 0#32) = carried i 0 := by decide +kernel

end Cert.Proof.Gather
-- ==== Proof.GatherTile.lean ====
/-
  One tile's task of the row gather, over any element interpretation `F`: the pipelined loop of copies in (256 row numbers),
  indirect gathers (the 256 rows they name) and copies out (the rows to the tile's block of the output). Here are the
  windows the task addresses, what each transfer moves, and the rule of each of its five transfers and waits.
-/
module

public import proofs.«01_k».proof.Defs
public import proofs.«01_k».proof.Proof.GatherWords
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

set_option Elab.async false

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev eLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

local notation "eV" => (Memref.whole Cert.GatherIdeal.main_v1_scv : Memref Cert.GatherIdeal.sig Kind.scVector Space.hbm Cert.GatherIdeal.S1024x128 EltTy.f32)
local notation "iV" => (Memref.whole Cert.GatherIdeal.main_v2_scv : Memref Cert.GatherIdeal.sig Kind.scVector Space.hbm Cert.GatherIdeal.S1x18432 EltTy.i32)
local notation "oV" => (Memref.whole Cert.GatherIdeal.main_v3_scv : Memref Cert.GatherIdeal.sig Kind.scVector Space.hbm Cert.GatherIdeal.S18432x128 EltTy.f32)
local notation "isV" => (Memref.whole Cert.GatherIdeal.cc0_scoped0 : Memref Cert.GatherIdeal.sig Kind.scVector Space.vmem Cert.GatherIdeal.S2x1x256 EltTy.i32)
local notation "osV" => (Memref.whole Cert.GatherIdeal.cc0_scoped2 : Memref Cert.GatherIdeal.sig Kind.scVector Space.vmem Cert.GatherIdeal.S2x256x128 EltTy.f32)

/-! ## The windows -/

/-- 256 row numbers from column `off 1` of the list. -/
abbrev inB (off : Fin 2 → ℕ) (h : ∀ a, off a + S1x256.size a ≤ S1x18432.size a) : Memref sig .scVector .hbm S1x256 .i32 :=
  (iV).slice (Rect.unit (s := S1x18432) off S1x256.size h) (fun _ => rfl)
/-- 256 rows of the output from row `off 0`. -/
abbrev outB (off : Fin 2 → ℕ) (h : ∀ a, off a + S256x128.size a ≤ S18432x128.size a) : Memref sig .scVector .hbm S256x128 .f32 :=
  (oV).slice (Rect.unit (s := S18432x128) off S256x128.size h) (fun _ => rfl)
/-- Slot `off 0` of the row number scratch. -/
abbrev inS (off : Fin 3 → ℕ) (h : ∀ a, off a + S1x1x256.size a ≤ S2x1x256.size a) : Memref sig .scVector .vmem S1x256 .i32 :=
  ((isV).slice (Rect.unit (s := S2x1x256) off S1x1x256.size h) (fun _ => rfl)).squeeze S1x256 squeezes_S1x1x256_S1x256
/-- Slot `off 0` of the row scratch. -/
abbrev outS (off : Fin 3 → ℕ) (h : ∀ a, off a + S1x256x128.size a ≤ S2x256x128.size a) : Memref sig .scVector .vmem S256x128 .f32 :=
  ((osV).slice (Rect.unit (s := S2x256x128) off S1x256x128.size h) (fun _ => rfl)).squeeze S256x128 squeezes_S1x256x128_S256x128
/-- The row number slot as the list an indirect gather reads. -/
abbrev offsS (off : Fin 3 → ℕ) (h : ∀ a, off a + S1x1x256.size a ≤ S2x1x256.size a) : Memref sig .scVector .vmem S256 .i32 :=
  ((inS off h).slice (Rect.unit (s := S1x256) ![0, 0] S1x256.size inb_S1x256_S1x256_0_0) (fun _ => rfl)).squeeze S256 squeezes_S1x256_S256
/-- The whole table, as the gather addresses it. -/
abbrev eAll : Memref sig .scVector .hbm S1024x128 .f32 :=
  (eV).slice (Rect.unit (s := S1024x128) ![0, 0] S1024x128.size inb_S1024x128_S1024x128_0_0) (fun _ => rfl)
abbrev semI (off : Fin 1 → ℕ) (h : ∀ a, off a + S1.size a ≤ S2.size a) : DmaSem sig :=
  ((cc0_scoped1.slice (Rect.unit (s := S2) off S1.size h)).squeeze S_ squeezes_S1_S_).sem
abbrev semO (off : Fin 1 → ℕ) (h : ∀ a, off a + S1.size a ≤ S2.size a) : DmaSem sig :=
  ((cc0_scoped3.slice (Rect.unit (s := S2) off S1.size h)).squeeze S_ squeezes_S1_S_).sem
abbrev semG : DmaSem sig := cc0_scoped4.sem

theorem inb_in {b : ℕ} (hb : b < 72) : ∀ a, (![0, 256 * b] : Fin 2 → ℕ) a + S1x256.size a ≤ S1x18432.size a := by
  intro a; match a with
  | 0 => simp [S1x256, S1x18432]
  | 1 => simp [S1x256, S1x18432]; omega
theorem inb_out {b : ℕ} (hb : b < 72) : ∀ a, (![256 * b, 0] : Fin 2 → ℕ) a + S256x128.size a ≤ S18432x128.size a := by
  intro a; match a with
  | 0 => simp [S256x128, S18432x128]; omega
  | 1 => simp [S256x128, S18432x128]
theorem inb_is (p : Fin 2) : ∀ a, (![p.val, 0, 0] : Fin 3 → ℕ) a + S1x1x256.size a ≤ S2x1x256.size a := by
  revert p; decide +kernel
theorem inb_os (p : Fin 2) : ∀ a, (![p.val, 0, 0] : Fin 3 → ℕ) a + S1x256x128.size a ≤ S2x256x128.size a := by
  revert p; decide +kernel
theorem inb_sem (p : Fin 2) : ∀ a, (![p.val] : Fin 1 → ℕ) a + S1.size a ≤ S2.size a := by
  revert p; decide +kernel

/-- The slots, the cells and the blocks by number. -/
abbrev inSlot (p : Fin 2) := inS ![p.val, 0, 0] (inb_is p)
abbrev outSlot (p : Fin 2) := outS ![p.val, 0, 0] (inb_os p)
abbrev cI (p : Fin 2) : DmaSem sig := semI ![p.val] (inb_sem p)
abbrev cO (p : Fin 2) : DmaSem sig := semO ![p.val] (inb_sem p)

/-- The columns of block `b` of the list, the rows of block `b` of the output. -/
def iRowSet (b : ℕ) : Finset S1x18432.Idx := Finset.univ.filter fun x => (x 1).val / 256 = b
def oRowSet (b : ℕ) : Finset S18432x128.Idx := Finset.univ.filter fun x => (x 0).val / 256 = b

theorem set_inB {b : ℕ} (hb : b < 72) (h) : (inB ![0, 256 * b] h).view.set = iRowSet b := by
  show ((iV).view.slice (Rect.unit (s := S1x18432) ![0, 256 * b] S1x256.size h)).set = iRowSet b
  ext x
  rw [show ((iV).view.slice (Rect.unit (s := S1x18432) ![0, 256 * b] S1x256.size h)).set
      = (Rect.unit (s := S1x18432) ![0, 256 * b] S1x256.size h).set from View.set_slice_whole _ _, Rect.mem_set_unit]
  have h0 : (x 0).val < 1 := (x 0).isLt
  simp only [iRowSet, Finset.mem_filter, Finset.mem_univ, true_and, Fin.forall_fin_two, S1x256]
  simp
  omega
theorem set_outB {b : ℕ} (hb : b < 72) (h) : (outB ![256 * b, 0] h).view.set = oRowSet b := by
  show ((oV).view.slice (Rect.unit (s := S18432x128) ![256 * b, 0] S256x128.size h)).set = oRowSet b
  ext x
  rw [show ((oV).view.slice (Rect.unit (s := S18432x128) ![256 * b, 0] S256x128.size h)).set
      = (Rect.unit (s := S18432x128) ![256 * b, 0] S256x128.size h).set from View.set_slice_whole _ _, Rect.mem_set_unit]
  have h1 : (x 1).val < 128 := (x 1).isLt
  simp only [oRowSet, Finset.mem_filter, Finset.mem_univ, true_and, Fin.forall_fin_two, S256x128]
  simp
  omega
theorem whole_1x256 : (Rect.unit (s := S1x256) ![0, 0] S1x256.size inb_S1x256_S1x256_0_0).set = Finset.univ := by
  ext x
  have h0 : (x 0).val < 1 := (x 0).isLt
  have h1 : (x 1).val < 256 := (x 1).isLt
  simp only [Rect.mem_set_unit, Finset.mem_univ, iff_true, Fin.forall_fin_two]
  simp [S1x256]
  omega
theorem whole_1024x128 : (Rect.unit (s := S1024x128) ![0, 0] S1024x128.size inb_S1024x128_S1024x128_0_0).set = Finset.univ := by
  ext x
  have h0 : (x 0).val < 1024 := (x 0).isLt
  have h1 : (x 1).val < 128 := (x 1).isLt
  simp only [Rect.mem_set_unit, Finset.mem_univ, iff_true, Fin.forall_fin_two]
  simp [S1024x128]
  omega
theorem set_offs (off h) : (offsS off h).view.set = (inS off h).view.set := by
  show (((inS off h).view.slice (Rect.unit (s := S1x256) ![0, 0] S1x256.size inb_S1x256_S1x256_0_0)).reshape S256 squeezes_S1x256_S256.numel_eq).set = _
  rw [View.set_reshape, View.set_slice, whole_1x256]; rfl
theorem set_eAll : (eAll).view.set = Finset.univ := by
  show ((eV).view.slice (Rect.unit (s := S1024x128) ![0, 0] S1024x128.size inb_S1024x128_S1024x128_0_0)).set = _
  exact (View.set_slice_whole _ _).trans whole_1024x128

/-! ## What the transfers move -/

abbrev cV (L : grid0.Coords) : Fin τ.nSC := (L 0).castLE hcore0
abbrev jV (L : grid0.Coords) : Fin τ.nSub := (L 1).castLE hsub0

/-- Positions in the list of row numbers, the table and the output. -/
def iIx (n : Fin 18432) : S1x18432.Idx := fun | 0 => (0 : Fin 1) | 1 => n
def eIx (r : Fin 1024) (j : Fin 128) : S1024x128.Idx := fun | 0 => r | 1 => j
def oIx (n : Fin 18432) (j : Fin 128) : S18432x128.Idx := fun | 0 => n | 1 => j
def lIx (n : Fin 256) : S1x256.Idx := fun | 0 => (0 : Fin 1) | 1 => n
abbrev row (b : ℕ) (r : Fin 256) : Fin 18432 := ⟨(256 * b + r.val) % 18432, Nat.mod_lt _ (by decide)⟩

section Values

variable (tab : S1024x128.Idx → Elt F .f32) (idx : S1x18432.Idx → BitVec 32)

/-- The row numbers of block `b`. -/
def iVal (b : ℕ) : S1x256.Idx → BitVec 32 := fun x => idx (iIx (row b (x 1)))
/-- The output: row `j 0` is the table's row its row number names. -/
def G : S18432x128.Idx → Elt F .f32 := fun j =>
  tab (eIx ⟨(idx (iIx (j 0))).toNat % 1024, Nat.mod_lt _ (by decide)⟩ (j 1))
/-- Block `b` of it. -/
def gVal (b : ℕ) : S256x128.Idx → Elt F .f32 := fun x => G tab idx (oIx (row b (x 0)) (x 1))

theorem read_inB {b : ℕ} (hb : b < 72) (h) : (inB ![0, 256 * b] h).view.read (Elt F) idx = iVal idx b := by
  funext x
  refine (View.read_apply _ _).trans ((cast_eq _ _).trans ?_)
  have h0 : (x 0).val < 1 := (x 0).isLt
  have h1 : (x 1).val < 256 := (x 1).isLt
  unfold iVal
  refine congrArg idx (funext fun a => Fin.ext ?_)
  match a with
  | 0 => show 0 + 1 * (x 0).val = 0; omega
  | 1 => show 256 * b + 1 * (x 1).val = (256 * b + (x 1).val) % 18432; rw [Nat.mod_eq_of_lt (by omega)]; omega

theorem gVal_at {b : ℕ} (hb : b < 72) (h) (x : S256x128.Idx) :
    G tab idx ((outB ![256 * b, 0] h).view.emb x) = gVal tab idx b x := by
  have h0 : (x 0).val < 256 := (x 0).isLt
  unfold gVal
  refine congrArg (G tab idx) (funext fun a => Fin.ext ?_)
  match a with
  | 0 => show 256 * b + 1 * (x 0).val = (256 * b + (x 0).val) % 18432; rw [Nat.mod_eq_of_lt (by omega)]; omega
  | 1 => show 0 + 1 * (x 1).val = (x 1).val; omega

/-- Writing a block's rows into the output leaves the output's own rows there. -/
theorem write_outB {b : ℕ} (hb : b < 72) (h : ∀ a, (![256 * b, 0] : Fin 2 → ℕ) a + S256x128.size a ≤ S18432x128.size a)
    (f : (outB ![256 * b, 0] h).view.ty.Contents (Elt F)) (i : (outB ![256 * b, 0] h).view.ty.Idx) (hi : i ∈ (outB ![256 * b, 0] h).view.set) :
    (outB ![256 * b, 0] h).view.write (Elt F) f (gVal tab idx b) Finset.univ i = G tab idx i := by
  obtain ⟨x, -, rfl⟩ := Finset.mem_map.mp hi
  refine (View.write_emb_of_mem f (gVal tab idx b) (Finset.mem_univ x)).trans ((cast_eq _ _).trans ?_)
  exact (gVal_at tab idx hb h x).symm

/-- The list an indirect gather reads, off a slot that holds block `b`'s row numbers. -/
theorem read_offs {b : ℕ} {off h} {f : S2x1x256.Idx → BitVec 32}
    (hf : (inS off h).view.read (Elt F) f = iVal idx b) (x : S256.Idx) :
    (offsS off h).view.read (Elt F) f x = idx (iIx (row b (x 0))) := by
  have e : (offsS off h).view.emb x = (inS off h).view.emb (lIx (x 0)) := by
    show (inS off h).view.emb ((Rect.unit (s := S1x256) ![0, 0] S1x256.size inb_S1x256_S1x256_0_0).emb (Shape.reshapeEquiv squeezes_S1x256_S256.numel_eq x)) = _
    rw [show Shape.reshapeEquiv squeezes_S1x256_S256.numel_eq x = Fin.cons ⟨0, Nat.one_pos⟩ x from Shape.reshapeEquiv_cons_one _ x]
    refine congrArg _ (funext fun a => Fin.ext ?_)
    match a with
    | 0 => rfl
    | 1 => show 0 + 1 * (x 0).val = (x 0).val; omega
  refine (View.read_apply _ _).trans ((cast_eq _ _).trans ?_)
  have := congrFun hf (lIx (x 0))
  refine Eq.trans (congrArg f e) (Eq.trans ?_ this)
  exact Eq.symm (Eq.trans (View.read_apply _ _) (cast_eq rfl _))

/-- The gather's payload off such a list is block `b` of the output. -/
theorem payload_eq {b : ℕ} (hidx : ∀ j, (idx j).toNat < 1024) {r : S256.Idx → BitVec 32} (hr : ∀ x, r x = idx (iIx (row b (x 0))))
    (hn : S256.numel = S256x128.size gathers_S1024x128_S256x128.axis') (hin : ∀ x, (r x).toNat < S1024x128.size gathers_S1024x128_S256x128.axis) :
    SparseCore.gatherPayload gathers_S1024x128_S256x128 ((eAll).view.read (Elt F) tab) (SparseCore.rows (F := F) r hn hin) = gVal tab idx b := by
  funext x
  unfold SparseCore.gatherPayload
  refine (View.read_apply _ _).trans ((cast_eq _ _).trans ?_)
  unfold gVal G
  have h1 : (x 1).val < 128 := (x 1).isLt
  refine congrArg tab (funext fun a => Fin.ext ?_)
  match a with
  | 0 =>
    show 0 + 1 * (gathers_S1024x128_S256x128.idx (SparseCore.rows (F := F) r hn hin) x gathers_S1024x128_S256x128.axis).val = (idx (iIx (row b (x 0)))).toNat % 1024
    rw [Shape.Gathers.idx_axis, Nat.mod_eq_of_lt (hidx _)]
    show 0 + 1 * (r (S256.rowMajor.symm _)).toNat = _
    rw [hr, Nat.zero_add, Nat.one_mul]
    have e : (S256.rowMajor.symm ((x 0).cast hn.symm) 0).val = (x 0).val := by
      rw [← Shape.rowMajor_val_one (d := ![256]) (S256.rowMajor.symm ((x 0).cast hn.symm))]
      exact congrArg Fin.val (S256.rowMajor.apply_symm_apply _)
    exact congrArg (fun n => (idx (iIx (row b n))).toNat) (Fin.ext e)
  | 1 =>
    show 0 + 1 * (gathers_S1024x128_S256x128.idx (SparseCore.rows (F := F) r hn hin) x 1).val = (x 1).val
    have e := Shape.Gathers.idx_of_ne gathers_S1024x128_S256x128 (SparseCore.rows (F := F) r hn hin) x (1 : Fin 2) (by decide)
    rw [Nat.zero_add, Nat.one_mul]
    exact e

end Values

/-! ## The slots' states -/

section Tile

variable (d : Dev nD) (L : grid0.Coords) (tab : S1024x128.Idx → Elt F .f32) (idx : S1x18432.Idx → BitVec 32)

/-- The tile's vector subcore. -/
abbrev th : Thread nD τ := V d (cV L) (jV L)

/-- What of a share of the list the transfers into slot `p` use. -/
abbrev half (q : PosShare TreeShare) (p : Fin 2) : PosShare TreeShare := if p = 0 then q.left else q.right

variable [FloatOps F] (q : PosShare TreeShare)

/-- Slot `p` of the row numbers, idle. -/
def inFree (p : Fin 2) : sProp 𝕄 :=
  iprop((∃ f, (inSlot p).view.loc (th d L) ↦[(inSlot p).view.set]{fullShare} f) ∗ (iLoc d ↦{half q p} idx) ∗ semVal (th d L, .dma (cI p)) 0)
/-- Block `b`'s row numbers landed in slot `p`. -/
def inHas (p : Fin 2) (b : ℕ) : sProp 𝕄 :=
  iprop((∃ f, ⌜(inSlot p).view.read (Elt F) f = iVal idx b⌝ ∗ (inSlot p).view.loc (th d L) ↦[(inSlot p).view.set]{fullShare} f)
    ∗ (iLoc d ↦{half q p} idx) ∗ semVal (th d L, .dma (cI p)) 0)
/-- Their copy in flight. -/
def inFly (p : Fin 2) (b : ℕ) : sProp 𝕄 :=
  iprop(Transfers.Flight countersEmb (th d L) (.dma (cI p)) (default : HIx 1) (inSlot p).view.dmaCredit
      iprop((∃ f, ⌜(inSlot p).view.read (Elt F) f = iVal idx b⌝ ∗ (inSlot p).view.loc (th d L) ↦[(inSlot p).view.set]{fullShare} f)
        ∗ (iLoc d ↦[iRowSet b]{half q p} idx))
    ∗ (iLoc d ↦[Finset.univ \ iRowSet b]{half q p} idx))
/-- Slot `p` of the rows, idle. -/
def outFree (p : Fin 2) : sProp 𝕄 :=
  iprop((∃ f, (outSlot p).view.loc (th d L) ↦[(outSlot p).view.set]{fullShare} f) ∗ semVal (th d L, .dma (cO p)) 0)
/-- Block `b`'s rows landed in slot `p`. -/
def outHas (p : Fin 2) (b : ℕ) : sProp 𝕄 :=
  iprop((∃ f, ⌜(outSlot p).view.read (Elt F) f = gVal tab idx b⌝ ∗ (outSlot p).view.loc (th d L) ↦[(outSlot p).view.set]{fullShare} f)
    ∗ semVal (th d L, .dma (cO p)) 0)
/-- Block `b` of the output, at the gathered rows. -/
def done (b : ℕ) : sProp 𝕄 := iprop(oLoc d ↦[oRowSet b]{fullShare} G tab idx)
/-- Their copy out in flight. -/
def outFly (p : Fin 2) (b : ℕ) : sProp 𝕄 :=
  iprop(Transfers.Flight countersEmb (th d L) (.dma (cO p)) (default : HIx 1) (outSlot p).view.dmaCredit
      iprop(done d tab idx b ∗ ∃ f, (outSlot p).view.loc (th d L) ↦[(outSlot p).view.set]{fullShare} f))

/-! ## The five transfers and waits -/

variable {d L tab idx q}

/-- The copy of block `b`'s row numbers into slot `p` starts. -/
theorem enqIn {Q : PUnit → sProp 𝕄} {p : Fin 2} {b : ℕ} (hb : b < 72) {o1 o2 o3} (e1 : o1 = ![0, 256 * b]) (e2 : o2 = ![p.val, 0, 0]) (e3 : o3 = ![p.val])
    {h1 h2 h3} {w1 w2 w3} :
    inFree d L idx q p ⊢ iprop((inFly d L idx q p b -∗ Q ⟨⟩) -∗
      wp frame (wpE (defs₀ (F := F)) 𝒱₀ (th d L) none) Set.univ
        (Prog.lift (.enqueueDma (inB o1 h1) (.here (inS o2 h2)) (.dma (semI o3 h3)) w1 w2 w3)) Q) := by
  subst e1 e2 e3
  unfold inFree
  iintro ⟨⟨%f, Hs⟩, Hi, Hv⟩ Hk
  ihave Hi := (pointsTo_split_subset (ℓ := iLoc d) (q := half q p) (f := idx) (Finset.subset_univ (iRowSet b))).1 $$ Hi
  icases Hi with ⟨Hi, Hr⟩
  ihave Hi := (Entails.of_eq (show (iLoc d ↦[iRowSet b]{half q p} idx : sProp 𝕄)
    = (inB ![0, 256 * b] h1).view.loc (th d L) ↦[(inB ![0, 256 * b] h1).view.set]{half q p} idx by rw [set_inB hb])) $$ Hi
  unfold Prog.lift
  iapply (Transfers.wp_dmaLocal countersEmb 𝒱₀ (th d L) none (default : HIx 1) (inSlot p).view.dmaCredit rfl (View.dmaCredit_pos _ (by decide))
    (Finset.Subset.refl _)) $$ [Hi Hs Hv]
  · isplitl [Hi]; · iexact Hi
    isplitl [Hs]; · iexact Hs
    iexact Hv
  iintro Hfl
  ihave Hfl := (Transfers.Flight_mono countersEmb (th d L) (show iprop(((inSlot p).view.loc (th d L) ↦[(inSlot p).view.set]{fullShare}
      (inSlot p).view.write (Elt F) f ((inB ![0, 256 * b] h1).view.read (Elt F) idx) Finset.univ)
      ∗ ((inB ![0, 256 * b] h1).view.loc (th d L) ↦[(inB ![0, 256 * b] h1).view.set]{half q p} idx))
      ⊢ (iprop((∃ f, ⌜(inSlot p).view.read (Elt F) f = iVal idx b⌝ ∗ (inSlot p).view.loc (th d L) ↦[(inSlot p).view.set]{fullShare} f)
        ∗ (iLoc d ↦[iRowSet b]{half q p} idx)) : sProp 𝕄) by
    rw [set_inB hb, read_inB idx hb h1]
    iintro ⟨Hs, Hi⟩
    isplitl [Hs]
    · iexists ((inSlot p).view.write (Elt F) f (iVal idx b) Finset.univ); isplitr
      · ipureintro; exact View.read_write_univ _ _
      · iexact Hs
    · iexact Hi)) $$ Hfl
  sl_step
  iapply Hk
  unfold inFly
  isplitl [Hfl]; · iexact Hfl
  iexact Hr

/-- The wait for it. -/
theorem waitIn {Q : PUnit → sProp 𝕄} {p : Fin 2} {b : ℕ} (hb : b < 72) {o1 o2 o3} (e2 : o2 = ![p.val, 0, 0]) (e3 : o3 = ![p.val])
    {h1 h2 h3} {w1 w2} {O : CellTallies nD τ sig (HIx 1)} {W : Waits sig (HIx 1)} :
    iprop(inFly d L idx q p b ∗ owes (th d L) O W ∗ Transfers.MayWaits (th d L) (default : HIx 1) O) ⊢
      iprop((inHas d L idx q p b ∗ owes (th d L) O (insert (SemLoc.dma (cI p), default) W) -∗ Q ⟨⟩) -∗
      wp frame (wpE (defs₀ (F := F)) 𝒱₀ (th d L) none) Set.univ
        (Prog.lift (.waitDma2 (semI o3 h3) (inB o1 h1) (inS o2 h2) w1 w2)) Q) := by
  subst e2 e3
  unfold inFly inHas Prog.lift
  iintro ⟨⟨Hfl, Hr⟩, HO, Hmw⟩ Hk
  iapply (Transfers.wp_waitLocalO countersEmb 𝒱₀ (th d L) none (default : HIx 1) (rfl : (inSlot p).view.dmaCredit = _)) $$ [Hfl HO Hmw]
  · isplitl [Hfl]; · iexact Hfl
    isplitl [HO]; · iexact HO
    iapply (Transfers.MayWaits.elim (SemLoc.dma (cI p))) $$ Hmw
  iintro ⟨⟨Hs, Hi⟩, Hv, HO⟩
  ihave Hi := (pointsTo_split_subset (ℓ := iLoc d) (q := half q p) (f := idx) (Finset.subset_univ (iRowSet b))).2 $$ [Hi Hr]
  · isplitl [Hi] <;> iassumption
  sl_step
  iapply Hk
  isplitr [HO]
  · isplitl [Hs]; · iexact Hs
    isplitl [Hi]; · iexact Hi
    iexact Hv
  iexact HO

/-- The copy of slot `p` of the rows to block `b` of the output starts. -/
theorem enqOut {Q : PUnit → sProp 𝕄} {p : Fin 2} {b : ℕ} (hb : b < 72) {o1 o2 o3} (e1 : o1 = ![256 * b, 0]) (e2 : o2 = ![p.val, 0, 0]) (e3 : o3 = ![p.val])
    {h1 h2 h3} {w1 w2 w3} {f₀ : Buf (Elt F) (oLoc d)} :
    iprop(outHas d L tab idx p b ∗ (oLoc d ↦[oRowSet b]{fullShare} f₀)) ⊢ iprop((outFly d L tab idx p b -∗ Q ⟨⟩) -∗
      wp frame (wpE (defs₀ (F := F)) 𝒱₀ (th d L) none) Set.univ
        (Prog.lift (.enqueueDma (outS o2 h2) (.here (outB o1 h1)) (.dma (semO o3 h3)) w1 w2 w3)) Q) := by
  subst e1 e2 e3
  unfold outHas
  iintro ⟨⟨⟨%f, %hf, Hs⟩, Hv⟩, Ho⟩ Hk
  ihave Ho := (Entails.of_eq (show (oLoc d ↦[oRowSet b]{fullShare} f₀ : sProp 𝕄)
    = (outB ![256 * b, 0] h1).view.loc (th d L) ↦[(outB ![256 * b, 0] h1).view.set]{fullShare} f₀ by rw [set_outB hb])) $$ Ho
  unfold Prog.lift
  iapply (Transfers.wp_dmaLocal countersEmb 𝒱₀ (th d L) none (default : HIx 1) (outSlot p).view.dmaCredit rfl (View.dmaCredit_pos _ (by decide))
    (Finset.Subset.refl _)) $$ [Ho Hs Hv]
  · isplitl [Hs]; · iexact Hs
    isplitl [Ho]; · iexact Ho
    iexact Hv
  iintro Hfl
  ihave Hfl := (Transfers.Flight_mono countersEmb (th d L) (show iprop(((outB ![256 * b, 0] h1).view.loc (th d L) ↦[(outB ![256 * b, 0] h1).view.set]{fullShare}
      (outB ![256 * b, 0] h1).view.write (Elt F) f₀ ((outSlot p).view.read (Elt F) f) Finset.univ)
      ∗ ((outSlot p).view.loc (th d L) ↦[(outSlot p).view.set]{fullShare} f))
      ⊢ (iprop(done d tab idx b ∗ ∃ f, (outSlot p).view.loc (th d L) ↦[(outSlot p).view.set]{fullShare} f) : sProp 𝕄) by
    rw [hf, pointsTo_congr (write_outB tab idx hb h1 f₀), set_outB hb]
    unfold done
    iintro ⟨Ho, Hs⟩
    isplitl [Ho]; · iexact Ho
    iexists _; iexact Hs)) $$ Hfl
  sl_step
  iapply Hk
  unfold outFly
  iexact Hfl

/-- The wait for it. -/
theorem waitOut {Q : PUnit → sProp 𝕄} {p : Fin 2} {b : ℕ} {o1 o2 o3} (e2 : o2 = ![p.val, 0, 0]) (e3 : o3 = ![p.val])
    {h1 h2 h3} {w1 w2} {O : CellTallies nD τ sig (HIx 1)} {W : Waits sig (HIx 1)} :
    iprop(outFly d L tab idx p b ∗ owes (th d L) O W ∗ Transfers.MayWaits (th d L) (default : HIx 1) O) ⊢
      iprop((done d tab idx b ∗ outFree d L p ∗ owes (th d L) O (insert (SemLoc.dma (cO p), default) W) -∗ Q ⟨⟩) -∗
      wp frame (wpE (defs₀ (F := F)) 𝒱₀ (th d L) none) Set.univ
        (Prog.lift (.waitDma2 (semO o3 h3) (outS o2 h2) (outB o1 h1) w1 w2)) Q) := by
  subst e2 e3
  unfold outFly outFree Prog.lift
  iintro ⟨Hfl, HO, Hmw⟩ Hk
  iapply (Transfers.wp_waitLocalO countersEmb 𝒱₀ (th d L) none (default : HIx 1) (show (outB o1 h1).view.dmaCredit = (outSlot p).view.dmaCredit from rfl)) $$ [Hfl HO Hmw]
  · isplitl [Hfl]; · iexact Hfl
    isplitl [HO]; · iexact HO
    iapply (Transfers.MayWaits.elim (SemLoc.dma (cO p))) $$ Hmw
  iintro ⟨⟨Ho, Hs⟩, Hv, HO⟩
  sl_step
  iapply Hk
  isplitl [Ho]; · iexact Ho
  isplitr [HO]
  · isplitl [Hs]; · iexact Hs
    iexact Hv
  iexact HO

/-- The indirect gather of the rows slot `p` names into slot `p` of the rows, and its wait. -/
theorem gatherStep {Q : PUnit → sProp 𝕄} {p : Fin 2} {b : ℕ} (hidx : ∀ j, (idx j).toNat < 1024) {o1 o2 o3} (e1 : o1 = ![p.val, 0, 0]) (e2 : o2 = ![p.val, 0, 0]) (e3 : o3 = ![p.val, 0, 0])
    {h1 h2 h3} {w1 w2 w3 w4} {w5 : S1024x128.StreamRows 0} {qe : PosShare TreeShare} {O : CellTallies nD τ sig (HIx 1)} {W : Waits sig (HIx 1)} :
    iprop(inHas d L idx q p b ∗ outFree d L p ∗ (eLoc d ↦{qe} tab) ∗ semVal (th d L, .dma semG) 0
        ∗ owes (th d L) O W ∗ Transfers.MayWaits (th d L) (default : HIx 1) O) ⊢
      iprop((inFree d L idx q p ∗ outHas d L tab idx p b ∗ (eLoc d ↦{qe} tab) ∗ semVal (th d L, .dma semG) 0
        ∗ owes (th d L) O (insert (SemLoc.dma semG, default) W) -∗ Q ⟨⟩) -∗
      wp frame (wpE (defs₀ (F := F)) 𝒱₀ (th d L) none) Set.univ
        (do
          SparseCore.enqueueIndirectGather rfl (eAll) (outS o1 h1) gathers_S1024x128_S256x128 (offsS o2 h2) rfl semG w1 rfl w2 w5
          SparseCore.waitIndirectGather semG (eAll) (outS o3 h3) w3 w4
          pure PUnit.unit) Q) := by
  subst e1 e2 e3
  unfold inHas outFree
  iintro ⟨⟨⟨%fi, %hf, Hs⟩, Hi, Hvi⟩, ⟨⟨%fo, Ho⟩, Hvo⟩, He, Hvg, HO, Hmw⟩ Hk
  have hr := read_offs (F := F) (h := h2) idx hf
  have hin : ∀ x, ((offsS ![p.val, 0, 0] h2).view.read (Elt F) fi x).toNat < S1024x128.size gathers_S1024x128_S256x128.axis := fun x => by
    rw [hr x]; exact hidx _
  ihave He := (Entails.of_eq (show (eLoc d ↦{qe} tab : sProp 𝕄) = (eAll).view.loc (th d L) ↦[(eAll).view.set]{qe} tab by rw [set_eAll])) $$ He
  ihave Hs := (Entails.of_eq (show ((inSlot p).view.loc (th d L) ↦[(inSlot p).view.set]{fullShare} fi : sProp 𝕄)
    = (offsS ![p.val, 0, 0] h2).view.loc (th d L) ↦[(offsS ![p.val, 0, 0] h2).view.set]{fullShare} fi by rw [set_offs])) $$ Hs
  have hN : ∀ p : Fin 2, ∀ h : S1024x128.Gathers 0 S256x128, ∑ j, ((outSlot p).slice (S256x128.rowRect h.axis' j) (S256x128.stride_rowRect h.axis' j)).view.dmaCredit
      = (outSlot p).view.dmaCredit := by decide +kernel
  have H := SparseCore.wp_indirectGatherLocal (Q := Q) (k := fun _ => (do
      SparseCore.waitIndirectGather semG (eAll) (outS ![p.val, 0, 0] h3) w3 w4
      pure PUnit.unit)) (hp := rfl) (he := rfl) (hn := rfl) (hsp := w2) (hsrc := w1) (hr := w5) (src := eAll) (dst := outSlot p) (fs := tab) (fd := fo)
      (q := qe) (qo := fullShare) (sem := semG) (defs := defs₀ (F := F)) countersEmb 𝒱₀ (th d L) none (hg := gathers_S1024x128_S256x128) (default : HIx 1)
      (outSlot p).view.dmaCredit (hN p gathers_S1024x128_S256x128) (by decide) hin
  iapply H $$ [He Ho Hs Hvg]
  · isplitl [He]; · iexact He
    isplitl [Ho]; · iexact Ho
    isplitl [Hs]; · iexact Hs
    iexact Hvg
  iintro Hfl
  sl_exec
  iapply (Transfers.wp_waitLocalO countersEmb 𝒱₀ (th d L) none (default : HIx 1) (rfl : (outSlot p).view.dmaCredit = _)) $$ [Hfl HO Hmw]
  · isplitl [Hfl]; · iexact Hfl
    isplitl [HO]; · iexact HO
    iapply (Transfers.MayWaits.elim (SemLoc.dma semG)) $$ Hmw
  iintro ⟨⟨Ho, He, Hs⟩, Hvg, HO⟩
  have hp := payload_eq tab idx hidx hr rfl hin
  ihave Ho := (Entails.of_eq (congrArg (fun v => ((outSlot p).view.loc (th d L) ↦[(outSlot p).view.set]{fullShare} (outSlot p).view.write (Elt F) fo v Finset.univ : sProp 𝕄)) hp)) $$ Ho
  ihave He := (Entails.of_eq (show ((eAll).view.loc (th d L) ↦[(eAll).view.set]{qe} tab : sProp 𝕄) = (eLoc d ↦{qe} tab) by rw [set_eAll])) $$ He
  ihave Hs := (Entails.of_eq (show ((offsS ![p.val, 0, 0] h2).view.loc (th d L) ↦[(offsS ![p.val, 0, 0] h2).view.set]{fullShare} fi : sProp 𝕄)
    = (inSlot p).view.loc (th d L) ↦[(inSlot p).view.set]{fullShare} fi by rw [set_offs])) $$ Hs
  sl_step
  sl_step
  iapply Hk
  unfold inFree outHas
  isplitl [Hs Hi Hvi]
  · isplitl [Hs]; · iexists _; iexact Hs
    isplitl [Hi]; · iexact Hi
    iexact Hvi
  isplitl [Ho Hvo]
  · isplitl [Ho]
    · iexists ((outSlot p).view.write (Elt F) fo (gVal tab idx b) Finset.univ); isplitr
      · ipureintro; exact View.read_write_univ _ _
      · iexact Ho
    iexact Hvo
  isplitl [He]; · iexact He
  isplitl [Hvg]; · iexact Hvg
  iexact HO

end Tile

end Cert.Proof.Gather
-- ==== Proof.GatherBody.lean ====
/-
  One tile's task of the row gather, run: the loop's invariant, one step of it, and the task from its idle slots to its
  blocks of the output at the gathered rows.
-/
module

public import proofs.«01_k».proof.Proof.GatherTile

@[expose] public section

set_option Elab.async false

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eV" => (Memref.whole Cert.GatherIdeal.main_v1_scv : Memref Cert.GatherIdeal.sig Kind.scVector Space.hbm Cert.GatherIdeal.S1024x128 EltTy.f32)
local notation "iV" => (Memref.whole Cert.GatherIdeal.main_v2_scv : Memref Cert.GatherIdeal.sig Kind.scVector Space.hbm Cert.GatherIdeal.S1x18432 EltTy.i32)
local notation "oV" => (Memref.whole Cert.GatherIdeal.main_v3_scv : Memref Cert.GatherIdeal.sig Kind.scVector Space.hbm Cert.GatherIdeal.S18432x128 EltTy.f32)
local notation "isV" => (Memref.whole Cert.GatherIdeal.cc0_scoped0 : Memref Cert.GatherIdeal.sig Kind.scVector Space.vmem Cert.GatherIdeal.S2x1x256 EltTy.i32)
local notation "osV" => (Memref.whole Cert.GatherIdeal.cc0_scoped2 : Memref Cert.GatherIdeal.sig Kind.scVector Space.vmem Cert.GatherIdeal.S2x256x128 EltTy.f32)

section Tile

variable (d : Dev nD) (L : grid0.Coords) (tab : S1024x128.Idx → Elt F .f32) (idx : S1x18432.Idx → BitVec 32)
variable [FloatOps F] (q qe : PosShare TreeShare) (o₀ : S18432x128.Idx → Elt F .f32) (O : CellTallies nD τ sig (HIx 1)) (W : Waits sig (HIx 1))

/-- What the tile owes, and the waits it has recorded: none but its own transfers'. -/
def owing : sProp 𝕄 := iprop(∃ W', ⌜∀ p ∈ W', p ∈ W ∨ p.2 = none⌝ ∗ owes (th d L) O W')

/-- The row number slot of step `k`, before it: its block's copy in flight, or nothing left to copy. -/
def inSt (k : ℕ) : sProp 𝕄 := if k < nB L then inFly d L idx q (par k) (base L + k) else inFree d L idx q (par k)
/-- The row slot of the step before `k`: its block's copy out in flight, or nothing yet. -/
def outSt (k : ℕ) : sProp 𝕄 := if 0 < k then outFly d L tab idx (par (k + 1)) (base L + (k - 1)) else outFree d L (par (k + 1))
/-- The tile's blocks: those whose copy out has been awaited, those not yet reached. -/
def blocks (k : ℕ) : sProp 𝕄 :=
  iprop((bigSep (Finset.range (k - 1)) fun j => done d tab idx (base L + j))
    ∗ bigSep (Finset.Ico k (nB L)) fun j => iprop(oLoc d ↦[oRowSet (base L + j)]{fullShare} o₀))

/-- The loop's invariant, before step `k`. -/
def I (k : ℕ) (acc : BitVec 32 × BitVec 32 × BitVec 32 × BitVec 32 × BitVec 32) : sProp 𝕄 :=
  iprop(⌜k ≤ nB L ∧ acc = carried L k⌝ ∗ Transfers.MayWaits (th d L) (default : HIx 1) O ∗ (eLoc d ↦{qe} tab) ∗ semVal (th d L, .dma semG) 0
    ∗ inSt d L idx q k ∗ inFree d L idx q (par (k + 1)) ∗ outFree d L (par k) ∗ outSt d L tab idx k ∗ blocks d L tab idx o₀ k ∗ owing d L O W)

/-- The words of step `t`. -/
abbrev w6 (t : ℕ) : BitVec 32 := BitVec.ofNat 32 (min (t + 1) (nB L))
abbrev wt (t : ℕ) : BitVec 32 := BitVec.ofNat 32 t

variable {d L tab idx q}

/-- What the body's first part hands on. -/
abbrev Handed (L : grid0.Coords) (t : Fin (k0_t1_loop L).trips) (a6 a7 a8 a9 a10 : BitVec 32) : Type :=
  Σ' (_ : k0_chk3 L a7) (_ : k0_chk2 L a8) (_ : k0_chk1 L t a6 a7 a8 a9 a10) (_ : BitVec 32) (_ : BitVec 32) (_ : BitVec 1) (_ : BitVec 1)
    (_ : BitVec 32) (_ : BitVec 32) (_ : BitVec 32) (_ : BitVec 32) (_ : BitVec 1), BitVec 32

def handed (L : grid0.Coords) (t : Fin (k0_t1_loop L).trips) : Handed L t (w6 L t.val) (wt t.val) (wt t.val) (wt (t.val - 1)) (wt t.val) :=
  ⟨chk3_ok L t, chk2_ok L t, chk1_ok L t, Scf.iv 0#32 1#32 t.val, Scalar.muli 1#32 (v5w L), Scalar.cmpi .eq (Scf.iv 0#32 1#32 t.val) 0#32,
          Scalar.cmpi .eq (Scf.iv 0#32 1#32 t.val) (Scalar.subi (Scalar.muli 1#32 (v5w L)) 1#32), Scalar.addi (wt t.val) (v10w L),
          prevW L (wt t.val), nextW L (wt t.val), (yielded L t.val (w6 L t.val) (wt t.val) (wt t.val) (wt (t.val - 1)) (wt t.val)).1,
          Scalar.cmpi .ne (Scalar.addi (wt t.val) (v10w L)) (nextW L (wt t.val)), 2#32⟩

/-- The body's first part starts the copy of the next block's row numbers, if there is a next block. -/
theorem part1 (h1) (t : Fin (k0_t1_loop L).trips) {Q : Handed L t (w6 L t.val) (wt t.val) (wt t.val) (wt (t.val - 1)) (wt t.val) → sProp 𝕄} :
    inFree d L idx q (par (t.val + 1)) ⊢ iprop((inSt d L idx q (t.val + 1) -∗
        Q (handed L t)) -∗
      wp frame (wpE (defs₀ (F := F)) 𝒱₀ (th d L) none) Set.univ
        (k0_part1 L eV (Memref.isWhole_whole _) iV (Memref.isWhole_whole _) oV (Memref.isWhole_whole _) isV (Memref.isWhole_whole _) cc0_scoped1
          osV (Memref.isWhole_whole _) cc0_scoped3 cc0_scoped4 cc0_scoped5 (v5w L) (v10w L) h1 0#32 1#32 t (w6 L t.val) (wt t.val) (wt t.val) (wt (t.val - 1)) (wt t.val)) Q) := by
  have c1 := chk1_ok L t
  have c2 := chk2_ok L t
  have c3 := chk3_ok L t
  have hQ : ∀ x, x = handed L t → (Q (handed L t) ⊢ Q x) := fun x h => h ▸ .rfl
  rw [k0_part1_eq_skeleton]
  unfold k0_part1_skel
  iintro Hin Hk
  sl_exec
  by_cases hk : t.val + 1 < nB L
  · have hc := (cond3_iff L t).mpr hk
    rw [dif_pos hc]
    rw [wp_bind]
    have h4 : t.val + 1 < 4 := lt_of_le_of_lt hk.le (Nat.lt_succ_of_le (nB_le L))
    have hw : w6 L t.val = BitVec.ofNat 32 (⟨t.val + 1, h4⟩ : Fin 4).val := by
      show BitVec.ofNat 32 _ = _
      rw [min_eq_left hk.le]
    iapply enqIn (block_lt L hk) (off5_eq L t hk) ((congrArg k0_off4 hw).trans (off4_eq _)) ((congrArg k0_off6 hw).trans (off6_eq _)) $$ Hin
    iintro Hin
    sl_exec
    rw [wp_ret]
    imodintro
    iapply hQ
    · rfl
    iapply Hk
    rw [inSt, if_pos hk]
    iexact Hin
  · have hc := fun h => hk ((cond3_iff L t).mp h)
    rw [dif_neg hc]
    sl_exec
    rw [wp_ret]
    imodintro
    iapply hQ
    · rfl
    iapply Hk
    rw [inSt, if_neg hk]
    iexact Hin

theorem insert_own {W W' : Waits sig (HIx 1)} {c : SemLoc sig} (h : ∀ p ∈ W', p ∈ W ∨ p.2 = none) :
    ∀ p ∈ insert (c, (default : HIx 1)) W', p ∈ W ∨ p.2 = none := by
  intro p hp
  rcases Finset.mem_insert.mp hp with rfl | hp
  · exact .inr rfl
  · exact h p hp

theorem owing_open {O : CellTallies nD τ sig (HIx 1)} {W : Waits sig (HIx 1)} :
    (owing d L O W : sProp 𝕄) ⊢ iprop(∃ W', ⌜∀ p ∈ W', p ∈ W ∨ p.2 = none⌝ ∗ owes (th d L) O W') := .rfl

theorem owing_insert {O : CellTallies nD τ sig (HIx 1)} {W W' : Waits sig (HIx 1)} {c : SemLoc sig} (h : ∀ p ∈ W', p ∈ W ∨ p.2 = none) :
    (owes (th d L) O (insert (c, default) W') : sProp 𝕄) ⊢ owing d L O W := by
  iintro H
  unfold owing
  iexists (insert (c, default) W')
  isplitr
  · ipureintro
    exact insert_own h
  · iexact H

/-- The body's second part awaits the block's row numbers and gathers its rows. -/
theorem part2 (hidx : ∀ j, (idx j).toNat < 1024) (h1) (t : Fin (k0_t1_loop L).trips) (hw3 hw2 hw1) (a5 a80 : BitVec 32) (a81 : BitVec 1)
    (a84 a90 : BitVec 32) (a113 : BitVec 1) (c2 : BitVec 32)
    {qe : PosShare TreeShare} {O : CellTallies nD τ sig (HIx 1)} {W : Waits sig (HIx 1)} {Q : PUnit → sProp 𝕄} :
    iprop(inFly d L idx q (par t.val) (base L + t.val) ∗ outFree d L (par t.val) ∗ (eLoc d ↦{qe} tab) ∗ semVal (th d L, .dma semG) 0
        ∗ owing d L O W ∗ Transfers.MayWaits (th d L) (default : HIx 1) O) ⊢
      iprop((inFree d L idx q (par t.val) ∗ outHas d L tab idx (par t.val) (base L + t.val) ∗ (eLoc d ↦{qe} tab) ∗ semVal (th d L, .dma semG) 0
        ∗ owing d L O W -∗ Q ⟨⟩) -∗
      wp frame (wpE (defs₀ (F := F)) 𝒱₀ (th d L) none) Set.univ
        (k0_part2 L eV (Memref.isWhole_whole _) iV (Memref.isWhole_whole _) oV (Memref.isWhole_whole _) isV (Memref.isWhole_whole _) cc0_scoped1
          osV (Memref.isWhole_whole _) cc0_scoped3 cc0_scoped4 cc0_scoped5 h1 t (w6 L t.val) (wt t.val) (wt t.val) (wt (t.val - 1)) (wt t.val)
          hw3 hw2 hw1 a5 a80 a81 a84 a90 a113 c2) Q) := by
  have ht : t.val < nB L := lt_of_lt_of_eq t.isLt (trips_eq L)
  have h4 : t.val < 4 := lt_of_lt_of_le ht ((nB_le L).trans (by omega))
  have hc := cond4_eq L t
  rw [k0_part2_eq_skeleton]
  unfold k0_part2_skel
  iintro ⟨Hin, Hout, He, Hg, HO, #Hmw⟩ Hk
  rw [dif_pos hc]
  rw [wp_bind]
  ihave HO := owing_open $$ HO
  icases HO with ⟨%W', %hW', HO⟩
  iapply waitIn (block_lt L ht) (off7_eq ⟨t.val, h4⟩) (off9_eq ⟨t.val, h4⟩) $$ [Hin HO]
  · iframe
    iexact Hmw
  iintro ⟨Hin, HO⟩
  rw [ite_self]
  iapply gatherStep hidx (off10_eq ⟨t.val, h4⟩) (off11_eq ⟨t.val, h4⟩) (off10_eq ⟨t.val, h4⟩) $$ [Hin Hout He Hg HO]
  · iframe
    iexact Hmw
  iintro ⟨Hin, Hout, He, Hg, HO⟩
  iapply Hk
  iframe
  iapply (owing_insert (F := F) (insert_own hW')) $$ HO

/-! ## The states' changes over a step -/

theorem inSt_fly {k : ℕ} (hk : k < nB L) : inSt (F := F) d L idx q k = inFly d L idx q (par k) (base L + k) := if_pos hk
theorem inSt_end {k : ℕ} (hk : ¬ k < nB L) : inSt (F := F) d L idx q k = inFree d L idx q (par k) := if_neg hk
theorem outSt_succ (k : ℕ) : outSt d L tab idx (k + 1) = outFly d L tab idx (par k) (base L + k) := by
  unfold outSt
  rw [if_pos (Nat.succ_pos k), show k + 1 + 1 = k + 2 from rfl, par_add_two, Nat.add_sub_cancel]
theorem outSt_zero : outSt d L tab idx 0 = outFree d L (par 1) := if_neg (Nat.lt_irrefl 0)

/-- The next block of the output is taken from those not yet reached. -/
theorem blocks_take {o₀ : S18432x128.Idx → Elt F .f32} {k : ℕ} (hk : k < nB L) :
    (bigSep (Finset.Ico k (nB L)) fun j => (iprop(oLoc d ↦[oRowSet (base L + j)]{fullShare} o₀) : sProp 𝕄))
      = iprop((oLoc d ↦[oRowSet (base L + k)]{fullShare} o₀) ∗ bigSep (Finset.Ico (k + 1) (nB L)) fun j => iprop(oLoc d ↦[oRowSet (base L + j)]{fullShare} o₀)) := by
  rw [← Finset.insert_Ico_add_one_left_eq_Ico hk, bigSep_insert (by simp)]
  rfl

/-- The block just awaited joins those at their final rows. -/
theorem blocks_join {k : ℕ} (hk : 0 < k) :
    iprop(done d tab idx (base L + (k - 1)) ∗ bigSep (Finset.range (k - 1)) fun j => done d tab idx (base L + j))
      = (bigSep (Finset.range k) fun j => done d tab idx (base L + j)) := by
  obtain ⟨n, rfl⟩ : ∃ n, k = n + 1 := ⟨k - 1, by omega⟩
  rw [Nat.add_sub_cancel, Finset.range_add_one, bigSep_insert (by simp)]
  rfl

theorem done_congr {k k' : ℕ} (h : k = k') :
    (bigSep (Finset.range k) fun j => done (F := F) d tab idx (base L + j)) = bigSep (Finset.range k') fun j => done d tab idx (base L + j) := by rw [h]

/-- One step of the loop keeps its invariant. -/
theorem body_step (hidx : ∀ j, (idx j).toNat < 1024) (h1) (v41 v45 : BitVec 32) (t : Fin (k0_t1_loop L).trips)
    {qe : PosShare TreeShare} {o₀ : S18432x128.Idx → Elt F .f32} {O : CellTallies nD τ sig (HIx 1)} {W : Waits sig (HIx 1)} :
    I d L tab idx q qe o₀ O W t.val (carried L t.val) ⊢
      wp frame (wpE (defs₀ (F := F)) 𝒱₀ (th d L) none) Set.univ
        (k0_t1_body L eV (Memref.isWhole_whole _) iV (Memref.isWhole_whole _) oV (Memref.isWhole_whole _) isV (Memref.isWhole_whole _) cc0_scoped1
          osV (Memref.isWhole_whole _) cc0_scoped3 cc0_scoped4 cc0_scoped5 (v5w L) (v10w L) (v11w L) h1 v41 0#32 0#32 0#32 0#32 0#32 v45 t (carried L t.val))
        (I d L tab idx q qe o₀ O W (t.val + 1)) := by
  have ht : t.val < nB L := lt_of_lt_of_eq t.isLt (trips_eq L)
  have h4 : t.val < 4 := lt_of_lt_of_le ht ((nB_le L).trans (by omega))
  have hp : t.val - 1 < 4 := by omega
  have hc7 := cond7_eq L t
  have hc : carried L t.val = (w6 L t.val, wt t.val, wt t.val, wt (t.val - 1), wt t.val) := by
    unfold carried stepW
    rw [if_pos ht]
  rw [hc]
  unfold k0_t1_body
  iintro HI
  ihave HI := (show I d L tab idx q qe o₀ O W t.val _ ⊢ _ from .rfl) $$ HI
  unfold I
  icases HI with ⟨-, #Hmw, He, Hg, Hin, Hin', Hout, Hout', Hbl, HO⟩
  dsimp only
  rw [wp_bind]
  iapply part1 h1 t $$ Hin'
  iintro Hin'
  unfold handed
  dsimp only
  rw [wp_bind]
  ihave Hin := (Entails.of_eq (inSt_fly ht)) $$ Hin
  iapply part2 hidx h1 t $$ [Hin Hout He Hg HO]
  · iframe
    iexact Hmw
  iintro ⟨Hin, Hout, He, Hg, HO⟩
  rw [ite_self, dif_pos hc7, wp_bind]
  unfold blocks
  icases Hbl with ⟨Hdone, Hrest⟩
  ihave Hrest := (Entails.of_eq (blocks_take ht)) $$ Hrest
  icases Hrest with ⟨Hb, Hrest⟩
  iapply enqOut (block_lt L ht) (off13_eq L t) (off12_eq ⟨t.val, h4⟩) (off14_eq ⟨t.val, h4⟩) $$ [Hout Hb]
  · iframe
  iintro Hout
  ihave Hout := (Entails.of_eq (outSt_succ t.val).symm) $$ Hout
  ihave Hin := (Entails.of_eq (congrArg (inFree d L idx q) (par_add_two t.val).symm)) $$ Hin
  rw [ite_self]
  by_cases h0 : 0 < t.val
  · have hc9 := (cond9_iff L t).mpr h0
    have hpar : par (t.val - 1) = par (t.val + 1) := by
      obtain ⟨n, hn⟩ : ∃ n, t.val = n + 1 := ⟨t.val - 1, by omega⟩
      rw [hn, show n + 1 + 1 = n + 2 from rfl, par_add_two, Nat.add_sub_cancel]
    rw [dif_pos hc9, wp_bind]
    ihave Hout' := (Entails.of_eq (show outSt d L tab idx t.val = outFly d L tab idx (par (t.val - 1)) (base L + (t.val - 1)) by
      unfold outSt
      rw [if_pos h0, hpar])) $$ Hout'
    ihave HO := owing_open $$ HO
    icases HO with ⟨%W', %hW', HO⟩
    iapply waitOut (off15_eq ⟨t.val - 1, hp⟩) (off17_eq ⟨t.val - 1, hp⟩) $$ [Hout' HO]
    · iframe
      iexact Hmw
    iintro ⟨Hd, Hout', HO⟩
    rw [wp_pure]
    ihave HO := (owing_insert (F := F) hW') $$ HO
    ihave Hout' := (Entails.of_eq (congrArg (outFree d L) hpar)) $$ Hout'
    ihave Hdone := (Entails.of_eq ((blocks_join h0).trans (done_congr (Nat.add_sub_cancel (n := t.val) (m := 1)).symm))) $$ [Hd Hdone]
    · iframe
    imodintro
    isplitr
    · ipureintro
      exact ⟨ht, yielded_eq L t⟩
    iframe
    iexact Hmw
  · have hc9 : ¬ _ := fun h => h0 ((cond9_iff L t).mp h)
    rw [dif_neg hc9, wp_pure]
    ihave Hout' := (Entails.of_eq (show outSt d L tab idx t.val = outFree d L (par (t.val + 1)) from if_neg h0)) $$ Hout'
    ihave Hdone := (Entails.of_eq (done_congr (show t.val - 1 = t.val + 1 - 1 by omega))) $$ Hdone
    imodintro
    isplitr
    · ipureintro
      exact ⟨ht, yielded_eq L t⟩
    iframe
    iexact Hmw

/-- An operation at the head of a program, as that operation and what follows it. -/
theorem op_eq {E : Type → Type*} {α β : Type} (e : E α) (k : α → Prog E β) : Prog.op e k = (Prog.lift e >>= k) := rfl

theorem loop_step (hidx : ∀ j, (idx j).toNat < 1024) (h1) (v41 v45 : BitVec 32) (t : Fin (k0_t1_loop L).trips)
    (acc : BitVec 32 × BitVec 32 × BitVec 32 × BitVec 32 × BitVec 32)
    {qe : PosShare TreeShare} {o₀ : S18432x128.Idx → Elt F .f32} {O : CellTallies nD τ sig (HIx 1)} {W : Waits sig (HIx 1)} :
    I d L tab idx q qe o₀ O W t.val acc ⊢
      wp frame (wpE (defs₀ (F := F)) 𝒱₀ (th d L) none) Set.univ
        (k0_t1_body L eV (Memref.isWhole_whole _) iV (Memref.isWhole_whole _) oV (Memref.isWhole_whole _) isV (Memref.isWhole_whole _) cc0_scoped1
          osV (Memref.isWhole_whole _) cc0_scoped3 cc0_scoped4 cc0_scoped5 (v5w L) (v10w L) (v11w L) h1 v41 0#32 0#32 0#32 0#32 0#32 v45 t acc)
        (I d L tab idx q qe o₀ O W (t.val + 1)) := by
  iintro HI
  ihave HI := (show I d L tab idx q qe o₀ O W t.val acc ⊢ iprop(⌜t.val ≤ nB L ∧ acc = carried L t.val⌝ ∗ I d L tab idx q qe o₀ O W t.val acc) by
    unfold I
    iintro ⟨%h, H⟩
    isplitr
    · ipureintro; exact h
    isplitr
    · ipureintro; exact h
    · iexact H) $$ HI
  icases HI with ⟨%h, HI⟩
  obtain ⟨-, rfl⟩ := h
  iapply body_step hidx h1 v41 v45 t $$ HI

/-- The counter of started copies before the loop, and the loop's end. -/
abbrev v41w (L : grid0.Coords) : BitVec 32 := Scalar.select (Scalar.andi 1#1 (Scalar.cmpi .sgt (Scalar.muli 1#32 (v5w L)) 0#32)) (Scalar.addi 0#32 1#32) 0#32
abbrev v45w (L : grid0.Coords) : BitVec 32 := Scalar.muli (Scalar.divsi (Scalar.subi (v11w L) 0#32) 1#32) 1#32

abbrev Started : Type := Σ' (_ : BitVec 32) (_ : BitVec 32) (_ : BitVec 32) (_ : BitVec 32) (_ : BitVec 32) (_ : BitVec 32), BitVec 32

/-- Before the loop the copy of the first block's row numbers starts. -/
theorem part5 (h1) {Q : Started → sProp 𝕄} :
    inFree d L idx q 0 ⊢ iprop((inFly d L idx q 0 (base L) -∗ Q ⟨v41w L, 0#32, 0#32, 0#32, 0#32, 0#32, v45w L⟩) -∗
      wp frame (wpE (defs₀ (F := F)) 𝒱₀ (th d L) none) Set.univ
        (k0_part5 L eV (Memref.isWhole_whole _) iV (Memref.isWhole_whole _) oV (Memref.isWhole_whole _) isV (Memref.isWhole_whole _) cc0_scoped1
          osV (Memref.isWhole_whole _) cc0_scoped3 cc0_scoped4 cc0_scoped5 (v5w L) (v10w L) (v11w L) h1) Q) := by
  have h2 := cond2_eq L
  rw [k0_part5_eq_skeleton]
  unfold k0_part5_skel
  iintro Hi Hk
  dsimp only
  rw [dif_pos h2, wp_bind]
  iapply enqIn (b := base L) (by have := block_lt L (nB_pos L); omega) (off2_eq L) k0_off1_eq k0_off3_eq $$ Hi
  iintro Hi
  rw [wp_pure]
  imodintro
  iapply Hk $$ Hi

/-- The loop, and the wait for the last block. -/
theorem part6 (hidx : ∀ j, (idx j).toNat < 1024) (h1) (v45 : BitVec 32)
    {qe : PosShare TreeShare} {o₀ : S18432x128.Idx → Elt F .f32} {O : CellTallies nD τ sig (HIx 1)} {W : Waits sig (HIx 1)} {Q : PUnit → sProp 𝕄} :
    I d L tab idx q qe o₀ O W 0 (v41w L, 0#32, 0#32, 0#32, 0#32) ⊢ iprop((((eLoc d ↦{qe} tab) ∗ semVal (th d L, .dma semG) 0
          ∗ inFree d L idx q (par (nB L)) ∗ inFree d L idx q (par (nB L + 1)) ∗ outFree d L (par (nB L)) ∗ outFree d L (par (nB L + 1))
          ∗ (bigSep (Finset.range (nB L)) fun j => done d tab idx (base L + j)) ∗ owing d L O W) -∗ Q ⟨⟩) -∗
      wp frame (wpE (defs₀ (F := F)) 𝒱₀ (th d L) none) Set.univ
        (k0_part6 L eV (Memref.isWhole_whole _) iV (Memref.isWhole_whole _) oV (Memref.isWhole_whole _) isV (Memref.isWhole_whole _) cc0_scoped1
          osV (Memref.isWhole_whole _) cc0_scoped3 cc0_scoped4 cc0_scoped5 (v5w L) (v10w L) (v11w L) h1 (v41w L) 0#32 0#32 0#32 0#32 0#32 v45) Q) := by
  have h18 := cond18_eq L
  have hn : nB L - 1 < 4 := by have := nB_le L; omega
  have hnp := nB_pos L
  rw [k0_part6_eq_skeleton]
  unfold k0_part6_skel
  iintro HI Hk
  dsimp only
  rw [wp_bind]
  iapply Scf.wp_for _ _ _ _ _ _ _ _ _ (I d L tab idx q qe o₀ O W) (fun t acc => loop_step hidx h1 (v41w L) v45 t acc)
  isplitl [HI]
  · iexact HI
  iintro %acc HI
  ihave HI := (show I d L tab idx q qe o₀ O W (k0_t1_loop L).trips acc ⊢ I d L tab idx q qe o₀ O W (nB L) acc by rw [trips_eq L]) $$ HI
  unfold I
  icases HI with ⟨%hacc, #Hmw, He, Hg, Hin, Hin', Hout, Hout', Hbl, HO⟩
  obtain ⟨-, rfl⟩ := hacc
  have hc : carried L (nB L) = (BitVec.ofNat 32 (min (nB L + 1) (nB L)), BitVec.ofNat 32 (nB L), BitVec.ofNat 32 (nB L), BitVec.ofNat 32 (nB L - 1), 0#32) := by
    unfold carried stepW
    rw [if_neg (Nat.lt_irrefl _)]
  rw [hc]
  dsimp only
  rw [wp_bind]
  iapply Scf.wp_for _ _ _ _ _ _ _ _ _ (fun _ a => iprop(⌜a = _⌝)) (fun k => absurd k.isLt (by have := trips2_eq L; exact fun h => absurd (lt_of_lt_of_eq h this) (Nat.not_lt_zero _)))
  isplitr
  · ipureintro
    rfl
  iintro %a %ha
  subst ha
  have c7 := chk7_ok L
  have c8 := chk8_ok L
  sl_exec
  rw [op_eq, wp_bind]
  dsimp only
  ihave Hin := (Entails.of_eq (inSt_end (Nat.lt_irrefl (nB L)))) $$ Hin
  obtain ⟨n, hn1⟩ : ∃ n, nB L = n + 1 := ⟨nB L - 1, by omega⟩
  have hpar : par (nB L - 1) = par (nB L + 1) := by
    rw [hn1, show n + 1 + 1 = n + 2 from rfl, par_add_two, Nat.add_sub_cancel]
  ihave Hout' := (Entails.of_eq (show outSt d L tab idx (nB L) = outFly d L tab idx (par (nB L - 1)) (base L + (nB L - 1)) by
    unfold outSt
    rw [if_pos (by omega), hpar])) $$ Hout'
  ihave HO := owing_open $$ HO
  icases HO with ⟨%W', %hW', HO⟩
  iapply waitOut (off35_eq ⟨nB L - 1, hn⟩) (off34_eq ⟨nB L - 1, hn⟩) $$ [Hout' HO]
  · iframe
    iexact Hmw
  iintro ⟨Hd, Hout', HO⟩
  rw [wp_pure]
  imodintro
  ihave HO := (owing_insert (F := F) hW') $$ HO
  ihave Hout' := (Entails.of_eq (congrArg (outFree d L) hpar)) $$ Hout'
  unfold blocks
  icases Hbl with ⟨Hdone, -⟩
  ihave Hdone := (Entails.of_eq (blocks_join (lt_of_lt_of_le Nat.zero_lt_two hnp))) $$ [Hd Hdone]
  · iframe
  iapply Hk
  iframe

theorem cc0_k_eq : cc0_k (F := F) L eV (Memref.isWhole_whole _) iV (Memref.isWhole_whole _) oV (Memref.isWhole_whole _) isV (Memref.isWhole_whole _) cc0_scoped1
          osV (Memref.isWhole_whole _) cc0_scoped3 cc0_scoped4 cc0_scoped5
    = (k0_part5 L eV (Memref.isWhole_whole _) iV (Memref.isWhole_whole _) oV (Memref.isWhole_whole _) isV (Memref.isWhole_whole _) cc0_scoped1
          osV (Memref.isWhole_whole _) cc0_scoped3 cc0_scoped4 cc0_scoped5 (v5w L) (v10w L) (v11w L) (cond1_eq L) >>= fun a =>
        k0_part6 L eV (Memref.isWhole_whole _) iV (Memref.isWhole_whole _) oV (Memref.isWhole_whole _) isV (Memref.isWhole_whole _) cc0_scoped1
          osV (Memref.isWhole_whole _) cc0_scoped3 cc0_scoped4 cc0_scoped5 (v5w L) (v10w L) (v11w L) (cond1_eq L) a.1 a.2.1 a.2.2.1 a.2.2.2.1 a.2.2.2.2.1 a.2.2.2.2.2.1 a.2.2.2.2.2.2 >>= fun _ => pure PUnit.unit) := by
  rw [cc0_k_eq_skeleton]
  unfold cc0_k_skel
  dsimp only
  rw [dif_pos (cond1_eq L)]
  rfl

/-- The task from its idle slots: its blocks of the output end at the gathered rows, and the slots idle. -/
theorem task (hidx : ∀ j, (idx j).toNat < 1024)
    {qe : PosShare TreeShare} {o₀ : S18432x128.Idx → Elt F .f32} {O : CellTallies nD τ sig (HIx 1)} {W : Waits sig (HIx 1)} :
    iprop(Transfers.MayWaits (th d L) (default : HIx 1) O ∗ (eLoc d ↦{qe} tab) ∗ semVal (th d L, .dma semG) 0
        ∗ inFree d L idx q 0 ∗ inFree d L idx q 1 ∗ outFree d L 0 ∗ outFree d L 1
        ∗ (bigSep (Finset.range (nB L)) fun j => iprop(oLoc d ↦[oRowSet (base L + j)]{fullShare} o₀)) ∗ owing d L O W) ⊢
      wp frame (wpE (defs₀ (F := F)) 𝒱₀ (th d L) none) Set.univ
        (cc0_k L eV (Memref.isWhole_whole _) iV (Memref.isWhole_whole _) oV (Memref.isWhole_whole _) isV (Memref.isWhole_whole _) cc0_scoped1
          osV (Memref.isWhole_whole _) cc0_scoped3 cc0_scoped4 cc0_scoped5)
        fun _ => iprop((eLoc d ↦{qe} tab) ∗ semVal (th d L, .dma semG) 0
          ∗ inFree d L idx q 0 ∗ inFree d L idx q 1 ∗ outFree d L 0 ∗ outFree d L 1
          ∗ (bigSep (Finset.range (nB L)) fun j => done d tab idx (base L + j)) ∗ owing d L O W) := by
  have hnp := nB_pos L
  rw [cc0_k_eq]
  iintro ⟨#Hmw, He, Hg, Hi0, Hi1, Ho0, Ho1, Hbl, HO⟩
  rw [wp_bind]
  iapply part5 (cond1_eq L) $$ Hi0
  iintro Hi0
  dsimp only
  rw [wp_bind]
  iapply part6 (tab := tab) (q := q) (qe := qe) (o₀ := o₀) (O := O) (W := W) hidx (cond1_eq L) (v45w L) $$ [Hi0 Hi1 Ho0 Ho1 He Hg Hbl HO]
  · unfold I blocks
    isplitr
    · ipureintro
      exact ⟨Nat.zero_le _, first_eq L⟩
    rw [outSt_zero, inSt_fly (lt_of_lt_of_le Nat.zero_lt_two hnp), Nat.zero_sub, Finset.range_zero, bigSep_empty, Finset.range_eq_Ico,
      show par 0 = 0 from rfl, show par (0 + 1) = 1 from rfl, Nat.add_zero]
    iframe
    isplitr
    · iexact Hmw
    · iempintro
  iintro ⟨He, Hg, Hi0, Hi1, Ho0, Ho1, Hbl, HO⟩
  rw [wp_pure]
  imodintro
  by_cases he : nB L % 2 = 0
  · rw [show par (nB L) = 0 from Fin.ext he, show par (nB L + 1) = 1 from Fin.ext (show (nB L + 1) % 2 = 1 by omega)]
    iframe
  · rw [show par (nB L) = 1 from Fin.ext (show nB L % 2 = 1 by omega), show par (nB L + 1) = 0 from Fin.ext (show (nB L + 1) % 2 = 0 by omega)]
    iframe

end Tile

end Cert.Proof.Gather
-- ==== Proof.GatherLaunch.lean ====
/-
  The row gather's SparseCore call: what its tiles are handed and bring back, each tile's task as the launch asks for it,
  and how the call's arrays split over the tiles: the table and the list of row numbers by shares, the output by blocks.
-/
module

public import proofs.«01_k».proof.Proof.GatherBody

@[expose] public section

set_option Elab.async false

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eV" => (Memref.whole Cert.GatherIdeal.main_v1_scv : Memref Cert.GatherIdeal.sig Kind.scVector Space.hbm Cert.GatherIdeal.S1024x128 EltTy.f32)
local notation "iV" => (Memref.whole Cert.GatherIdeal.main_v2_scv : Memref Cert.GatherIdeal.sig Kind.scVector Space.hbm Cert.GatherIdeal.S1x18432 EltTy.i32)
local notation "oV" => (Memref.whole Cert.GatherIdeal.main_v3_scv : Memref Cert.GatherIdeal.sig Kind.scVector Space.hbm Cert.GatherIdeal.S18432x128 EltTy.f32)
local notation "isV" => (Memref.whole Cert.GatherIdeal.cc0_scoped0 : Memref Cert.GatherIdeal.sig Kind.scVector Space.vmem Cert.GatherIdeal.S2x1x256 EltTy.i32)
local notation "osV" => (Memref.whole Cert.GatherIdeal.cc0_scoped2 : Memref Cert.GatherIdeal.sig Kind.scVector Space.vmem Cert.GatherIdeal.S2x256x128 EltTy.f32)

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The tile at SparseCore `c`, subcore `s`. -/
def coords (c : Fin (grid0.bound 0)) (s : Fin (grid0.bound 1)) : grid0.Coords :=
  fun | 0 => c | 1 => s | ⟨_ + 2, h⟩ => absurd h (Nat.not_lt.2 (Nat.le_add_left _ _))

/-- A tile's share of the table and of the list of row numbers. -/
abbrev sh (L : grid0.Coords) : PosShare TreeShare := Transfers.shareTokN fullShare (wid L)

/-! ## What the call's tiles are handed and bring back -/

section Call

variable (tab : Dev nD → S1024x128.Idx → Elt F .f32) (idx : Dev nD → S1x18432.Idx → BitVec 32) (o₀ : Dev nD → S18432x128.Idx → Elt F .f32)

/-- A tile's blocks of the output, at contents `f`. -/
def outBlocks (d : Dev nD) (L : grid0.Coords) (f : S18432x128.Idx → Elt F .f32) : sProp 𝕄 :=
  bigSep (Finset.range (nB L)) fun j => iprop(oLoc d ↦[oRowSet (base L + j)]{fullShare} f)
/-- What a tile is handed. -/
def given (d : Dev nD) (L : grid0.Coords) : sProp 𝕄 :=
  iprop((eLoc d ↦{sh L} tab d) ∗ (iLoc d ↦{sh L} idx d) ∗ outBlocks d L (o₀ d))
/-- What it brings back: its blocks of the output, at the gathered rows. -/
def brought (d : Dev nD) (L : grid0.Coords) : sProp 𝕄 := outBlocks d L (G (tab d) (idx d))

instance outBlocks_storable (d : Dev nD) (L : grid0.Coords) (f : S18432x128.Idx → Elt F .f32) :
    BI.Storable (upEmb : UEmb _ 𝕄) (outBlocks d L f) := by unfold outBlocks; infer_instance
instance given_storable (d : Dev nD) (L : grid0.Coords) : BI.Storable (upEmb : UEmb _ 𝕄) (given tab idx o₀ d L) := by
  unfold given; infer_instance
instance brought_storable (d : Dev nD) (L : grid0.Coords) : BI.Storable (upEmb : UEmb _ 𝕄) (brought tab idx d L) := by
  unfold brought; infer_instance

/-- A SparseCore is handed what its sixteen tiles are, and brings back what they do. -/
def P : (K (F := F)).Pay (nD := nD) (Val := Elt F) (Name := ℕ) (U := UU) where
  st := fun q d c => match q with | 0 => bigSep Finset.univ fun i : Fin (grid0.bound 1) => given tab idx o₀ d (coords c i)
  dn := fun q d c => match q with | 0 => bigSep Finset.univ fun i : Fin (grid0.bound 1) => brought tab idx d (coords c i)
  go := fun q d c i => match q with | 0 => given tab idx o₀ d (coords c i)
  td := fun q d c i => match q with | 0 => brought tab idx d (coords c i)
  x := fun _ _ => iprop(emp)

instance P_storable : (P (F := F) tab idx o₀).IsStorable where
  st q d c := match q with
    | 0 => (inferInstance : BI.Storable (upEmb : UEmb _ 𝕄) (bigSep Finset.univ fun i : Fin (grid0.bound 1) => given tab idx o₀ d (coords c i)))
  dn q d c := match q with
    | 0 => (inferInstance : BI.Storable (upEmb : UEmb _ 𝕄) (bigSep Finset.univ fun i : Fin (grid0.bound 1) => brought tab idx d (coords c i)))
  go q d c i := match q with
    | 0 => (inferInstance : BI.Storable (upEmb : UEmb _ 𝕄) (given tab idx o₀ d (coords c i)))
  td q d c i := match q with
    | 0 => (inferInstance : BI.Storable (upEmb : UEmb _ 𝕄) (brought tab idx d (coords c i)))

theorem vecSplit : (K (F := F)).VecSplit' (P tab idx o₀) 0 := by
  intro d c
  show (bigSep Finset.univ fun i : Fin (grid0.bound 1) => given tab idx o₀ d (coords c i)) ⊢ |={Set.univ}=> iprop(
      (bigSep Finset.univ fun i : Fin (grid0.bound 1) => given tab idx o₀ d (coords c i))
      ∗ ((bigSep Finset.univ fun i : Fin (grid0.bound 1) => brought tab idx d (coords c i))
          -∗ (bigSep Finset.univ fun i : Fin (grid0.bound 1) => brought tab idx d (coords c i))))
  iintro H; imodintro
  isplitl [H]; · iexact H
  iintro H; iexact H

/-! ## The tile's scratch: the two slots of each buffer, the five semaphores -/

section Scratch

variable (d : Dev nD) (L : grid0.Coords)

theorem set_inSlot (p : Fin 2) : (inSlot p).view.set = Finset.univ.filter fun x : S2x1x256.Idx => (x 0).val = p.val := by
  show (((isV).view.slice (Rect.unit (s := S2x1x256) ![p.val, 0, 0] S1x1x256.size (inb_is p))).reshape S1x256 squeezes_S1x1x256_S1x256.numel_eq).set = _
  rw [View.set_reshape]
  ext x
  rw [show ((isV).view.slice (Rect.unit (s := S2x1x256) ![p.val, 0, 0] S1x1x256.size (inb_is p))).set
      = (Rect.unit (s := S2x1x256) ![p.val, 0, 0] S1x1x256.size (inb_is p)).set from View.set_slice_whole _ _, Rect.mem_set_unit]
  have h1 : (x 1).val < 1 := (x 1).isLt
  have h2 : (x 2).val < 256 := (x 2).isLt
  simp only [Finset.mem_filter, Finset.mem_univ, true_and, Fin.forall_fin_succ, S1x1x256]
  simp
  omega
theorem set_outSlot (p : Fin 2) : (outSlot p).view.set = Finset.univ.filter fun x : S2x256x128.Idx => (x 0).val = p.val := by
  show (((osV).view.slice (Rect.unit (s := S2x256x128) ![p.val, 0, 0] S1x256x128.size (inb_os p))).reshape S256x128 squeezes_S1x256x128_S256x128.numel_eq).set = _
  rw [View.set_reshape]
  ext x
  rw [show ((osV).view.slice (Rect.unit (s := S2x256x128) ![p.val, 0, 0] S1x256x128.size (inb_os p))).set
      = (Rect.unit (s := S2x256x128) ![p.val, 0, 0] S1x256x128.size (inb_os p)).set from View.set_slice_whole _ _, Rect.mem_set_unit]
  have h1 : (x 1).val < 256 := (x 1).isLt
  have h2 : (x 2).val < 128 := (x 2).isLt
  simp only [Finset.mem_filter, Finset.mem_univ, true_and, Fin.forall_fin_succ, S1x256x128]
  simp
  omega

/-- A buffer of two slots is its slots. -/
theorem two_slots {ℓ : Loc nD τ sig} {A B : Finset (Idx ℓ)} (hd : Disjoint A B) (hu : A ∪ B = Finset.univ) :
    (iprop(∃ f, ℓ ↦{fullShare} f) : sProp 𝕄) ⊣⊢ iprop((∃ f, ℓ ↦[A]{fullShare} f) ∗ (∃ f, ℓ ↦[B]{fullShare} f)) := by
  constructor
  · iintro ⟨%f, H⟩
    ihave H := (Entails.of_eq (show (ℓ ↦{fullShare} f : sProp 𝕄) = ℓ ↦[A ∪ B]{fullShare} f by rw [hu])) $$ H
    ihave H := (pointsTo_union hd).1 $$ H
    icases H with ⟨HA, HB⟩
    isplitl [HA]
    · iexists f; iexact HA
    · iexists f; iexact HB
  · iintro ⟨⟨%f, HA⟩, ⟨%g, HB⟩⟩
    ihave H := (pointsTo_join hd) $$ [HA HB]
    · isplitl [HA] <;> iassumption
    ihave H := (Entails.of_eq (show (ℓ ↦[A ∪ B]{fullShare} (B.piecewise g f) : sProp 𝕄) = ℓ ↦{fullShare} (B.piecewise g f) by rw [hu])) $$ H
    iexists _; iexact H

theorem fin2 (n : ℕ) (h : n < 2) : n = 0 ∨ n = 1 := by omega

theorem in_slots : (iprop(∃ f, (th d L).loc cc0_scoped0 ↦{fullShare} f) : sProp 𝕄)
    ⊣⊢ iprop((∃ f, (inSlot 0).view.loc (th d L) ↦[(inSlot 0).view.set]{fullShare} f) ∗ (∃ f, (inSlot 1).view.loc (th d L) ↦[(inSlot 1).view.set]{fullShare} f)) := by
  refine two_slots (ℓ := (th d L).loc cc0_scoped0) ?_ ?_
  · rw [set_inSlot, set_inSlot, Finset.disjoint_filter]
    intro x _ h; rw [h]; decide
  · rw [set_inSlot, set_inSlot]
    ext x
    have h0 : (x 0).val < 2 := (x 0).isLt
    simpa using fin2 _ h0
theorem out_slots : (iprop(∃ f, (th d L).loc cc0_scoped2 ↦{fullShare} f) : sProp 𝕄)
    ⊣⊢ iprop((∃ f, (outSlot 0).view.loc (th d L) ↦[(outSlot 0).view.set]{fullShare} f) ∗ (∃ f, (outSlot 1).view.loc (th d L) ↦[(outSlot 1).view.set]{fullShare} f)) := by
  refine two_slots (ℓ := (th d L).loc cc0_scoped2) ?_ ?_
  · rw [set_outSlot, set_outSlot, Finset.disjoint_filter]
    intro x _ h; rw [h]; decide
  · rw [set_outSlot, set_outSlot]
    ext x
    have h0 : (x 0).val < 2 := (x 0).isLt
    simpa using fin2 _ h0

/-- The two buffers are among the tile's own. -/
theorem bufs_own : (ownBufs (th d L) : sProp 𝕄)
    = iprop((∃ f, (th d L).loc cc0_scoped0 ↦{fullShare} f) ∗ (∃ f, (th d L).loc cc0_scoped2 ↦{fullShare} f)
      ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- The five semaphores of the task. -/
abbrev five : Finset (GSem nD τ sig) :=
  {(th d L, .dma (cI 0)), (th d L, .dma (cI 1)), (th d L, .dma (cO 0)), (th d L, .dma (cO 1)), (th d L, .dma semG)}

theorem five_own : five d L ⊆ ownCells (th d L) := by
  intro g hg
  simp only [five, Finset.mem_insert, Finset.mem_singleton] at hg
  rcases hg with h | h | h | h | h <;> subst h <;> refine mem_ownCells.mpr ⟨rfl, ?_⟩
  · show (SemLoc.dma (cI 0) : SemLoc sig).isScoped .scVector = true; decide
  · show (SemLoc.dma (cI 1) : SemLoc sig).isScoped .scVector = true; decide
  · show (SemLoc.dma (cO 0) : SemLoc sig).isScoped .scVector = true; decide
  · show (SemLoc.dma (cO 1) : SemLoc sig).isScoped .scVector = true; decide
  · show (SemLoc.dma semG : SemLoc sig).isScoped .scVector = true; decide

theorem sems_own : (ownSems0 (th d L) : sProp 𝕄)
    = iprop((semVal (th d L, .dma (cI 0)) 0 ∗ semVal (th d L, .dma (cI 1)) 0 ∗ semVal (th d L, .dma (cO 0)) 0 ∗ semVal (th d L, .dma (cO 1)) 0
        ∗ semVal (th d L, .dma semG) 0) ∗ bigSep (ownCells (th d L) \ five d L) fun g => semVal g 0) := by
  have ne : ∀ {a b : DmaSem sig}, a ≠ b → ((th d L, SemLoc.dma a) : GSem nD τ sig) ≠ (th d L, .dma b) := fun h e => h (by injection e with _ e; injection e)
  unfold SparseCore.Cfg.ownSems0
  rw [bigSep_sdiff_split (five_own d L), five,
    bigSep_insert (by simp only [Finset.mem_insert, Finset.mem_singleton, not_or]; exact ⟨ne (by decide), ne (by decide), ne (by decide), ne (by decide)⟩),
    bigSep_insert (by simp only [Finset.mem_insert, Finset.mem_singleton, not_or]; exact ⟨ne (by decide), ne (by decide), ne (by decide)⟩),
    bigSep_insert (by simp only [Finset.mem_insert, Finset.mem_singleton, not_or]; exact ⟨ne (by decide), ne (by decide)⟩),
    bigSep_insert (by simp only [Finset.mem_singleton]; exact ne (by decide)), bigSep_singleton]
  rfl

end Scratch

/-! ## The task, as the launch asks for it -/

/-- What of the tile's scratch the task does not touch. -/
def unused (d : Dev nD) (L : grid0.Coords) : sProp 𝕄 := iprop(
      (bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f))
        ∗ bigSep (ownCells (th d L) \ five d L) fun g => semVal g 0)

/-- The task's own part of the scratch, its slots free and its semaphores at zero. -/
def slots (d : Dev nD) (L : grid0.Coords) : sProp 𝕄 := iprop(
  (∃ f, (inSlot 0).view.loc (th d L) ↦[(inSlot 0).view.set]{fullShare} f) ∗ (∃ f, (inSlot 1).view.loc (th d L) ↦[(inSlot 1).view.set]{fullShare} f)
  ∗ (∃ f, (outSlot 0).view.loc (th d L) ↦[(outSlot 0).view.set]{fullShare} f) ∗ (∃ f, (outSlot 1).view.loc (th d L) ↦[(outSlot 1).view.set]{fullShare} f)
  ∗ semVal (th d L, .dma (cI 0)) 0 ∗ semVal (th d L, .dma (cI 1)) 0 ∗ semVal (th d L, .dma (cO 0)) 0 ∗ semVal (th d L, .dma (cO 1)) 0
        ∗ semVal (th d L, .dma semG) 0)

theorem scratch (d : Dev nD) (L : grid0.Coords) :
    (iprop(ownBufs (th d L) ∗ ownSems0 (th d L)) : sProp 𝕄) ⊣⊢ iprop(unused d L ∗ slots d L) := by
  rw [sems_own, bufs_own]
  unfold unused slots
  constructor
  · iintro ⟨⟨Hin, Hout, Hbufs⟩, ⟨⟨Hi0, Hi1, Ho0, Ho1, Hg⟩, Hsems⟩⟩
    ihave Hin := (in_slots d L).1 $$ Hin
    icases Hin with ⟨Hin0, Hin1⟩
    ihave Hout := (out_slots d L).1 $$ Hout
    icases Hout with ⟨Hout0, Hout1⟩
    isplitl [Hbufs Hsems]
    · isplitl [Hbufs] <;> iassumption
    isplitl [Hin0]; · iexact Hin0
    isplitl [Hin1]; · iexact Hin1
    isplitl [Hout0]; · iexact Hout0
    isplitl [Hout1]; · iexact Hout1
    isplitl [Hi0]; · iexact Hi0
    isplitl [Hi1]; · iexact Hi1
    isplitl [Ho0]; · iexact Ho0
    isplitl [Ho1]; · iexact Ho1
    iexact Hg
  · iintro ⟨⟨Hbufs, Hsems⟩, ⟨Hin0, Hin1, Hout0, Hout1, Hi0, Hi1, Ho0, Ho1, Hg⟩⟩
    ihave Hin := (in_slots d L).2 $$ [Hin0 Hin1]
    · isplitl [Hin0]; · iexact Hin0
      iexact Hin1
    ihave Hout := (out_slots d L).2 $$ [Hout0 Hout1]
    · isplitl [Hout0]; · iexact Hout0
      iexact Hout1
    isplitl [Hin Hout Hbufs]
    · isplitl [Hin]; · iexact Hin
      isplitl [Hout]; · iexact Hout
      iexact Hbufs
    isplitr [Hsems]
    · isplitl [Hi0]; · iexact Hi0
      isplitl [Hi1]; · iexact Hi1
      isplitl [Ho0]; · iexact Ho0
      isplitl [Ho1]; · iexact Ho1
      iexact Hg
    iexact Hsems

variable [FloatOps F]

/-- The task's precondition, from what the tile is handed and its slots. -/
theorem tile_pre (d : Dev nD) (L : grid0.Coords) (O : CellTallies nD τ sig (HIx 1)) (W : Waits sig (HIx 1)) :
    (iprop(Transfers.MayWaits (th d L) (default : HIx 1) O ∗ given tab idx o₀ d L ∗ slots d L ∗ owes (th d L) O W) : sProp 𝕄)
      ⊢ iprop(Transfers.MayWaits (th d L) (default : HIx 1) O ∗ (eLoc d ↦{sh L} tab d) ∗ semVal (th d L, .dma semG) 0
        ∗ inFree d L (idx d) (sh L) 0 ∗ inFree d L (idx d) (sh L) 1 ∗ outFree d L 0 ∗ outFree d L 1
        ∗ (bigSep (Finset.range (nB L)) fun j => iprop(oLoc d ↦[oRowSet (base L + j)]{fullShare} o₀ d)) ∗ owing d L O W) := by
  unfold given slots inFree outFree owing outBlocks
  iintro ⟨#Hmw, ⟨He, Hi, Hbl⟩, ⟨Hin0, Hin1, Hout0, Hout1, Hi0, Hi1, Ho0, Ho1, Hg⟩, HO⟩
  ihave Hi := (pointsTo_share (PosShare.mem_left_op_right (sh L))).1 $$ Hi
  icases Hi with ⟨Hil, Hir⟩
  isplitl []; · iexact Hmw
  isplitl [He]; · iexact He
  isplitl [Hg]; · iexact Hg
  isplitl [Hin0 Hil Hi0]
  · isplitl [Hin0]; · iexact Hin0
    isplitl [Hil]; · iexact Hil
    iexact Hi0
  isplitl [Hin1 Hir Hi1]
  · isplitl [Hin1]; · iexact Hin1
    isplitl [Hir]; · iexact Hir
    iexact Hi1
  isplitl [Hout0 Ho0]
  · isplitl [Hout0]; · iexact Hout0
    iexact Ho0
  isplitl [Hout1 Ho1]
  · isplitl [Hout1]; · iexact Hout1
    iexact Ho1
  isplitl [Hbl]; · iexact Hbl
  iexists W
  isplitr
  · ipureintro; exact fun p hp => Or.inl hp
  iexact HO

/-- What the task leaves, as what the tile brings back and its slots. -/
theorem tile_post (d : Dev nD) (L : grid0.Coords) (O : CellTallies nD τ sig (HIx 1)) (W : Waits sig (HIx 1)) :
    (iprop((eLoc d ↦{sh L} tab d) ∗ semVal (th d L, .dma semG) 0
        ∗ inFree d L (idx d) (sh L) 0 ∗ inFree d L (idx d) (sh L) 1 ∗ outFree d L 0 ∗ outFree d L 1
        ∗ (bigSep (Finset.range (nB L)) fun j => done d (tab d) (idx d) (base L + j)) ∗ owing d L O W) : sProp 𝕄)
      ⊢ iprop(brought tab idx d L ∗ slots d L ∗ owing d L O W) := by
  unfold brought slots inFree outFree outBlocks done
  iintro ⟨-, Hg, ⟨Hin0, -, Hi0⟩, ⟨Hin1, -, Hi1⟩, ⟨Hout0, Ho0⟩, ⟨Hout1, Ho1⟩, Hbl, HO⟩
  isplitl [Hbl]; · iexact Hbl
  isplitr [HO]
  · isplitl [Hin0]; · iexact Hin0
    isplitl [Hin1]; · iexact Hin1
    isplitl [Hout0]; · iexact Hout0
    isplitl [Hout1]; · iexact Hout1
    isplitl [Hi0]; · iexact Hi0
    isplitl [Hi1]; · iexact Hi1
    isplitl [Ho0]; · iexact Ho0
    isplitl [Ho1]; · iexact Ho1
    iexact Hg
  iexact HO

/-- The scratch the launch hands a tile, as the task's slots and the rest. -/
theorem scoped_slots (d : Dev nD) (L : grid0.Coords) :
    (iprop(scopedBufs (Val := Elt F) (th d L) ∗ scopedSems0 (th d L)) : sProp 𝕄) ⊣⊢ iprop(unused d L ∗ slots d L) := by
  have e : (iprop(scopedBufs (Val := Elt F) (th d L) ∗ scopedSems0 (th d L)) : sProp 𝕄) = iprop(ownBufs (th d L) ∗ ownSems0 (th d L)) :=
    congrArg₂ _ ((K (F := F)).scopedBufs_V facts d (cV L) (jV L)) (SparseCore.Cfg.scopedSems0_V (Val := Elt F) d (cV L) (jV L))
  rw [e]
  exact scratch d L

theorem launch_pre (d : Dev nD) (L : grid0.Coords) (O : CellTallies nD τ sig (HIx 1)) (W : Waits sig (HIx 1)) (hO : ∀ g, O g none = 0) :
    (iprop(levAts (K (F := F)).L (K (F := F)).lev ∗ emp ∗ given tab idx o₀ d L
        ∗ scopedBufs (th d L) ∗ scopedSems0 (th d L) ∗ owes (th d L) O W) : sProp 𝕄)
      ⊢ iprop(unused d L ∗ Transfers.MayWaits (th d L) (default : HIx 1) O ∗ given tab idx o₀ d L ∗ slots d L ∗ owes (th d L) O W) := by
  iintro ⟨#Hlv, -, Hgiven, Hbufs, Hsems, HO⟩
  ihave Hmw := (show levAts (K (F := F)).L (K (F := F)).lev ⊢ Transfers.MayWaits (th d L) (default : HIx 1) O from
    (K (F := F)).mayWaits_none (thr := th d L) hO) $$ Hlv
  ihave Hs := (scoped_slots d L).1 $$ [Hbufs Hsems]
  · isplitl [Hbufs] <;> iassumption
  icases Hs with ⟨Hun, Hsl⟩
  isplitl [Hun]; · iexact Hun
  isplitl [Hmw]; · iexact Hmw
  isplitl [Hgiven]; · iexact Hgiven
  isplitl [Hsl]; · iexact Hsl
  iexact HO

theorem launch_post (d : Dev nD) (L : grid0.Coords) (O : CellTallies nD τ sig (HIx 1)) (W : Waits sig (HIx 1)) :
    (iprop(unused d L ∗ brought tab idx d L ∗ slots d L ∗ owing d L O W) : sProp 𝕄)
      ⊢ iprop(brought tab idx d L ∗ scopedBufs (th d L) ∗ scopedSems0 (th d L)
          ∗ ∃ W', ⌜∀ p ∈ W', p ∈ W ∨ p.2 = none ∨ p.2 = some (0 : Fin 1)⌝ ∗ owes (th d L) O W') := by
  iintro ⟨Hun, Hb, Hsl, HO⟩
  ihave Hs := (scoped_slots d L).2 $$ [Hun Hsl]
  · isplitl [Hun] <;> iassumption
  icases Hs with ⟨Hbufs, Hsems⟩
  isplitl [Hb]; · iexact Hb
  isplitl [Hbufs]; · iexact Hbufs
  isplitl [Hsems]; · iexact Hsems
  ihave HO := (owing_open) $$ HO
  icases HO with ⟨%W', %hW, HO⟩
  iexists W'
  isplitr
  · ipureintro; exact fun p hp => (hW p hp).imp id Or.inl
  iexact HO

set_option maxHeartbeats 4000000 in
/-- The task of a tile, as the launch asks for it. -/
theorem tile (hidx : ∀ d j, (idx d j).toNat < 1024) (d : Dev nD) (L : grid0.Coords) (O : CellTallies nD τ sig (HIx 1)) (W : Waits sig (HIx 1)) (hO : ∀ g, O g none = 0) :
    iprop(levAts (K (F := F)).L (K (F := F)).lev ∗ emp ∗ given tab idx o₀ d L
        ∗ scopedBufs (th d L) ∗ scopedSems0 (th d L) ∗ owes (th d L) O W)
      ⊢ wp frame (wpE (defs₀ (F := F)) 𝒱₀ (th d L) none) Set.univ
        (cc0_k L eV (Memref.isWhole_whole _) iV (Memref.isWhole_whole _) oV (Memref.isWhole_whole _) isV (Memref.isWhole_whole _) cc0_scoped1
          osV (Memref.isWhole_whole _) cc0_scoped3 cc0_scoped4 cc0_scoped5)
          fun _ => iprop(brought tab idx d L ∗ scopedBufs (th d L) ∗ scopedSems0 (th d L)
            ∗ ∃ W', ⌜∀ p ∈ W', p ∈ W ∨ p.2 = none ∨ p.2 = some (0 : Fin 1)⌝ ∗ owes (th d L) O W') := by
  have ht := (tile_pre tab idx o₀ d L O W).trans (task (d := d) (L := L) (tab := tab d) (idx := idx d) (q := sh L) (qe := sh L) (o₀ := o₀ d) (O := O) (W := W) (hidx d))
  generalize (cc0_k (F := F) L eV _ iV _ oV _ isV _ cc0_scoped1 osV _ cc0_scoped3 cc0_scoped4 cc0_scoped5) = p at ht ⊢
  exact (launch_pre tab idx o₀ d L O W hO).trans ((sep_mono_r ht).trans ((wp_frame_l _ _ _).trans
    (wp_mono _ _ _ fun _ => (sep_mono_r (tile_post tab idx d L O W)).trans (launch_post tab idx d L O W))))

end Call

variable [FloatOps F]

theorem defs₀_vector (c : Fin τ.nSC) (s : Fin τ.nSub) :
    defs₀ (F := F) (.scVector c s) 0 ()
      = SparseCore.onTile hcore0 hsub0 (fun c s => cc0_k (coords c s) eV (Memref.isWhole_whole _) iV (Memref.isWhole_whole _) oV (Memref.isWhole_whole _)
          isV (Memref.isWhole_whole _) cc0_scoped1 osV (Memref.isWhole_whole _) cc0_scoped3 cc0_scoped4 cc0_scoped5) ⟨⟩ c s := rfl

set_option maxRecDepth 16384 in
set_option maxHeartbeats 4000000 in
theorem tileObl {tab : Dev nD → S1024x128.Idx → Elt F .f32} {idx : Dev nD → S1x18432.Idx → BitVec 32} {o₀ : Dev nD → S18432x128.Idx → Elt F .f32}
    (hidx : ∀ d j, (idx d j).toNat < 1024) : (K (F := F)).TileObl (D (F := F)) 𝒱 (P tab idx o₀) v₀ 0 := by
  intro d c i O W hO _ _
  simp only [show (P tab idx o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile tab idx o₀ hidx d (coords ⟨_, hci.1⟩ ⟨_, hci.2⟩) O W hO

end Cert.Proof.Gather
-- ==== Proof.GatherMain.lean ====
/-
  The row gather's run: @main pads the table to 128 columns, reshapes the list of row numbers, starts the SparseCore
  call and keeps the first 64 columns of what the tiles wrote. Every array's final contents are named.
-/
module

public import proofs.«01_k».proof.Proof.GatherLaunch

@[expose] public section

set_option Elab.async false

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eV" => (Memref.whole Cert.GatherIdeal.main_v1_scv : Memref Cert.GatherIdeal.sig Kind.scVector Space.hbm Cert.GatherIdeal.S1024x128 EltTy.f32)
local notation "iV" => (Memref.whole Cert.GatherIdeal.main_v2_scv : Memref Cert.GatherIdeal.sig Kind.scVector Space.hbm Cert.GatherIdeal.S1x18432 EltTy.i32)
local notation "oV" => (Memref.whole Cert.GatherIdeal.main_v3_scv : Memref Cert.GatherIdeal.sig Kind.scVector Space.hbm Cert.GatherIdeal.S18432x128 EltTy.f32)
local notation "isV" => (Memref.whole Cert.GatherIdeal.cc0_scoped0 : Memref Cert.GatherIdeal.sig Kind.scVector Space.vmem Cert.GatherIdeal.S2x1x256 EltTy.i32)
local notation "osV" => (Memref.whole Cert.GatherIdeal.cc0_scoped2 : Memref Cert.GatherIdeal.sig Kind.scVector Space.vmem Cert.GatherIdeal.S2x256x128 EltTy.f32)

/-! ## The call's arrays over the tiles -/

/-- An array's whole share deals out to the tiles' shares. -/
theorem deal {ℓ : Loc nD τ sig} (f : Buf (Elt F) ℓ) :
    (ℓ ↦{fullShare} f : sProp 𝕄) ⊢ bigSep Finset.univ fun c : Fin (grid0.bound 0) => bigSep Finset.univ fun i : Fin (grid0.bound 1) => ℓ ↦{sh (coords c i)} f := by
  refine (Transfers.pointsTo_toks fullShare 32).1.trans (sep_elim_right.trans (Entails.of_eq ?_))
  rw [bigSep_univ_equiv (finProdFinEquiv : Fin 2 × Fin 16 ≃ Fin (2 * 16)), bigSep_univ_prod]
  rfl

/-- The tile's number from its place, and its blocks among all. -/
theorem wid_coords (c : Fin (grid0.bound 0)) (i : Fin (grid0.bound 1)) : wid (coords c i) = i.val + 16 * c.val := rfl

theorem blocks_spec (L : grid0.Coords) : (wid L < 8 ∧ base L = 3 * wid L ∧ nB L = 3) ∨ (8 ≤ wid L ∧ base L = 2 * wid L + 8 ∧ nB L = 2) := by
  unfold base nB
  by_cases h : wid L < 8
  · left; simp [h]
  · right; simp [h]; omega

/-- The rows a tile writes. -/
def tileRows (L : grid0.Coords) : Finset S18432x128.Idx := (Finset.range (nB L)).biUnion fun j => oRowSet (base L + j)

theorem mem_tileRows (L : grid0.Coords) (x : S18432x128.Idx) : x ∈ tileRows L ↔ base L ≤ (x 0).val / 256 ∧ (x 0).val / 256 < base L + nB L := by
  simp only [tileRows, Finset.mem_biUnion, Finset.mem_range, oRowSet, Finset.mem_filter, Finset.mem_univ, true_and]
  constructor
  · rintro ⟨j, hj, h⟩; omega
  · rintro ⟨h1, h2⟩; exact ⟨(x 0).val / 256 - base L, by omega, by omega⟩

theorem outBlocks_rows (d : Dev nD) (L : grid0.Coords) (f : S18432x128.Idx → Elt F .f32) :
    (outBlocks d L f : sProp 𝕄) = iprop(oLoc d ↦[tileRows L]{fullShare} f) := by
  unfold outBlocks tileRows
  refine (pointsTo_biUnion (Finset.range (nB L)) (ℓ := oLoc d) (fun j => oRowSet (base L + j)) ?_).symm
  intro i _ j _ h
  simp only [oRowSet, Finset.disjoint_filter]
  intro x _ hx; omega

theorem tiles_disjoint : ∀ p ∈ (Finset.univ : Finset (Fin (grid0.bound 0) × Fin (grid0.bound 1))), ∀ q ∈ (Finset.univ : Finset (Fin (grid0.bound 0) × Fin (grid0.bound 1))),
    p ≠ q → Disjoint (tileRows (coords p.1 p.2)) (tileRows (coords q.1 q.2)) := by
  rintro ⟨c, i⟩ - ⟨c', i'⟩ - hne
  rw [Finset.disjoint_left]
  intro x hx hy
  rw [mem_tileRows] at hx hy
  refine hne ?_
  have hc : c.val < 2 := c.isLt
  have hc' : c'.val < 2 := c'.isLt
  have hi : i.val < 16 := i.isLt
  have hi' : i'.val < 16 := i'.isLt
  have key : i.val + 16 * c.val = i'.val + 16 * c'.val := by
    have h1 := blocks_spec (coords c i)
    have h2 := blocks_spec (coords c' i')
    rw [wid_coords] at h1 h2
    dsimp only at hx hy
    rcases h1 with ⟨h1, e1, n1⟩ | ⟨h1, e1, n1⟩ <;> rcases h2 with ⟨h2, e2, n2⟩ | ⟨h2, e2, n2⟩ <;> rw [e1, n1] at hx <;> rw [e2, n2] at hy <;> omega
  exact Prod.ext (Fin.ext (show c.val = c'.val by omega)) (Fin.ext (show i.val = i'.val by omega))

theorem tiles_cover : (Finset.univ : Finset (Fin (grid0.bound 0) × Fin (grid0.bound 1))).biUnion (fun p => tileRows (coords p.1 p.2)) = Finset.univ := by
  ext x
  simp only [Finset.mem_biUnion, Finset.mem_univ, true_and, iff_true]
  have hx : (x 0).val < 18432 := (x 0).isLt
  have hb : (x 0).val / 256 < 72 := by omega
  generalize hn : (x 0).val / 256 = b at hb
  have hw : (if b < 24 then b / 3 else (b - 8) / 2) < 32 := by split <;> omega
  generalize hwd : (if b < 24 then b / 3 else (b - 8) / 2) = w at hw
  refine ⟨(⟨w / 16, show w / 16 < 2 by omega⟩, ⟨w % 16, show w % 16 < 16 by omega⟩), ?_⟩
  rw [mem_tileRows, hn]
  have h1 := blocks_spec (coords ⟨w / 16, show w / 16 < 2 by omega⟩ ⟨w % 16, show w % 16 < 16 by omega⟩)
  rw [wid_coords] at h1
  dsimp only at h1 ⊢
  rcases h1 with ⟨h1, e1, n1⟩ | ⟨h1, e1, n1⟩ <;> rw [e1, n1] <;> split at hwd <;> omega

/-- The output is its tiles' blocks. -/
theorem out_tiles (d : Dev nD) (f : S18432x128.Idx → Elt F .f32) :
    (oLoc d ↦{fullShare} f : sProp 𝕄) = bigSep Finset.univ fun c : Fin (grid0.bound 0) => bigSep Finset.univ fun i : Fin (grid0.bound 1) => outBlocks d (coords c i) f := by
  rw [show (oLoc d ↦{fullShare} f : sProp 𝕄) = oLoc d ↦[(Finset.univ : Finset (Fin (grid0.bound 0) × Fin (grid0.bound 1))).biUnion (fun p => tileRows (coords p.1 p.2))]{fullShare} f
      from by rw [tiles_cover],
    pointsTo_biUnion Finset.univ (ℓ := oLoc d) (fun p : Fin (grid0.bound 0) × Fin (grid0.bound 1) => tileRows (coords p.1 p.2)) tiles_disjoint, bigSep_univ_prod]
  simp only [outBlocks_rows]

section Call

variable (tab : Dev nD → S1024x128.Idx → Elt F .f32) (idx : Dev nD → S1x18432.Idx → BitVec 32) (o₀ : Dev nD → S18432x128.Idx → Elt F .f32)

/-- The call's arrays are what its tiles are handed. -/
theorem call_in (d : Dev nD) :
    (iprop((eLoc d ↦{fullShare} tab d) ∗ (iLoc d ↦{fullShare} idx d) ∗ (oLoc d ↦{fullShare} o₀ d)) : sProp 𝕄)
      ⊢ bigSep Finset.univ fun c : Fin ((K (F := F)).nCore 0) => (P tab idx o₀).st 0 d c := by
  show _ ⊢ bigSep Finset.univ fun c : Fin (grid0.bound 0) => bigSep Finset.univ fun i : Fin (grid0.bound 1) => given tab idx o₀ d (coords c i)
  unfold given
  simp only [bigSep_sep']
  exact BI.sep_mono (deal (ℓ := eLoc d) (tab d)) (BI.sep_mono (deal (ℓ := iLoc d) (idx d)) (Entails.of_eq (out_tiles d (o₀ d))))

/-- What the tiles bring back is the output, at the gathered rows. -/
theorem call_out (d : Dev nD) :
    (bigSep Finset.univ fun c : Fin ((K (F := F)).nCore 0) => (P tab idx o₀).dn 0 d c)
      ⊢ (iprop(oLoc d ↦{fullShare} G (tab d) (idx d)) : sProp 𝕄) :=
  Entails.of_eq (out_tiles d (G (tab d) (idx d))).symm

end Call

/-! ## The launch -/

variable [FloatOps F]

theorem bigSep_emp' {I : Type} (s : Finset I) : (bigSep s fun _ => iprop(emp)) = (iprop(emp) : sProp 𝕄) := bigSep_emp_const s

/-- The launch element of the call's ghost state. -/
def u₀ : UU := (initOf (K (F := F)).hsCells (K (F := F)).hsToks, 1)

theorem hu₀ (tab : Dev nD → S1024x128.Idx → Elt F .f32) (idx : Dev nD → S1x18432.Idx → BitVec 32) (o₀ : Dev nD → S18432x128.Idx → Elt F .f32) :
    (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tab idx o₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P tab idx o₀).x q thr) = bigSep Finset.univ fun _ => iprop(emp) from
    bigSep_congr fun _ _ => bigSep_univ_of_subsingleton (0 : Fin 1), bigSep_emp']
  iempintro

/-! ## @main -/

/-- The operations before the call, and the one after it. -/
abbrev opsPre : List (HloOp τ sig (Elt F)) := [
  StableHlo.nullary main_cst (constant S_ .f32 0x00000000#32),
  StableHlo.unary main_cst main_v0 (broadcastInDim S1024x64 ![] bcast_S_S1024x64 : (⟨S_, .f32⟩ : BufTy).Contents (Elt F) → (⟨S1024x64, .f32⟩ : BufTy).Contents (Elt F)),
  StableHlo.binary main_arg0 main_v0 main_v1 ((fun a b => concatenate S1024x128 1 [⟨S1024x64, a⟩, ⟨S1024x64, b⟩] concatenates_S1024x64_S1024x64_S1024x128_d1) :
    (⟨S1024x64, .f32⟩ : BufTy).Contents (Elt F) → (⟨S1024x64, .f32⟩ : BufTy).Contents (Elt F) → (⟨S1024x128, .f32⟩ : BufTy).Contents (Elt F)),
  StableHlo.reshape main_arg1 main_v2 (rfl : (.i32 : EltTy) = .i32) shapeCasts_S18432_S1x18432]
abbrev opsPost : List (HloOp τ sig (Elt F)) := [
  StableHlo.unary main_v3 main_v4 ((extractStridedSlice S18432x64 ![0, 0] · slices_S18432x128_S18432x64_0_0) :
    (⟨S18432x128, .f32⟩ : BufTy).Contents (Elt F) → (⟨S18432x64, .f32⟩ : BufTy).Contents (Elt F))]

theorem main_eq (d : Dev nD) : main (F := F) d = StableHlo.seq opsPre >>= fun _ => ((K (F := F)).run d 0 >>= fun _ => StableHlo.seq opsPost >>= fun _ => pure ⟨⟩) := rfl

abbrev dr (r : Ref sig .tc) : DevRef τ sig := Proc.devRef .tc r

/-- @main's arrays. -/
abbrev S8 : Finset (DevRef τ sig) := {dr main_arg0, dr main_arg1, dr main_cst, dr main_v0, dr main_v1, dr main_v2, dr main_v3, dr main_v4}
/-- The call's. -/
abbrev S3 : Finset (DevRef τ sig) := {dr main_v1, dr main_v2, dr main_v3}

variable (m : (ℓ : Loc nD τ sig) → Buf (Elt F) ℓ) (ρ : Dev nD → PrngReg)

/-- The arrays' contents at launch, before the call, after it, and at the end. -/
def V0 (d : Dev nD) : Valuation τ sig (Elt F) := fun b => m (d, b)
def V1 (d : Dev nD) : Valuation τ sig (Elt F) := StableHlo.after opsPre (V0 m d)
abbrev tab (d : Dev nD) : S1024x128.Idx → Elt F .f32 := V1 m d (dr main_v1)
abbrev idx (d : Dev nD) : S1x18432.Idx → BitVec 32 := V1 m d (dr main_v2)
abbrev out₀ (d : Dev nD) : S18432x128.Idx → Elt F .f32 := V1 m d (dr main_v3)
def V2 (d : Dev nD) : Valuation τ sig (Elt F) := Function.update (V1 m d) (dr main_v3) (G (tab m d) (idx m d))
def V3 (d : Dev nD) : Valuation τ sig (Elt F) := StableHlo.after opsPost (V2 m d)

theorem held_S3 (d : Dev nD) (W : Valuation τ sig (Elt F)) :
    (StableHlo.held (T d) S3 W : sProp 𝕄) = iprop((eLoc d ↦{fullShare} W (dr main_v1)) ∗ (iLoc d ↦{fullShare} W (dr main_v2)) ∗ (oLoc d ↦{fullShare} W (dr main_v3))) := by
  unfold StableHlo.held S3
  rw [SparseCore.bigSep_insert' (by decide), SparseCore.bigSep_insert' (by decide), bigSep_singleton]

theorem unscoped_held (d : Dev nD) : (unscopedBufs d (fun b => m ((SparseCore.T d).loc b)) : sProp 𝕄) = StableHlo.held (T d) S8 (V0 m d) := by
  unfold unscopedBufs StableHlo.held S8
  rw [show (Finset.univ.filter fun b : Ref sig .tc => ¬ b.isScoped) = {main_arg0, main_arg1, main_cst, main_v0, main_v1, main_v2, main_v3, main_v4} by decide]
  repeat rw [SparseCore.bigSep_insert' (by decide)]
  rw [bigSep_singleton]
  repeat rw [SparseCore.bigSep_insert' (by decide)]
  rw [bigSep_singleton]
  rfl

theorem S3_sub : S3 ⊆ S8 := by decide

/-- Before the call: its three arrays, and the rest. -/
theorem held_before (d : Dev nD) : (StableHlo.held (T d) S8 (V1 m d) : sProp 𝕄)
    = iprop(((eLoc d ↦{fullShare} tab m d) ∗ (iLoc d ↦{fullShare} idx m d) ∗ (oLoc d ↦{fullShare} out₀ m d)) ∗ StableHlo.held (T d) (S8 \ S3) (V1 m d)) := by
  rw [StableHlo.held_sub_split (T d) S3_sub, held_S3]

/-- After it: the output and the rest, as @main's arrays but for the table and the list. -/
abbrev S6 : Finset (DevRef τ sig) := {dr main_arg0, dr main_arg1, dr main_cst, dr main_v0, dr main_v3, dr main_v4}
theorem held_after (d : Dev nD) :
    (iprop((oLoc d ↦{fullShare} G (tab m d) (idx m d)) ∗ StableHlo.held (T d) (S8 \ S3) (V1 m d)) : sProp 𝕄) = StableHlo.held (T d) S6 (V2 m d) := by
  rw [StableHlo.held_sub_split (T d) (show ({dr main_v3} : Finset (DevRef τ sig)) ⊆ S6 by decide) (V2 m d)]
  refine congrArg₂ _ ?_ ?_
  · unfold StableHlo.held
    rw [bigSep_singleton, show V2 m d (dr main_v3) = G (tab m d) (idx m d) from Function.update_self _ _ _]
  · rw [show S8 \ S3 = S6 \ {dr main_v3} by decide]
    refine StableHlo.held_congr (T d) fun b hb => (Function.update_of_ne ?_ _ _).symm
    rintro rfl
    exact absurd hb (by decide)

theorem pre_bufs : ∀ op ∈ opsPre (F := F), op.bufs ⊆ S8 :=
  List.forall_mem_cons.mpr ⟨show ({dr main_cst} : Finset (DevRef τ sig)) ⊆ S8 by decide,
    List.forall_mem_cons.mpr ⟨show ({dr main_cst, dr main_v0} : Finset (DevRef τ sig)) ⊆ S8 by decide,
    List.forall_mem_cons.mpr ⟨show ({dr main_arg0, dr main_v0, dr main_v1} : Finset (DevRef τ sig)) ⊆ S8 by decide,
    List.forall_mem_cons.mpr ⟨show ({dr main_arg1, dr main_v2} : Finset (DevRef τ sig)) ⊆ S8 by decide, List.forall_mem_nil _⟩⟩⟩⟩
theorem pre_fresh : ∀ op ∈ opsPre (F := F), op.fresh = ∅ :=
  List.forall_mem_cons.mpr ⟨rfl, List.forall_mem_cons.mpr ⟨rfl, List.forall_mem_cons.mpr ⟨rfl, List.forall_mem_cons.mpr ⟨rfl, List.forall_mem_nil _⟩⟩⟩⟩
theorem post_bufs : ∀ op ∈ opsPost (F := F), op.bufs ⊆ S6 :=
  List.forall_mem_cons.mpr ⟨show ({dr main_v3, dr main_v4} : Finset (DevRef τ sig)) ⊆ S6 by decide, List.forall_mem_nil _⟩
theorem post_fresh : ∀ op ∈ opsPost (F := F), op.fresh = ∅ := List.forall_mem_cons.mpr ⟨rfl, List.forall_mem_nil _⟩

/-- What @main leaves: its arguments and its result, among the arrays it ends with. -/
abbrev FIN (d : Dev nD) : sProp 𝕄 := StableHlo.held (T d) S6 (V3 m d)

theorem hmain (κ : GSem nD τ sig → ℕ) (d : Dev nD) :
    iprop((K (F := F)).ctx EH (P (tab m) (idx m) (out₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d S8 _ opsPre pre_bufs pre_fresh (V0 m d)) $$ [Hb Hheld]
  · isplitl [Hb] <;> iassumption
  iintro ⟨Hb, Hheld⟩
  ihave Hheld := (show (StableHlo.held (d.tc : Thread nD τ) S8 (StableHlo.after opsPre (V0 m d)) : sProp 𝕄) ⊢ StableHlo.held (T d) S8 (V1 m d) from .rfl) $$ Hheld
  ihave Hheld := (Entails.of_eq (held_before m d)) $$ Hheld
  icases Hheld with ⟨H3, Hrest⟩
  ihave H3 := (call_in (tab m) (idx m) (out₀ m) d) $$ H3
  rw [wp_bind]
  iapply ((K (F := F)).wp_run (D (F := F)) 𝒱 (EH := EH) (P := P (tab m) (idx m) (out₀ m)) κ d 0) $$ [Hst H3 Hb Hrest Hts]
  isplitr; · iexact Hctx
  isplitl [Hst]; · iexact Hst
  isplitl [H3]; · iexact H3
  iintro ⟨Hst, Hdn⟩
  ihave Ho := (call_out (tab m) (idx m) (out₀ m) d) $$ Hdn
  ihave Hheld := (Entails.of_eq (held_after m d)) $$ [Ho Hrest]
  · isplitl [Ho] <;> iassumption
  iapply (StableHlo.wp_seq 𝒱 none Set.univ d S6 _ opsPost post_bufs post_fresh (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-- What is read of a device's final memory. -/
def fq (d : Dev nD) (s' : Phys nD τ sig (Elt F)) : Prop :=
  s'.mem.mem (d, dr main_arg0) = V3 m d (dr main_arg0) ∧ s'.mem.mem (d, dr main_arg1) = V3 m d (dr main_arg1) ∧ s'.mem.mem (d, dr main_v4) = V3 m d (dr main_v4)

theorem agree (d : Dev nD) (s' : Phys nD τ sig (Elt F)) (r : DevRef τ sig) (hr : r ∈ S6) :
    (iprop(FIN m d ∗ SI s') : sProp 𝕄) ⊢ ⌜s'.mem.mem (d, r) = V3 m d r⌝ := by
  unfold FIN
  rw [StableHlo.held_sub_split (T d) (show ({r} : Finset (DevRef τ sig)) ⊆ S6 from Finset.singleton_subset_iff.mpr hr) (V3 m d)]
  unfold StableHlo.held
  rw [bigSep_singleton]
  iintro ⟨⟨H, -⟩, HSI⟩
  ihave H := (SI_pointsTo_agree (st := s') (ℓ := (d, r)) (I := Finset.univ) (q := fullShare) (f := V3 m d r)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  iintro H
  ihave H := (persistent_entails_right (agree m d s' (dr main_arg0) (by decide))) $$ H
  icases H with ⟨%h0, H⟩
  ihave H := (persistent_entails_right (agree m d s' (dr main_arg1) (by decide))) $$ H
  icases H with ⟨%h1, H⟩
  ihave H := (agree m d s' (dr main_v4) (by decide)) $$ H
  icases H with %h2
  ipureintro; exact ⟨h0, h1, h2⟩

/-- The run: the arguments keep their contents, the result is the slice of the gathered rows, no semaphore left raised. -/
def QC : PUnit × MemSt nD τ sig (Elt F) → Prop := fun r =>
  (∀ d : Dev nD, r.2.mem (d, dr main_arg0) = V3 m d (dr main_arg0) ∧ r.2.mem (d, dr main_arg1) = V3 m d (dr main_arg1) ∧ r.2.mem (d, dr main_v4) = V3 m d (dr main_v4))
    ∧ r.2.sem = fun _ => 0

theorem run_main [∀ e, Nonempty (Elt F e)] (hidx : ∀ d j, (idx m d j).toNat < 1024) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (tab m) (idx m) (out₀ m)) (A := ∅) facts v₀
    (fun q hq => match q with | 0 => nomatch hq)
    (fun q _ => match q with | 0 => tileObl hidx)
    (fun q _ => match q with | 0 => SparseCore.Cfg.VecSplit.of_plain (vecSplit (tab m) (idx m) (out₀ m)))
    m ρ main (fun _ => iprop(emp)) (FIN m) (u₀ (F := F)) (sep_elim_left.trans (hu₀ (tab m) (idx m) (out₀ m))) (hmain m ρ) (fq m) (hfin m) (QC m) (fun _ h hz => ⟨h, hz⟩)

end Cert.Proof.Gather
-- ==== Proof.GatherRefRun.lean ====
/-
  The reference's run: `jnp.take` of whole rows as StableHLO operations on the TensorCore, no kernel. Its result is read
  where every row number lies in the table: entry `(n, c)` is the table's entry `(idx n, c)`.
-/
module

public import proofs.«01_k».proof.Defs
public import Idealize.ShloMosaic.Lib.StableHlo.Run
public import Idealize.ShloMosaic.Lib.ReduceAll
public import Idealize.ShloMosaic.Lib.Routing.Ops
public import proofs.«01_k».proof.Proof.Gen.GatherRefIdeal

@[expose] public section

noncomputable section

namespace Cert.Proof.GatherRef

open Idealize.ShloMosaic Idealize.ShloMosaic.TcCoe Idealize.ShloMosaic.StableHlo Idealize.SL.Sem
open Idealize.ShloMosaic.ValueIdx (ix1 ix2)
open Cert.GatherRefIdeal Cert.GatherRefIdeal.Gen Cert.GatherRefIdeal.Facts

variable {F : FTy → Type} [FloatOps F]

/-! ## The values in the order they are computed -/

/-- The row numbers with negative ones counted from the table's end. -/
def wrapped (i : IVec S18432 32) : IVec S18432 32 :=
  select (cmpi .slt i (broadcastInDim S18432 ![] bcast_S_S18432 (constantI S_ 32 0#32)))
    (addi i (broadcastInDim S18432 ![] bcast_S_S18432 (constantI S_ 32 1024#32))) i

/-- They as one column. -/
def column (i : IVec S18432 32) : IVec S18432x1 32 := broadcastInDim S18432x1 ![0] bcast_S18432_S18432x1_0 (wrapped i)

/-- Whether a row number lies in the table. -/
def valid (i : IVec S18432 32) : IVec S18432x1 1 :=
  andi (cmpi .sge (column i) (broadcastInDim S18432x1 ![] bcast_S_S18432x1 (constantI S_ 32 0#32)))
    (cmpi .sle (column i) (broadcastInDim S18432x1 ![0, 1] bcast_S1x1_S18432x1_0_1 (broadcastInDim S1x1 ![1] bcast_S1_S1x1_1 (constantI S1 32 1023#32))))

/-- The rows taken, a row of NaN where the number lies outside. -/
def taken (e : S1024x64.Idx → F .f32) (i : IVec S18432 32) : S18432x64.Idx → F .f32 :=
  select (broadcastInDim S18432x64 ![0] bcast_S18432_S18432x64_0
      (Host.reduce IntOp.andi (valid i) (constantI S_ 1 1#1) reducesTo_S18432x1_S18432_d1 h_S_))
    (Host.gather gather_S1024x64_S18432x1_S18432x64_1_0_n_n_0_1_164 e (column i))
    (broadcastInDim S18432x64 ![] bcast_S_S18432x64 (constant S_ .f32 0x7FC00000#32))

section
variable {i : IVec S18432 32} (h : ∀ n, (i n).toNat < 1024)
include h

theorem wrapped_eq : wrapped i = i := by
  funext n
  have hn := h n
  have : IntOp.cmpi .slt (i n) 0#32 = 0#1 := by
    simp only [IntOp.cmpi, BitVec.slt_eq_decide, BitVec.toInt_eq_toNat_cond, BitVec.toNat_ofNat]
    rw [decide_eq_false (by omega)]; rfl
  show (if IntOp.cmpi .slt (i n) 0#32 = 1#1 then _ else i n) = i n
  rw [this, if_neg (by decide)]

theorem column_apply (n : Fin 18432) (z : Fin 1) : column i (ix2 n z) = i (ix1 n) := by
  unfold column
  rw [wrapped_eq h]
  exact congrArg i (funext fun a => match a with | ⟨0, _⟩ => rfl)

theorem valid_apply (j : S18432x1.Idx) : valid i j = 1#1 := by
  obtain ⟨n, z, rfl⟩ : ∃ n z, j = ix2 n z := ⟨j 0, j 1, funext fun a => match a with | ⟨0, _⟩ => rfl | ⟨1, _⟩ => rfl⟩
  have hn := h (ix1 n)
  show IntOp.andi (IntOp.cmpi .sge (column i (ix2 n z)) 0#32) (IntOp.cmpi .sle (column i (ix2 n z)) 1023#32) = 1#1
  rw [column_apply h]
  have h1 : IntOp.cmpi .sge (i (ix1 n)) 0#32 = 1#1 := by
    simp only [IntOp.cmpi, BitVec.sle_eq_decide, BitVec.toInt_eq_toNat_cond, BitVec.toNat_ofNat]
    rw [decide_eq_true (by omega)]; rfl
  have h2 : IntOp.cmpi .sle (i (ix1 n)) 1023#32 = 1#1 := by
    simp only [IntOp.cmpi, BitVec.sle_eq_decide, BitVec.toInt_eq_toNat_cond, BitVec.toNat_ofNat]
    rw [decide_eq_true (by omega)]; rfl
  rw [h1, h2]; rfl

/-- The rows taken where every number lies in the table. -/
theorem taken_apply (e : S1024x64.Idx → F .f32) (n : Fin 18432) (c : Fin 64) : taken e i (ix2 n c) = e (ix2 ⟨(i (ix1 n)).toNat, h _⟩ c) := by
  have hv : ∀ n : S18432.Idx, Host.reduce IntOp.andi (valid i) (constantI S_ 1 1#1) reducesTo_S18432x1_S18432_d1 h_S_ n = 1#1 := fun n =>
    Host.reduce_andi_one _ _ _ _ n rfl fun x => valid_apply h x
  unfold taken
  simp only [select, broadcastInDim]
  rw [hv, Scalar.select, if_pos (show (1#1 : BitVec 1) = 1 from rfl)]
  refine Routing.gather_row _ rfl rfl rfl rfl rfl e (column i) n c ⟨(i (ix1 n)).toNat, h _⟩ ?_ (by decide)
  rw [column_apply h]
  exact BitVec.eq_of_toNat_eq (by simp)
end

/-! ## The run -/

/-- The operations in order. -/
abbrev ops : List (HloOp τ sig (Elt F)) :=
  [ nullary main_call0_c (constantI S_ 32 0#32),
    unary main_call0_c main_call0_v0 (broadcastInDim S18432 ![] bcast_S_S18432 : IVec S_ 32 → IVec S18432 32),
    binary main_arg1 main_call0_v0 main_call0_v1 (cmpi .slt : IVec S18432 32 → IVec S18432 32 → IVec S18432 1),
    nullary main_call0_c_0 (constantI S_ 32 1024#32),
    unary main_call0_c_0 main_call0_v2 (broadcastInDim S18432 ![] bcast_S_S18432 : IVec S_ 32 → IVec S18432 32),
    binary main_arg1 main_call0_v2 main_call0_v3 (addi : IVec S18432 32 → IVec S18432 32 → IVec S18432 32),
    ternary main_call0_v1 main_call0_v3 main_arg1 main_call0_v4 (select : IVec S18432 1 → IVec S18432 32 → IVec S18432 32 → IVec S18432 32),
    unary main_call0_v4 main_call0_v5 (broadcastInDim S18432x1 ![0] bcast_S18432_S18432x1_0 : IVec S18432 32 → IVec S18432x1 32),
    nullary main_call0_c_1 (constantI S1 32 1023#32),
    nullary main_call0_c_2 (constantI S_ 32 0#32),
    unary main_call0_c_2 main_call0_v6 (broadcastInDim S18432x1 ![] bcast_S_S18432x1 : IVec S_ 32 → IVec S18432x1 32),
    binary main_call0_v5 main_call0_v6 main_call0_v7 (cmpi .sge : IVec S18432x1 32 → IVec S18432x1 32 → IVec S18432x1 1),
    unary main_call0_c_1 main_call0_v8 (broadcastInDim S1x1 ![1] bcast_S1_S1x1_1 : IVec S1 32 → IVec S1x1 32),
    unary main_call0_v8 main_call0_v9 (broadcastInDim S18432x1 ![0, 1] bcast_S1x1_S18432x1_0_1 : IVec S1x1 32 → IVec S18432x1 32),
    binary main_call0_v5 main_call0_v9 main_call0_v10 (cmpi .sle : IVec S18432x1 32 → IVec S18432x1 32 → IVec S18432x1 1),
    binary main_call0_v7 main_call0_v10 main_call0_v11 (andi : IVec S18432x1 1 → IVec S18432x1 1 → IVec S18432x1 1),
    nullary main_call0_c_3 (constantI S_ 1 1#1),
    binary main_call0_v11 main_call0_c_3 main_call0_v12
      ((fun x v => Host.reduce IntOp.andi x v reducesTo_S18432x1_S18432_d1 h_S_) : IVec S18432x1 1 → IVec S_ 1 → IVec S18432 1),
    binary main_arg0 main_call0_v5 main_call0_v13
      ((fun x i => Host.gather gather_S1024x64_S18432x1_S18432x64_1_0_n_n_0_1_164 x i) : FVec F S1024x64 .f32 → IVec S18432x1 32 → FVec F S18432x64 .f32),
    unary main_call0_v12 main_call0_v14 (broadcastInDim S18432x64 ![0] bcast_S18432_S18432x64_0 : IVec S18432 1 → IVec S18432x64 1),
    nullary main_call0_cst (constant S_ .f32 0x7FC00000#32),
    unary main_call0_cst main_call0_v15 (broadcastInDim S18432x64 ![] bcast_S_S18432x64 : FVec F S_ .f32 → FVec F S18432x64 .f32),
    ternary main_call0_v14 main_call0_v13 main_call0_v15 main_v0 (select : IVec S18432x64 1 → FVec F S18432x64 .f32 → FVec F S18432x64 .f32 → FVec F S18432x64 .f32) ]

set_option maxRecDepth 8000 in
theorem main_eq (c : Dev nD) : main (F := F) c = seq ops := by
  simp only [main, fn_take.body, fn_where.body, seq, bind_assoc, pure_bind, main_call0, main_call0_call0, TRef.nullary, TRef.unary, TRef.binary, TRef.ternary, TRef.toBuf, TRef.ofBuf, cast_eq]
  iterate 23 refine congrArg₂ (· >>= ·) rfl (funext fun _ => ?_)
  rfl

variable (V : Valuation τ sig (Elt F))

theorem out_eq : after ops V (main_v0 : DevRef τ sig) = taken (V (main_arg0 : DevRef τ sig)) (V (main_arg1 : DevRef τ sig)) := by
  after_results
  rfl

theorem arg0_eq : after ops V (main_arg0 : DevRef τ sig) = V (main_arg0 : DevRef τ sig) := by
  after_results

theorem arg1_eq : after ops V (main_arg1 : DevRef τ sig) = V (main_arg1 : DevRef τ sig) := by
  after_results

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub .., nullary_bufs_sub ..,
    unary_bufs_sub .., ternary_bufs_sub ..⟩

/-- From any memory: the result is the rows taken, the arguments are unchanged, and the program has no semaphore. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = taken (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v0).trans (out_eq _), (h c main_arg0).trans (arg0_eq _), (h c main_arg1).trans (arg1_eq _)⟩,
      sem_eq_zero_of_no_sems (by decide) r.2⟩)
    (run_seq (by decide) (by decide) defs main (fun _ => ops) main_eq (fun _ => ops_sub) m ρ)

end Cert.Proof.GatherRef

end
-- ==== Proof.GatherValue.lean ====
/-
  What the row gather leaves in its arrays, entry by entry: where every row number lies in the table, entry `(n, c)` of
  the result is the table's entry `(idx n, c)`, and the arguments are unchanged.
-/
module

public import proofs.«01_k».proof.Proof.GatherMain
public import proofs.«01_k».proof.Proof.GatherRefRun
public import proofs.«01_k».proof.Proof.Gen.Pre_indices_in_range

@[expose] public section

noncomputable section

namespace Cert.Proof.Gather

open Idealize.ShloMosaic Idealize.ShloMosaic.StableHlo Idealize.SL.Sem
open Idealize.ShloMosaic.ValueIdx (ix1 ix2)
open Cert.GatherIdeal Cert.GatherIdeal.Gen Cert.GatherIdeal.Facts

variable {F : FTy → Type} [FloatOps F] (m : (ℓ : Loc nD τ sig) → Buf (Elt F) ℓ)

/-! ## The arrays about the call -/

theorem tab_eq (d : Dev nD) : tab m d = concatenate S1024x128 1 [⟨S1024x64, m (d, dr main_arg0)⟩,
    ⟨S1024x64, broadcastInDim S1024x64 ![] bcast_S_S1024x64 (constant S_ .f32 0x00000000#32)⟩] concatenates_S1024x64_S1024x64_S1024x128_d1 := by
  unfold tab V1
  after_results
  rfl

theorem idx_eq (d : Dev nD) : idx m d = shapeCast S1x18432 (m (d, dr main_arg1)) shapeCasts_S18432_S1x18432 := by
  unfold idx V1
  after_results
  rfl

theorem arg0_eq (d : Dev nD) : V3 m d (dr main_arg0) = m (d, dr main_arg0) := by
  unfold V3
  after_results
  unfold V2
  rw [Function.update_of_ne (by decide)]
  unfold V1
  after_results
  rfl

theorem arg1_eq (d : Dev nD) : V3 m d (dr main_arg1) = m (d, dr main_arg1) := by
  unfold V3
  after_results
  unfold V2
  rw [Function.update_of_ne (by decide)]
  unfold V1
  after_results
  rfl

theorem out_eq (d : Dev nD) : V3 m d (dr main_v4) = extractStridedSlice S18432x64 ![0, 0] (G (tab m d) (idx m d)) slices_S18432x128_S18432x64_0_0 := by
  unfold V3
  after_results
  unfold V2
  rw [Function.update_self]

/-! ## At an entry -/

theorem idx_apply (d : Dev nD) (z : Fin 1) (n : Fin 18432) : idx m d (ix2 z n) = m (d, dr main_arg1) (ix1 n) := by
  rw [idx_eq]
  refine Routing.cast12 (a := 1) (b := 18432) (n := 18432) (m (d, dr main_arg1)) shapeCasts_S18432_S1x18432 z n n ?_
  have := z.isLt
  omega

theorem tab_apply (d : Dev nD) (r : Fin 1024) (c : Fin 64) (c' : Fin 128) (hc : c'.val = c.val) :
    tab m d (ix2 r c') = m (d, dr main_arg0) (ix2 r c) := by
  rw [tab_eq]
  exact concatenate_pair_apply_left (t := S1024x128) (s₁ := S1024x64) (s₂ := S1024x64) 1 _ _ _ (ix2 r c') rfl (ix2 r c) fun b =>
    match b with | ⟨0, _⟩ => rfl | ⟨1, _⟩ => hc.symm

theorem iIx_eq (n : Fin 18432) : iIx n = ix2 (0 : Fin 1) n := funext fun a => match a with | ⟨0, _⟩ => rfl | ⟨1, _⟩ => rfl
theorem eIx_eq (r : Fin 1024) (c : Fin 128) : eIx r c = ix2 r c := funext fun a => match a with | ⟨0, _⟩ => rfl | ⟨1, _⟩ => rfl

/-- The row numbers the tiles read are the argument's. -/
theorem idx_lt (d : Dev nD) (h : ∀ n, (m (d, dr main_arg1) n : BitVec 32).toNat < 1024) (j : S1x18432.Idx) : (idx m d j).toNat < 1024 := by
  obtain ⟨z, n, rfl⟩ : ∃ z n, j = ix2 z n := ⟨j 0, j 1, funext fun a => match a with | ⟨0, _⟩ => rfl | ⟨1, _⟩ => rfl⟩
  rw [idx_apply]
  exact h _

/-- The result where every row number lies in the table. -/
theorem out_apply (d : Dev nD) (h : ∀ n, (m (d, dr main_arg1) n : BitVec 32).toNat < 1024) (n : Fin 18432) (c : Fin 64) :
    V3 m d (dr main_v4) (ix2 n c) = m (d, dr main_arg0) (ix2 ⟨(m (d, dr main_arg1) (ix1 n) : BitVec 32).toNat, h _⟩ c) := by
  rw [out_eq]
  have hc : c.val < 128 := by have := c.isLt; omega
  refine (extractStridedSlice_apply (s := S18432x128) (t := S18432x64) ![0, 0] _ _ (ix2 n c) (ix2 n ⟨c.val, hc⟩) fun a =>
    match a with | ⟨0, _⟩ => (Nat.zero_add _).symm | ⟨1, _⟩ => (Nat.zero_add _).symm).trans ?_
  show tab m d (eIx ⟨(idx m d (iIx n)).toNat % 1024, _⟩ ⟨c.val, hc⟩) = _
  rw [eIx_eq, tab_apply m d _ c _ rfl]
  refine congrArg (fun r => m (d, dr main_arg0) (ix2 r c)) (Fin.ext ?_)
  show (idx m d (iIx n)).toNat % 1024 = _
  rw [iIx_eq, idx_apply, Nat.mod_eq_of_lt (h _)]

/-- The kernel's result is the rows the reference takes. -/
theorem out_taken (d : Dev nD) (h : ∀ n, (m (d, dr main_arg1) n : BitVec 32).toNat < 1024) :
    V3 m d (dr main_v4) = GatherRef.taken (m (d, dr main_arg0)) (m (d, dr main_arg1)) := by
  funext j
  obtain ⟨n, c, rfl⟩ : ∃ n c, j = ix2 n c := ⟨j 0, j 1, funext fun a => match a with | ⟨0, _⟩ => rfl | ⟨1, _⟩ => rfl⟩
  rw [out_apply m d h, GatherRef.taken_apply h]

/-! ## The run, where every row number lies in the table -/

theorem run_value [∀ e, Nonempty (Elt F e)] (ρ : Dev nD → PrngReg) (h : ∀ d n, (m (d, dr main_arg1) n : BitVec 32).toNat < 1024) :
    θ_run (Cert.GatherIdeal.defs (F := F)) (Cert.GatherIdeal.threads (F := F)) ⟨m, fun _ => 0, ρ⟩ fun r =>
      (∀ d : Dev nD, r.2.mem (d, dr main_v4) = GatherRef.taken (m (d, dr main_arg0)) (m (d, dr main_arg1))
        ∧ r.2.mem (d, dr main_arg0) = m (d, dr main_arg0) ∧ r.2.mem (d, dr main_arg1) = m (d, dr main_arg1))
      ∧ r.2.sem = fun _ => 0 :=
  (θ_run Cert.GatherIdeal.defs _ _).mono
    (fun _ hr => ⟨fun d => ⟨(hr.1 d).2.2.trans (out_taken m d (h d)), (hr.1 d).1.trans (arg0_eq m d), (hr.1 d).2.1.trans (arg1_eq m d)⟩, hr.2⟩)
    (run_main m ρ fun d => idx_lt m d (h d))

/-- The precondition in words: every row number is one of the table's rows. -/
theorem in_range {e : FVec F S1024x64 .f32} {i : IVec S18432 32} (h : Cert.Pre_indices_in_range.fn (F := F) e i = fun _ => 1#1) (n : S18432.Idx) :
    (i n).toNat < 1024 := by
  have and_one : ∀ p q : Bool, IntOp.andi (BitVec.ofBool p) (BitVec.ofBool q) = 1#1 → p = true ∧ q = true := by decide
  have e := congrFun h n
  simp only [Cert.Pre_indices_in_range.fn, andi, cmpi, broadcastInDim, constantI] at e
  obtain ⟨h0, h1⟩ := and_one _ _ e
  simp only [BitVec.sle_eq_decide, BitVec.slt_eq_decide, BitVec.toInt_eq_toNat_cond, BitVec.toNat_ofNat, decide_eq_true_eq] at h0 h1
  have := (i n).isLt
  omega

end Cert.Proof.Gather

end
-- ==== Proof.WholeWords.lean ====
/-
  The words of the row gather's tile body: which blocks of 256 output rows a tile owns, and what the body's offsets,
  conditions, checks and carried counters are on its step `t`. Each statement ranges over the 32 tiles and a tile's two
  or three steps, and is decided over them.
-/
module

public import proofs.«01_k».proof.Defs
public import proofs.«01_k».proof.Proof.Gen.KernelIdeal
public import proofs.«01_k».proof.Proof.Gen.KernelIdeal.Skeleton

@[expose] public section

set_option Elab.async false

namespace Cert.Proof.Whole

open Cert.KernelIdeal Cert.KernelIdeal.Gen
open Idealize.ShloMosaic Idealize.SL.Sem

/-- A tile's number: subcores 0–15 of SparseCore 0, then those of SparseCore 1. -/
def wid (i : grid1.Coords) : ℕ := (i 1).val + 16 * (i 0).val

/-- How many blocks of 256 rows the tile writes: 72 blocks over 32 tiles, three for the first eight tiles. -/
def nB (i : grid1.Coords) : ℕ := if wid i < 8 then 3 else 2

/-- The tile's first block. -/
def base (i : grid1.Coords) : ℕ := if wid i < 8 then 3 * wid i else 2 * wid i + 8

/-- The tile's number, its number of steps, its first block and the loop's end, as the task computes them. -/
def widW (i : grid1.Coords) : BitVec 32 :=
  Scalar.addi (Scalar.addi 0#32 (Scalar.muli (BitVec.ofNat 32 (i 1).val) 1#32)) (Scalar.muli (BitVec.ofNat 32 (i 0).val) 16#32)
def v5w (i : grid1.Coords) : BitVec 32 := Scalar.select (Scalar.cmpi .slt (widW i) 8#32) 3#32 2#32
def v10w (i : grid1.Coords) : BitVec 32 :=
  Scalar.select (Scalar.cmpi .slt (widW i) 8#32) (Scalar.muli (widW i) (v5w i)) (Scalar.addi (Scalar.muli (widW i) 2#32) 8#32)
def v11w (i : grid1.Coords) : BitVec 32 := Scalar.muli 1#32 (v5w i)

theorem nB_pos (i : grid1.Coords) : 2 ≤ nB i := by unfold nB; split <;> omega
theorem nB_le (i : grid1.Coords) : nB i ≤ 3 := by unfold nB; split <;> omega

theorem block_lt (i : grid1.Coords) {k : ℕ} (hk : k < nB i) : base i + k < 72 := by
  have h0 : (i 0).val < 2 := (i 0).isLt
  have h1 : (i 1).val < 16 := (i 1).isLt
  unfold nB at hk; unfold base; unfold wid at *
  split <;> simp_all <;> omega

theorem cond1_eq : ∀ i : grid1.Coords, k1_cond1 i = 1#1 := by decide +kernel
theorem cond2_eq : ∀ i : grid1.Coords, k1_cond2 i = 1#1 := by decide +kernel
theorem cond18_eq : ∀ i : grid1.Coords, k1_cond18 i = 1#1 := by decide +kernel
theorem off2_eq : ∀ i : grid1.Coords, k1_off2 i = ![0, 256 * base i] := by decide +kernel
theorem trips_eq : ∀ i : grid1.Coords, (k1_t1_loop i).trips = nB i := by decide +kernel
theorem trips2_eq : ∀ i : grid1.Coords, (k1_t2_loop i).trips = 0 := by decide +kernel

theorem cond3_iff : ∀ (i : grid1.Coords) (t : Fin (k1_t1_loop i).trips), k1_cond3 i t (BitVec.ofNat 32 t.val) = 1#1 ↔ t.val + 1 < nB i := by decide +kernel
theorem cond4_eq : ∀ (i : grid1.Coords) (t : Fin (k1_t1_loop i).trips), k1_cond4 i t (BitVec.ofNat 32 t.val) = 1#1 := by decide +kernel
theorem cond7_eq : ∀ (i : grid1.Coords) (t : Fin (k1_t1_loop i).trips), k1_cond7 i t (BitVec.ofNat 32 t.val) = 1#1 := by decide +kernel
theorem cond9_iff : ∀ (i : grid1.Coords) (t : Fin (k1_t1_loop i).trips), k1_cond9 i t (BitVec.ofNat 32 t.val) = 1#1 ↔ 0 < t.val := by decide +kernel

theorem off5_eq : ∀ (i : grid1.Coords) (t : Fin (k1_t1_loop i).trips), t.val + 1 < nB i → k1_off5 i (BitVec.ofNat 32 t.val) = ![0, 256 * (base i + (t.val + 1))] := by decide +kernel
theorem off8_eq : ∀ (i : grid1.Coords) (t : Fin (k1_t1_loop i).trips), k1_off8 i (BitVec.ofNat 32 t.val) = ![0, 256 * (base i + t.val)] := by decide +kernel
theorem off13_eq : ∀ (i : grid1.Coords) (t : Fin (k1_t1_loop i).trips), k1_off13 i (BitVec.ofNat 32 t.val) = ![256 * (base i + t.val), 0] := by decide +kernel
theorem off16_eq : ∀ (i : grid1.Coords) (t : Fin (k1_t1_loop i).trips), 0 < t.val → k1_off16 i (BitVec.ofNat 32 t.val) = ![256 * (base i + (t.val - 1)), 0] := by decide +kernel
theorem off33_eq : ∀ i : grid1.Coords, k1_off33 i 0#32 = ![256 * (base i + (nB i - 1)), 0] := by decide +kernel

/-- The step counter the body carries: back at 0 after the last step. -/
def stepW (i : grid1.Coords) (k : ℕ) : BitVec 32 := BitVec.ofNat 32 (if k < nB i then k else 0)

/-- The words the loop carries before its step `k`: copies in started, copies in awaited, copies out started, copies
    out awaited, the step. -/
def carried (i : grid1.Coords) (k : ℕ) : BitVec 32 × BitVec 32 × BitVec 32 × BitVec 32 × BitVec 32 :=
  (BitVec.ofNat 32 (min (k + 1) (nB i)), BitVec.ofNat 32 k, BitVec.ofNat 32 k, BitVec.ofNat 32 (k - 1), stepW i k)

theorem chk1_ok : ∀ (i : grid1.Coords) (t : Fin (k1_t1_loop i).trips),
    k1_chk1 i t (BitVec.ofNat 32 (min (t.val + 1) (nB i))) (BitVec.ofNat 32 t.val) (BitVec.ofNat 32 t.val) (BitVec.ofNat 32 (t.val - 1)) (BitVec.ofNat 32 t.val) := by decide +kernel
theorem chk2_ok : ∀ (i : grid1.Coords) (t : Fin (k1_t1_loop i).trips), k1_chk2 i (BitVec.ofNat 32 t.val) := by decide +kernel
theorem chk3_ok : ∀ (i : grid1.Coords) (t : Fin (k1_t1_loop i).trips), k1_chk3 i (BitVec.ofNat 32 t.val) := by decide +kernel
theorem chk7_ok : ∀ i : grid1.Coords, k1_chk7 i (BitVec.ofNat 32 (nB i - 1)) := by decide +kernel
theorem chk8_ok : ∀ i : grid1.Coords, k1_chk8 i 0#32 := by decide +kernel

/-- The slot of step `k`. -/
def par (k : ℕ) : Fin 2 := ⟨k % 2, Nat.mod_lt _ (by decide)⟩
theorem par_add_two (k : ℕ) : par (k + 2) = par k := Fin.ext (Nat.add_mod_right k 2)

theorem off4_eq : ∀ k : Fin 4, k1_off4 (BitVec.ofNat 32 k.val) = ![(par k.val).val, 0, 0] := by decide +kernel
theorem off6_eq : ∀ k : Fin 4, k1_off6 (BitVec.ofNat 32 k.val) = ![(par k.val).val] := by decide +kernel
theorem off7_eq : ∀ k : Fin 4, k1_off7 (BitVec.ofNat 32 k.val) = ![(par k.val).val, 0, 0] := by decide +kernel
theorem off9_eq : ∀ k : Fin 4, k1_off9 (BitVec.ofNat 32 k.val) = ![(par k.val).val] := by decide +kernel
theorem off10_eq : ∀ k : Fin 4, k1_off10 (BitVec.ofNat 32 k.val) = ![(par k.val).val, 0, 0] := by decide +kernel
theorem off11_eq : ∀ k : Fin 4, k1_off11 (BitVec.ofNat 32 k.val) = ![(par k.val).val, 0, 0] := by decide +kernel
theorem off12_eq : ∀ k : Fin 4, k1_off12 (BitVec.ofNat 32 k.val) = ![(par k.val).val, 0, 0] := by decide +kernel
theorem off14_eq : ∀ k : Fin 4, k1_off14 (BitVec.ofNat 32 k.val) = ![(par k.val).val] := by decide +kernel
theorem off15_eq : ∀ k : Fin 4, k1_off15 (BitVec.ofNat 32 k.val) = ![(par k.val).val, 0, 0] := by decide +kernel
theorem off17_eq : ∀ k : Fin 4, k1_off17 (BitVec.ofNat 32 k.val) = ![(par k.val).val] := by decide +kernel
theorem off34_eq : ∀ k : Fin 4, k1_off34 (BitVec.ofNat 32 k.val) = ![(par k.val).val] := by decide +kernel
theorem off35_eq : ∀ k : Fin 4, k1_off35 (BitVec.ofNat 32 k.val) = ![(par k.val).val, 0, 0] := by decide +kernel

/-- The block of the next step and of the last one, as the body computes them from the step's word. -/
def nextW (i : grid1.Coords) (a : BitVec 32) : BitVec 32 :=
  Scalar.addi (Scalar.select (Scalar.cmpi .eq (Scalar.select 1#1 (Scalar.addi a 1#32) a) (v5w i)) 0#32 (Scalar.select 1#1 (Scalar.addi a 1#32) a)) (v10w i)
def prevW (i : grid1.Coords) (a : BitVec 32) : BitVec 32 :=
  Scalar.addi (Scalar.select (Scalar.cmpi .eq (Scalar.select 1#1 (Scalar.subi a 1#32) a) 4294967295#32) (Scalar.subi (v5w i) 1#32)
    (Scalar.select 1#1 (Scalar.subi a 1#32) a)) (v10w i)

/-- What the body yields from what it carries. -/
def yielded (i : grid1.Coords) (t : ℕ) (a6 a7 a8 a9 a10 : BitVec 32) : BitVec 32 × BitVec 32 × BitVec 32 × BitVec 32 × BitVec 32 :=
  let cur := Scalar.addi a10 (v10w i)
  let n := Scalar.muli 1#32 (v5w i)
  let moves := Scalar.cmpi .ne cur (nextW i a10)
  let last := Scalar.cmpi .eq (Scf.iv 0#32 1#32 t) (Scalar.subi n 1#32)
  let first := Scalar.cmpi .eq (Scf.iv 0#32 1#32 t) 0#32
  (Scalar.select (Scalar.andi (Scalar.andi moves (Scalar.xori (Scalar.cmpi .sge (Scf.iv 0#32 1#32 t) (Scalar.addi (Scalar.subi n 2#32) 1#32)) 1#1)) 1#1) (Scalar.addi a6 1#32) a6,
    Scalar.select (Scalar.ori moves last) (Scalar.addi a7 1#32) a7,
    Scalar.select (Scalar.andi (Scalar.ori moves last) 1#1) (Scalar.addi a8 1#32) a8,
    Scalar.select (Scalar.andi (Scalar.andi (Scalar.cmpi .ne cur (prevW i a10)) (Scalar.xori first 1#1)) 1#1) (Scalar.addi a9 1#32) a9,
    Scalar.select (Scalar.cmpi .eq (Scalar.select 1#1 (Scalar.addi a10 1#32) a10) (v5w i)) 0#32 (Scalar.select 1#1 (Scalar.addi a10 1#32) a10))

theorem yielded_eq : ∀ (i : grid1.Coords) (t : Fin (k1_t1_loop i).trips),
    yielded i t.val (BitVec.ofNat 32 (min (t.val + 1) (nB i))) (BitVec.ofNat 32 t.val) (BitVec.ofNat 32 t.val) (BitVec.ofNat 32 (t.val - 1)) (BitVec.ofNat 32 t.val)
      = carried i (t.val + 1) := by decide +kernel

/-- Before the first step one copy in is started. -/
theorem first_eq : ∀ i : grid1.Coords,
    (Scalar.select (Scalar.andi 1#1 (Scalar.cmpi .sgt (Scalar.muli 1#32 (v5w i)) 0#32)) (Scalar.addi 0#32 1#32) 0#32, 0#32, 0#32, 0#32, 0#32) = carried i 0 := by decide +kernel

end Cert.Proof.Whole
-- ==== Proof.WholeTile.lean ====
/-
  One tile's task of the row gather, over any element interpretation `F`: the pipelined loop of copies in (256 row numbers),
  indirect gathers (the 256 rows they name) and copies out (the rows to the tile's block of the output). Here are the
  windows the task addresses, what each transfer moves, and the rule of each of its five transfers and waits.
-/
module

public import proofs.«01_k».proof.Defs
public import proofs.«01_k».proof.Proof.WholeWords
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

set_option Elab.async false

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev 𝒱₀ : Variants := Variants.none

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staging protocol of the search's pipeline, beside the launch's. -/
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by unfold EP embR; infer_instance

abbrev eLoc (d : Dev nD) : Loc nD τ sig := (SparseCore.T d).loc main_v10
abbrev iLoc (d : Dev nD) : Loc nD τ sig := (SparseCore.T d).loc main_v13
abbrev oLoc (d : Dev nD) : Loc nD τ sig := (SparseCore.T d).loc main_v14

local notation "eV" => (Memref.whole Cert.KernelIdeal.main_v10_scv : Memref Cert.KernelIdeal.sig Kind.scVector Space.hbm Cert.KernelIdeal.S1024x128 EltTy.f32)
local notation "iV" => (Memref.whole Cert.KernelIdeal.main_v13_scv : Memref Cert.KernelIdeal.sig Kind.scVector Space.hbm Cert.KernelIdeal.S1x18432 EltTy.i32)
local notation "oV" => (Memref.whole Cert.KernelIdeal.main_v14_scv : Memref Cert.KernelIdeal.sig Kind.scVector Space.hbm Cert.KernelIdeal.S18432x128 EltTy.f32)
local notation "isV" => (Memref.whole Cert.KernelIdeal.cc1_scoped0 : Memref Cert.KernelIdeal.sig Kind.scVector Space.vmem Cert.KernelIdeal.S2x1x256 EltTy.i32)
local notation "osV" => (Memref.whole Cert.KernelIdeal.cc1_scoped2 : Memref Cert.KernelIdeal.sig Kind.scVector Space.vmem Cert.KernelIdeal.S2x256x128 EltTy.f32)

/-! ## The windows -/

/-- 256 row numbers from column `off 1` of the list. -/
abbrev inB (off : Fin 2 → ℕ) (h : ∀ a, off a + S1x256.size a ≤ S1x18432.size a) : Memref sig .scVector .hbm S1x256 .i32 :=
  (iV).slice (Rect.unit (s := S1x18432) off S1x256.size h) (fun _ => rfl)
/-- 256 rows of the output from row `off 0`. -/
abbrev outB (off : Fin 2 → ℕ) (h : ∀ a, off a + S256x128.size a ≤ S18432x128.size a) : Memref sig .scVector .hbm S256x128 .f32 :=
  (oV).slice (Rect.unit (s := S18432x128) off S256x128.size h) (fun _ => rfl)
/-- Slot `off 0` of the row number scratch. -/
abbrev inS (off : Fin 3 → ℕ) (h : ∀ a, off a + S1x1x256.size a ≤ S2x1x256.size a) : Memref sig .scVector .vmem S1x256 .i32 :=
  ((isV).slice (Rect.unit (s := S2x1x256) off S1x1x256.size h) (fun _ => rfl)).squeeze S1x256 squeezes_S1x1x256_S1x256
/-- Slot `off 0` of the row scratch. -/
abbrev outS (off : Fin 3 → ℕ) (h : ∀ a, off a + S1x256x128.size a ≤ S2x256x128.size a) : Memref sig .scVector .vmem S256x128 .f32 :=
  ((osV).slice (Rect.unit (s := S2x256x128) off S1x256x128.size h) (fun _ => rfl)).squeeze S256x128 squeezes_S1x256x128_S256x128
/-- The row number slot as the list an indirect gather reads. -/
abbrev offsS (off : Fin 3 → ℕ) (h : ∀ a, off a + S1x1x256.size a ≤ S2x1x256.size a) : Memref sig .scVector .vmem S256 .i32 :=
  ((inS off h).slice (Rect.unit (s := S1x256) ![0, 0] S1x256.size inb_S1x256_S1x256_0_0) (fun _ => rfl)).squeeze S256 squeezes_S1x256_S256
/-- The whole table, as the gather addresses it. -/
abbrev eAll : Memref sig .scVector .hbm S1024x128 .f32 :=
  (eV).slice (Rect.unit (s := S1024x128) ![0, 0] S1024x128.size inb_S1024x128_S1024x128_0_0) (fun _ => rfl)
abbrev semI (off : Fin 1 → ℕ) (h : ∀ a, off a + S1.size a ≤ S2.size a) : DmaSem sig :=
  ((cc1_scoped1.slice (Rect.unit (s := S2) off S1.size h)).squeeze S_ squeezes_S1_S_).sem
abbrev semO (off : Fin 1 → ℕ) (h : ∀ a, off a + S1.size a ≤ S2.size a) : DmaSem sig :=
  ((cc1_scoped3.slice (Rect.unit (s := S2) off S1.size h)).squeeze S_ squeezes_S1_S_).sem
abbrev semG : DmaSem sig := cc1_scoped4.sem

theorem inb_in {b : ℕ} (hb : b < 72) : ∀ a, (![0, 256 * b] : Fin 2 → ℕ) a + S1x256.size a ≤ S1x18432.size a := by
  intro a; match a with
  | 0 => simp [S1x256, S1x18432]
  | 1 => simp [S1x256, S1x18432]; omega
theorem inb_out {b : ℕ} (hb : b < 72) : ∀ a, (![256 * b, 0] : Fin 2 → ℕ) a + S256x128.size a ≤ S18432x128.size a := by
  intro a; match a with
  | 0 => simp [S256x128, S18432x128]; omega
  | 1 => simp [S256x128, S18432x128]
theorem inb_is (p : Fin 2) : ∀ a, (![p.val, 0, 0] : Fin 3 → ℕ) a + S1x1x256.size a ≤ S2x1x256.size a := by
  revert p; decide +kernel
theorem inb_os (p : Fin 2) : ∀ a, (![p.val, 0, 0] : Fin 3 → ℕ) a + S1x256x128.size a ≤ S2x256x128.size a := by
  revert p; decide +kernel
theorem inb_sem (p : Fin 2) : ∀ a, (![p.val] : Fin 1 → ℕ) a + S1.size a ≤ S2.size a := by
  revert p; decide +kernel

/-- The slots, the cells and the blocks by number. -/
abbrev inSlot (p : Fin 2) := inS ![p.val, 0, 0] (inb_is p)
abbrev outSlot (p : Fin 2) := outS ![p.val, 0, 0] (inb_os p)
abbrev cI (p : Fin 2) : DmaSem sig := semI ![p.val] (inb_sem p)
abbrev cO (p : Fin 2) : DmaSem sig := semO ![p.val] (inb_sem p)

/-- The columns of block `b` of the list, the rows of block `b` of the output. -/
def iRowSet (b : ℕ) : Finset S1x18432.Idx := Finset.univ.filter fun x => (x 1).val / 256 = b
def oRowSet (b : ℕ) : Finset S18432x128.Idx := Finset.univ.filter fun x => (x 0).val / 256 = b

theorem set_inB {b : ℕ} (hb : b < 72) (h) : (inB ![0, 256 * b] h).view.set = iRowSet b := by
  show ((iV).view.slice (Rect.unit (s := S1x18432) ![0, 256 * b] S1x256.size h)).set = iRowSet b
  ext x
  rw [show ((iV).view.slice (Rect.unit (s := S1x18432) ![0, 256 * b] S1x256.size h)).set
      = (Rect.unit (s := S1x18432) ![0, 256 * b] S1x256.size h).set from View.set_slice_whole _ _, Rect.mem_set_unit]
  have h0 : (x 0).val < 1 := (x 0).isLt
  simp only [iRowSet, Finset.mem_filter, Finset.mem_univ, true_and, Fin.forall_fin_two, S1x256]
  simp
  omega
theorem set_outB {b : ℕ} (hb : b < 72) (h) : (outB ![256 * b, 0] h).view.set = oRowSet b := by
  show ((oV).view.slice (Rect.unit (s := S18432x128) ![256 * b, 0] S256x128.size h)).set = oRowSet b
  ext x
  rw [show ((oV).view.slice (Rect.unit (s := S18432x128) ![256 * b, 0] S256x128.size h)).set
      = (Rect.unit (s := S18432x128) ![256 * b, 0] S256x128.size h).set from View.set_slice_whole _ _, Rect.mem_set_unit]
  have h1 : (x 1).val < 128 := (x 1).isLt
  simp only [oRowSet, Finset.mem_filter, Finset.mem_univ, true_and, Fin.forall_fin_two, S256x128]
  simp
  omega
theorem whole_1x256 : (Rect.unit (s := S1x256) ![0, 0] S1x256.size inb_S1x256_S1x256_0_0).set = Finset.univ := by
  ext x
  have h0 : (x 0).val < 1 := (x 0).isLt
  have h1 : (x 1).val < 256 := (x 1).isLt
  simp only [Rect.mem_set_unit, Finset.mem_univ, iff_true, Fin.forall_fin_two]
  simp [S1x256]
  omega
theorem whole_1024x128 : (Rect.unit (s := S1024x128) ![0, 0] S1024x128.size inb_S1024x128_S1024x128_0_0).set = Finset.univ := by
  ext x
  have h0 : (x 0).val < 1024 := (x 0).isLt
  have h1 : (x 1).val < 128 := (x 1).isLt
  simp only [Rect.mem_set_unit, Finset.mem_univ, iff_true, Fin.forall_fin_two]
  simp [S1024x128]
  omega
theorem set_offs (off h) : (offsS off h).view.set = (inS off h).view.set := by
  show (((inS off h).view.slice (Rect.unit (s := S1x256) ![0, 0] S1x256.size inb_S1x256_S1x256_0_0)).reshape S256 squeezes_S1x256_S256.numel_eq).set = _
  rw [View.set_reshape, View.set_slice, whole_1x256]; rfl
theorem set_eAll : (eAll).view.set = Finset.univ := by
  show ((eV).view.slice (Rect.unit (s := S1024x128) ![0, 0] S1024x128.size inb_S1024x128_S1024x128_0_0)).set = _
  exact (View.set_slice_whole _ _).trans whole_1024x128

/-! ## What the transfers move -/

abbrev cV (L : grid1.Coords) : Fin τ.nSC := (L 0).castLE hcore1
abbrev jV (L : grid1.Coords) : Fin τ.nSub := (L 1).castLE hsub1

/-- Positions in the list of row numbers, the table and the output. -/
def iIx (n : Fin 18432) : S1x18432.Idx := fun | 0 => (0 : Fin 1) | 1 => n
def eIx (r : Fin 1024) (j : Fin 128) : S1024x128.Idx := fun | 0 => r | 1 => j
def oIx (n : Fin 18432) (j : Fin 128) : S18432x128.Idx := fun | 0 => n | 1 => j
def lIx (n : Fin 256) : S1x256.Idx := fun | 0 => (0 : Fin 1) | 1 => n
abbrev row (b : ℕ) (r : Fin 256) : Fin 18432 := ⟨(256 * b + r.val) % 18432, Nat.mod_lt _ (by decide)⟩

section Values

variable (tab : S1024x128.Idx → Elt F .f32) (idx : S1x18432.Idx → BitVec 32)

/-- The row numbers of block `b`. -/
def iVal (b : ℕ) : S1x256.Idx → BitVec 32 := fun x => idx (iIx (row b (x 1)))
/-- The output: row `j 0` is the table's row its row number names. -/
def G : S18432x128.Idx → Elt F .f32 := fun j =>
  tab (eIx ⟨(idx (iIx (j 0))).toNat % 1024, Nat.mod_lt _ (by decide)⟩ (j 1))
/-- Block `b` of it. -/
def gVal (b : ℕ) : S256x128.Idx → Elt F .f32 := fun x => G tab idx (oIx (row b (x 0)) (x 1))

theorem read_inB {b : ℕ} (hb : b < 72) (h) : (inB ![0, 256 * b] h).view.read (Elt F) idx = iVal idx b := by
  funext x
  refine (View.read_apply _ _).trans ((cast_eq _ _).trans ?_)
  have h0 : (x 0).val < 1 := (x 0).isLt
  have h1 : (x 1).val < 256 := (x 1).isLt
  unfold iVal
  refine congrArg idx (funext fun a => Fin.ext ?_)
  match a with
  | 0 => show 0 + 1 * (x 0).val = 0; omega
  | 1 => show 256 * b + 1 * (x 1).val = (256 * b + (x 1).val) % 18432; rw [Nat.mod_eq_of_lt (by omega)]; omega

theorem gVal_at {b : ℕ} (hb : b < 72) (h) (x : S256x128.Idx) :
    G tab idx ((outB ![256 * b, 0] h).view.emb x) = gVal tab idx b x := by
  have h0 : (x 0).val < 256 := (x 0).isLt
  unfold gVal
  refine congrArg (G tab idx) (funext fun a => Fin.ext ?_)
  match a with
  | 0 => show 256 * b + 1 * (x 0).val = (256 * b + (x 0).val) % 18432; rw [Nat.mod_eq_of_lt (by omega)]; omega
  | 1 => show 0 + 1 * (x 1).val = (x 1).val; omega

/-- Writing a block's rows into the output leaves the output's own rows there. -/
theorem write_outB {b : ℕ} (hb : b < 72) (h : ∀ a, (![256 * b, 0] : Fin 2 → ℕ) a + S256x128.size a ≤ S18432x128.size a)
    (f : (outB ![256 * b, 0] h).view.ty.Contents (Elt F)) (i : (outB ![256 * b, 0] h).view.ty.Idx) (hi : i ∈ (outB ![256 * b, 0] h).view.set) :
    (outB ![256 * b, 0] h).view.write (Elt F) f (gVal tab idx b) Finset.univ i = G tab idx i := by
  obtain ⟨x, -, rfl⟩ := Finset.mem_map.mp hi
  refine (View.write_emb_of_mem f (gVal tab idx b) (Finset.mem_univ x)).trans ((cast_eq _ _).trans ?_)
  exact (gVal_at tab idx hb h x).symm

/-- The list an indirect gather reads, off a slot that holds block `b`'s row numbers. -/
theorem read_offs {b : ℕ} {off h} {f : S2x1x256.Idx → BitVec 32}
    (hf : (inS off h).view.read (Elt F) f = iVal idx b) (x : S256.Idx) :
    (offsS off h).view.read (Elt F) f x = idx (iIx (row b (x 0))) := by
  have e : (offsS off h).view.emb x = (inS off h).view.emb (lIx (x 0)) := by
    show (inS off h).view.emb ((Rect.unit (s := S1x256) ![0, 0] S1x256.size inb_S1x256_S1x256_0_0).emb (Shape.reshapeEquiv squeezes_S1x256_S256.numel_eq x)) = _
    rw [show Shape.reshapeEquiv squeezes_S1x256_S256.numel_eq x = Fin.cons ⟨0, Nat.one_pos⟩ x from Shape.reshapeEquiv_cons_one _ x]
    refine congrArg _ (funext fun a => Fin.ext ?_)
    match a with
    | 0 => rfl
    | 1 => show 0 + 1 * (x 0).val = (x 0).val; omega
  refine (View.read_apply _ _).trans ((cast_eq _ _).trans ?_)
  have := congrFun hf (lIx (x 0))
  refine Eq.trans (congrArg f e) (Eq.trans ?_ this)
  exact Eq.symm (Eq.trans (View.read_apply _ _) (cast_eq rfl _))

/-- The gather's payload off such a list is block `b` of the output. -/
theorem payload_eq {b : ℕ} (hidx : ∀ j, (idx j).toNat < 1024) {r : S256.Idx → BitVec 32} (hr : ∀ x, r x = idx (iIx (row b (x 0))))
    (hn : S256.numel = S256x128.size gathers_S1024x128_S256x128.axis') (hin : ∀ x, (r x).toNat < S1024x128.size gathers_S1024x128_S256x128.axis) :
    SparseCore.gatherPayload gathers_S1024x128_S256x128 ((eAll).view.read (Elt F) tab) (SparseCore.rows (F := F) r hn hin) = gVal tab idx b := by
  funext x
  unfold SparseCore.gatherPayload
  refine (View.read_apply _ _).trans ((cast_eq _ _).trans ?_)
  unfold gVal G
  have h1 : (x 1).val < 128 := (x 1).isLt
  refine congrArg tab (funext fun a => Fin.ext ?_)
  match a with
  | 0 =>
    show 0 + 1 * (gathers_S1024x128_S256x128.idx (SparseCore.rows (F := F) r hn hin) x gathers_S1024x128_S256x128.axis).val = (idx (iIx (row b (x 0)))).toNat % 1024
    rw [Shape.Gathers.idx_axis, Nat.mod_eq_of_lt (hidx _)]
    show 0 + 1 * (r (S256.rowMajor.symm _)).toNat = _
    rw [hr, Nat.zero_add, Nat.one_mul]
    have e : (S256.rowMajor.symm ((x 0).cast hn.symm) 0).val = (x 0).val := by
      rw [← Shape.rowMajor_val_one (d := ![256]) (S256.rowMajor.symm ((x 0).cast hn.symm))]
      exact congrArg Fin.val (S256.rowMajor.apply_symm_apply _)
    exact congrArg (fun n => (idx (iIx (row b n))).toNat) (Fin.ext e)
  | 1 =>
    show 0 + 1 * (gathers_S1024x128_S256x128.idx (SparseCore.rows (F := F) r hn hin) x 1).val = (x 1).val
    have e := Shape.Gathers.idx_of_ne gathers_S1024x128_S256x128 (SparseCore.rows (F := F) r hn hin) x (1 : Fin 2) (by decide)
    rw [Nat.zero_add, Nat.one_mul]
    exact e

end Values

/-! ## The slots' states -/

section Tile

variable (d : Dev nD) (L : grid1.Coords) (tab : S1024x128.Idx → Elt F .f32) (idx : S1x18432.Idx → BitVec 32)

/-- The tile's vector subcore. -/
abbrev th : Thread nD τ := V d (cV L) (jV L)

/-- What of a share of the list the transfers into slot `p` use. -/
abbrev half (q : PosShare TreeShare) (p : Fin 2) : PosShare TreeShare := if p = 0 then q.left else q.right

variable [FloatOps F] (q : PosShare TreeShare)

/-- Slot `p` of the row numbers, idle. -/
def inFree (p : Fin 2) : sProp 𝕄 :=
  iprop((∃ f, (inSlot p).view.loc (th d L) ↦[(inSlot p).view.set]{fullShare} f) ∗ (iLoc d ↦{half q p} idx) ∗ semVal (th d L, .dma (cI p)) 0)
/-- Block `b`'s row numbers landed in slot `p`. -/
def inHas (p : Fin 2) (b : ℕ) : sProp 𝕄 :=
  iprop((∃ f, ⌜(inSlot p).view.read (Elt F) f = iVal idx b⌝ ∗ (inSlot p).view.loc (th d L) ↦[(inSlot p).view.set]{fullShare} f)
    ∗ (iLoc d ↦{half q p} idx) ∗ semVal (th d L, .dma (cI p)) 0)
/-- Their copy in flight. -/
def inFly (p : Fin 2) (b : ℕ) : sProp 𝕄 :=
  iprop(Transfers.Flight countersEmb (th d L) (.dma (cI p)) (default : HIx 1) (inSlot p).view.dmaCredit
      iprop((∃ f, ⌜(inSlot p).view.read (Elt F) f = iVal idx b⌝ ∗ (inSlot p).view.loc (th d L) ↦[(inSlot p).view.set]{fullShare} f)
        ∗ (iLoc d ↦[iRowSet b]{half q p} idx))
    ∗ (iLoc d ↦[Finset.univ \ iRowSet b]{half q p} idx))
/-- Slot `p` of the rows, idle. -/
def outFree (p : Fin 2) : sProp 𝕄 :=
  iprop((∃ f, (outSlot p).view.loc (th d L) ↦[(outSlot p).view.set]{fullShare} f) ∗ semVal (th d L, .dma (cO p)) 0)
/-- Block `b`'s rows landed in slot `p`. -/
def outHas (p : Fin 2) (b : ℕ) : sProp 𝕄 :=
  iprop((∃ f, ⌜(outSlot p).view.read (Elt F) f = gVal tab idx b⌝ ∗ (outSlot p).view.loc (th d L) ↦[(outSlot p).view.set]{fullShare} f)
    ∗ semVal (th d L, .dma (cO p)) 0)
/-- Block `b` of the output, at the gathered rows. -/
def done (b : ℕ) : sProp 𝕄 := iprop(oLoc d ↦[oRowSet b]{fullShare} G tab idx)
/-- Their copy out in flight. -/
def outFly (p : Fin 2) (b : ℕ) : sProp 𝕄 :=
  iprop(Transfers.Flight countersEmb (th d L) (.dma (cO p)) (default : HIx 1) (outSlot p).view.dmaCredit
      iprop(done d tab idx b ∗ ∃ f, (outSlot p).view.loc (th d L) ↦[(outSlot p).view.set]{fullShare} f))

/-! ## The five transfers and waits -/

variable {d L tab idx q}

/-- The copy of block `b`'s row numbers into slot `p` starts. -/
theorem enqIn {Q : PUnit → sProp 𝕄} {p : Fin 2} {b : ℕ} (hb : b < 72) {o1 o2 o3} (e1 : o1 = ![0, 256 * b]) (e2 : o2 = ![p.val, 0, 0]) (e3 : o3 = ![p.val])
    {h1 h2 h3} {w1 w2 w3} :
    inFree d L idx q p ⊢ iprop((inFly d L idx q p b -∗ Q ⟨⟩) -∗
      wp frame (wpE (defs₀ (F := F)) 𝒱₀ (th d L) none) Set.univ
        (Prog.lift (.enqueueDma (inB o1 h1) (.here (inS o2 h2)) (.dma (semI o3 h3)) w1 w2 w3)) Q) := by
  subst e1 e2 e3
  unfold inFree
  iintro ⟨⟨%f, Hs⟩, Hi, Hv⟩ Hk
  ihave Hi := (pointsTo_split_subset (ℓ := iLoc d) (q := half q p) (f := idx) (Finset.subset_univ (iRowSet b))).1 $$ Hi
  icases Hi with ⟨Hi, Hr⟩
  ihave Hi := (Entails.of_eq (show (iLoc d ↦[iRowSet b]{half q p} idx : sProp 𝕄)
    = (inB ![0, 256 * b] h1).view.loc (th d L) ↦[(inB ![0, 256 * b] h1).view.set]{half q p} idx by rw [set_inB hb])) $$ Hi
  unfold Prog.lift
  iapply (Transfers.wp_dmaLocal countersEmb 𝒱₀ (th d L) none (default : HIx 1) (inSlot p).view.dmaCredit rfl (View.dmaCredit_pos _ (by decide))
    (Finset.Subset.refl _)) $$ [Hi Hs Hv]
  · isplitl [Hi]; · iexact Hi
    isplitl [Hs]; · iexact Hs
    iexact Hv
  iintro Hfl
  ihave Hfl := (Transfers.Flight_mono countersEmb (th d L) (show iprop(((inSlot p).view.loc (th d L) ↦[(inSlot p).view.set]{fullShare}
      (inSlot p).view.write (Elt F) f ((inB ![0, 256 * b] h1).view.read (Elt F) idx) Finset.univ)
      ∗ ((inB ![0, 256 * b] h1).view.loc (th d L) ↦[(inB ![0, 256 * b] h1).view.set]{half q p} idx))
      ⊢ (iprop((∃ f, ⌜(inSlot p).view.read (Elt F) f = iVal idx b⌝ ∗ (inSlot p).view.loc (th d L) ↦[(inSlot p).view.set]{fullShare} f)
        ∗ (iLoc d ↦[iRowSet b]{half q p} idx)) : sProp 𝕄) by
    rw [set_inB hb, read_inB idx hb h1]
    iintro ⟨Hs, Hi⟩
    isplitl [Hs]
    · iexists ((inSlot p).view.write (Elt F) f (iVal idx b) Finset.univ); isplitr
      · ipureintro; exact View.read_write_univ _ _
      · iexact Hs
    · iexact Hi)) $$ Hfl
  sl_step
  iapply Hk
  unfold inFly
  isplitl [Hfl]; · iexact Hfl
  iexact Hr

/-- The wait for it. -/
theorem waitIn {Q : PUnit → sProp 𝕄} {p : Fin 2} {b : ℕ} (hb : b < 72) {o1 o2 o3} (e2 : o2 = ![p.val, 0, 0]) (e3 : o3 = ![p.val])
    {h1 h2 h3} {w1 w2} {O : CellTallies nD τ sig (HIx 1)} {W : Waits sig (HIx 1)} :
    iprop(inFly d L idx q p b ∗ owes (th d L) O W ∗ Transfers.MayWaits (th d L) (default : HIx 1) O) ⊢
      iprop((inHas d L idx q p b ∗ owes (th d L) O (insert (SemLoc.dma (cI p), default) W) -∗ Q ⟨⟩) -∗
      wp frame (wpE (defs₀ (F := F)) 𝒱₀ (th d L) none) Set.univ
        (Prog.lift (.waitDma2 (semI o3 h3) (inB o1 h1) (inS o2 h2) w1 w2)) Q) := by
  subst e2 e3
  unfold inFly inHas Prog.lift
  iintro ⟨⟨Hfl, Hr⟩, HO, Hmw⟩ Hk
  iapply (Transfers.wp_waitLocalO countersEmb 𝒱₀ (th d L) none (default : HIx 1) (rfl : (inSlot p).view.dmaCredit = _)) $$ [Hfl HO Hmw]
  · isplitl [Hfl]; · iexact Hfl
    isplitl [HO]; · iexact HO
    iapply (Transfers.MayWaits.elim (SemLoc.dma (cI p))) $$ Hmw
  iintro ⟨⟨Hs, Hi⟩, Hv, HO⟩
  ihave Hi := (pointsTo_split_subset (ℓ := iLoc d) (q := half q p) (f := idx) (Finset.subset_univ (iRowSet b))).2 $$ [Hi Hr]
  · isplitl [Hi] <;> iassumption
  sl_step
  iapply Hk
  isplitr [HO]
  · isplitl [Hs]; · iexact Hs
    isplitl [Hi]; · iexact Hi
    iexact Hv
  iexact HO

/-- The copy of slot `p` of the rows to block `b` of the output starts. -/
theorem enqOut {Q : PUnit → sProp 𝕄} {p : Fin 2} {b : ℕ} (hb : b < 72) {o1 o2 o3} (e1 : o1 = ![256 * b, 0]) (e2 : o2 = ![p.val, 0, 0]) (e3 : o3 = ![p.val])
    {h1 h2 h3} {w1 w2 w3} {f₀ : Buf (Elt F) (oLoc d)} :
    iprop(outHas d L tab idx p b ∗ (oLoc d ↦[oRowSet b]{fullShare} f₀)) ⊢ iprop((outFly d L tab idx p b -∗ Q ⟨⟩) -∗
      wp frame (wpE (defs₀ (F := F)) 𝒱₀ (th d L) none) Set.univ
        (Prog.lift (.enqueueDma (outS o2 h2) (.here (outB o1 h1)) (.dma (semO o3 h3)) w1 w2 w3)) Q) := by
  subst e1 e2 e3
  unfold outHas
  iintro ⟨⟨⟨%f, %hf, Hs⟩, Hv⟩, Ho⟩ Hk
  ihave Ho := (Entails.of_eq (show (oLoc d ↦[oRowSet b]{fullShare} f₀ : sProp 𝕄)
    = (outB ![256 * b, 0] h1).view.loc (th d L) ↦[(outB ![256 * b, 0] h1).view.set]{fullShare} f₀ by rw [set_outB hb])) $$ Ho
  unfold Prog.lift
  iapply (Transfers.wp_dmaLocal countersEmb 𝒱₀ (th d L) none (default : HIx 1) (outSlot p).view.dmaCredit rfl (View.dmaCredit_pos _ (by decide))
    (Finset.Subset.refl _)) $$ [Ho Hs Hv]
  · isplitl [Hs]; · iexact Hs
    isplitl [Ho]; · iexact Ho
    iexact Hv
  iintro Hfl
  ihave Hfl := (Transfers.Flight_mono countersEmb (th d L) (show iprop(((outB ![256 * b, 0] h1).view.loc (th d L) ↦[(outB ![256 * b, 0] h1).view.set]{fullShare}
      (outB ![256 * b, 0] h1).view.write (Elt F) f₀ ((outSlot p).view.read (Elt F) f) Finset.univ)
      ∗ ((outSlot p).view.loc (th d L) ↦[(outSlot p).view.set]{fullShare} f))
      ⊢ (iprop(done d tab idx b ∗ ∃ f, (outSlot p).view.loc (th d L) ↦[(outSlot p).view.set]{fullShare} f) : sProp 𝕄) by
    rw [hf, pointsTo_congr (write_outB tab idx hb h1 f₀), set_outB hb]
    unfold done
    iintro ⟨Ho, Hs⟩
    isplitl [Ho]; · iexact Ho
    iexists _; iexact Hs)) $$ Hfl
  sl_step
  iapply Hk
  unfold outFly
  iexact Hfl

/-- The wait for it. -/
theorem waitOut {Q : PUnit → sProp 𝕄} {p : Fin 2} {b : ℕ} {o1 o2 o3} (e2 : o2 = ![p.val, 0, 0]) (e3 : o3 = ![p.val])
    {h1 h2 h3} {w1 w2} {O : CellTallies nD τ sig (HIx 1)} {W : Waits sig (HIx 1)} :
    iprop(outFly d L tab idx p b ∗ owes (th d L) O W ∗ Transfers.MayWaits (th d L) (default : HIx 1) O) ⊢
      iprop((done d tab idx b ∗ outFree d L p ∗ owes (th d L) O (insert (SemLoc.dma (cO p), default) W) -∗ Q ⟨⟩) -∗
      wp frame (wpE (defs₀ (F := F)) 𝒱₀ (th d L) none) Set.univ
        (Prog.lift (.waitDma2 (semO o3 h3) (outS o2 h2) (outB o1 h1) w1 w2)) Q) := by
  subst e2 e3
  unfold outFly outFree Prog.lift
  iintro ⟨Hfl, HO, Hmw⟩ Hk
  iapply (Transfers.wp_waitLocalO countersEmb 𝒱₀ (th d L) none (default : HIx 1) (show (outB o1 h1).view.dmaCredit = (outSlot p).view.dmaCredit from rfl)) $$ [Hfl HO Hmw]
  · isplitl [Hfl]; · iexact Hfl
    isplitl [HO]; · iexact HO
    iapply (Transfers.MayWaits.elim (SemLoc.dma (cO p))) $$ Hmw
  iintro ⟨⟨Ho, Hs⟩, Hv, HO⟩
  sl_step
  iapply Hk
  isplitl [Ho]; · iexact Ho
  isplitr [HO]
  · isplitl [Hs]; · iexact Hs
    iexact Hv
  iexact HO

/-- The indirect gather of the rows slot `p` names into slot `p` of the rows, and its wait. -/
theorem gatherStep {Q : PUnit → sProp 𝕄} {p : Fin 2} {b : ℕ} (hidx : ∀ j, (idx j).toNat < 1024) {o1 o2 o3} (e1 : o1 = ![p.val, 0, 0]) (e2 : o2 = ![p.val, 0, 0]) (e3 : o3 = ![p.val, 0, 0])
    {h1 h2 h3} {w1 w2 w3 w4} {w5 : S1024x128.StreamRows 0} {qe : PosShare TreeShare} {O : CellTallies nD τ sig (HIx 1)} {W : Waits sig (HIx 1)} :
    iprop(inHas d L idx q p b ∗ outFree d L p ∗ (eLoc d ↦{qe} tab) ∗ semVal (th d L, .dma semG) 0
        ∗ owes (th d L) O W ∗ Transfers.MayWaits (th d L) (default : HIx 1) O) ⊢
      iprop((inFree d L idx q p ∗ outHas d L tab idx p b ∗ (eLoc d ↦{qe} tab) ∗ semVal (th d L, .dma semG) 0
        ∗ owes (th d L) O (insert (SemLoc.dma semG, default) W) -∗ Q ⟨⟩) -∗
      wp frame (wpE (defs₀ (F := F)) 𝒱₀ (th d L) none) Set.univ
        (do
          SparseCore.enqueueIndirectGather rfl (eAll) (outS o1 h1) gathers_S1024x128_S256x128 (offsS o2 h2) rfl semG w1 rfl w2 w5
          SparseCore.waitIndirectGather semG (eAll) (outS o3 h3) w3 w4
          pure PUnit.unit) Q) := by
  subst e1 e2 e3
  unfold inHas outFree
  iintro ⟨⟨⟨%fi, %hf, Hs⟩, Hi, Hvi⟩, ⟨⟨%fo, Ho⟩, Hvo⟩, He, Hvg, HO, Hmw⟩ Hk
  have hr := read_offs (F := F) (h := h2) idx hf
  have hin : ∀ x, ((offsS ![p.val, 0, 0] h2).view.read (Elt F) fi x).toNat < S1024x128.size gathers_S1024x128_S256x128.axis := fun x => by
    rw [hr x]; exact hidx _
  ihave He := (Entails.of_eq (show (eLoc d ↦{qe} tab : sProp 𝕄) = (eAll).view.loc (th d L) ↦[(eAll).view.set]{qe} tab by rw [set_eAll])) $$ He
  ihave Hs := (Entails.of_eq (show ((inSlot p).view.loc (th d L) ↦[(inSlot p).view.set]{fullShare} fi : sProp 𝕄)
    = (offsS ![p.val, 0, 0] h2).view.loc (th d L) ↦[(offsS ![p.val, 0, 0] h2).view.set]{fullShare} fi by rw [set_offs])) $$ Hs
  have hN : ∀ p : Fin 2, ∀ h : S1024x128.Gathers 0 S256x128, ∑ j, ((outSlot p).slice (S256x128.rowRect h.axis' j) (S256x128.stride_rowRect h.axis' j)).view.dmaCredit
      = (outSlot p).view.dmaCredit := by decide +kernel
  have H := SparseCore.wp_indirectGatherLocal (Q := Q) (k := fun _ => (do
      SparseCore.waitIndirectGather semG (eAll) (outS ![p.val, 0, 0] h3) w3 w4
      pure PUnit.unit)) (hp := rfl) (he := rfl) (hn := rfl) (hsp := w2) (hsrc := w1) (hr := w5) (src := eAll) (dst := outSlot p) (fs := tab) (fd := fo)
      (q := qe) (qo := fullShare) (sem := semG) (defs := defs₀ (F := F)) countersEmb 𝒱₀ (th d L) none (hg := gathers_S1024x128_S256x128) (default : HIx 1)
      (outSlot p).view.dmaCredit (hN p gathers_S1024x128_S256x128) (by decide) hin
  iapply H $$ [He Ho Hs Hvg]
  · isplitl [He]; · iexact He
    isplitl [Ho]; · iexact Ho
    isplitl [Hs]; · iexact Hs
    iexact Hvg
  iintro Hfl
  sl_exec
  iapply (Transfers.wp_waitLocalO countersEmb 𝒱₀ (th d L) none (default : HIx 1) (rfl : (outSlot p).view.dmaCredit = _)) $$ [Hfl HO Hmw]
  · isplitl [Hfl]; · iexact Hfl
    isplitl [HO]; · iexact HO
    iapply (Transfers.MayWaits.elim (SemLoc.dma semG)) $$ Hmw
  iintro ⟨⟨Ho, He, Hs⟩, Hvg, HO⟩
  have hp := payload_eq tab idx hidx hr rfl hin
  ihave Ho := (Entails.of_eq (congrArg (fun v => ((outSlot p).view.loc (th d L) ↦[(outSlot p).view.set]{fullShare} (outSlot p).view.write (Elt F) fo v Finset.univ : sProp 𝕄)) hp)) $$ Ho
  ihave He := (Entails.of_eq (show ((eAll).view.loc (th d L) ↦[(eAll).view.set]{qe} tab : sProp 𝕄) = (eLoc d ↦{qe} tab) by rw [set_eAll])) $$ He
  ihave Hs := (Entails.of_eq (show ((offsS ![p.val, 0, 0] h2).view.loc (th d L) ↦[(offsS ![p.val, 0, 0] h2).view.set]{fullShare} fi : sProp 𝕄)
    = (inSlot p).view.loc (th d L) ↦[(inSlot p).view.set]{fullShare} fi by rw [set_offs])) $$ Hs
  sl_step
  sl_step
  iapply Hk
  unfold inFree outHas
  isplitl [Hs Hi Hvi]
  · isplitl [Hs]; · iexists _; iexact Hs
    isplitl [Hi]; · iexact Hi
    iexact Hvi
  isplitl [Ho Hvo]
  · isplitl [Ho]
    · iexists ((outSlot p).view.write (Elt F) fo (gVal tab idx b) Finset.univ); isplitr
      · ipureintro; exact View.read_write_univ _ _
      · iexact Ho
    iexact Hvo
  isplitl [He]; · iexact He
  isplitl [Hvg]; · iexact Hvg
  iexact HO

end Tile

end Cert.Proof.Whole
-- ==== Proof.WholeBody.lean ====
/-
  One tile's task of the row gather, run: the loop's invariant, one step of it, and the task from its idle slots to its
  blocks of the output at the gathered rows.
-/
module

public import proofs.«01_k».proof.Proof.WholeTile

@[expose] public section

set_option Elab.async false

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eV" => (Memref.whole Cert.KernelIdeal.main_v10_scv : Memref Cert.KernelIdeal.sig Kind.scVector Space.hbm Cert.KernelIdeal.S1024x128 EltTy.f32)
local notation "iV" => (Memref.whole Cert.KernelIdeal.main_v13_scv : Memref Cert.KernelIdeal.sig Kind.scVector Space.hbm Cert.KernelIdeal.S1x18432 EltTy.i32)
local notation "oV" => (Memref.whole Cert.KernelIdeal.main_v14_scv : Memref Cert.KernelIdeal.sig Kind.scVector Space.hbm Cert.KernelIdeal.S18432x128 EltTy.f32)
local notation "isV" => (Memref.whole Cert.KernelIdeal.cc1_scoped0 : Memref Cert.KernelIdeal.sig Kind.scVector Space.vmem Cert.KernelIdeal.S2x1x256 EltTy.i32)
local notation "osV" => (Memref.whole Cert.KernelIdeal.cc1_scoped2 : Memref Cert.KernelIdeal.sig Kind.scVector Space.vmem Cert.KernelIdeal.S2x256x128 EltTy.f32)

section Tile

variable (d : Dev nD) (L : grid1.Coords) (tab : S1024x128.Idx → Elt F .f32) (idx : S1x18432.Idx → BitVec 32)
variable [FloatOps F] (q qe : PosShare TreeShare) (o₀ : S18432x128.Idx → Elt F .f32) (O : CellTallies nD τ sig (HIx 1)) (W : Waits sig (HIx 1))

/-- What the tile owes, and the waits it has recorded: none but its own transfers'. -/
def owing : sProp 𝕄 := iprop(∃ W', ⌜∀ p ∈ W', p ∈ W ∨ p.2 = none⌝ ∗ owes (th d L) O W')

/-- The row number slot of step `k`, before it: its block's copy in flight, or nothing left to copy. -/
def inSt (k : ℕ) : sProp 𝕄 := if k < nB L then inFly d L idx q (par k) (base L + k) else inFree d L idx q (par k)
/-- The row slot of the step before `k`: its block's copy out in flight, or nothing yet. -/
def outSt (k : ℕ) : sProp 𝕄 := if 0 < k then outFly d L tab idx (par (k + 1)) (base L + (k - 1)) else outFree d L (par (k + 1))
/-- The tile's blocks: those whose copy out has been awaited, those not yet reached. -/
def blocks (k : ℕ) : sProp 𝕄 :=
  iprop((bigSep (Finset.range (k - 1)) fun j => done d tab idx (base L + j))
    ∗ bigSep (Finset.Ico k (nB L)) fun j => iprop(oLoc d ↦[oRowSet (base L + j)]{fullShare} o₀))

/-- The loop's invariant, before step `k`. -/
def I (k : ℕ) (acc : BitVec 32 × BitVec 32 × BitVec 32 × BitVec 32 × BitVec 32) : sProp 𝕄 :=
  iprop(⌜k ≤ nB L ∧ acc = carried L k⌝ ∗ Transfers.MayWaits (th d L) (default : HIx 1) O ∗ (eLoc d ↦{qe} tab) ∗ semVal (th d L, .dma semG) 0
    ∗ inSt d L idx q k ∗ inFree d L idx q (par (k + 1)) ∗ outFree d L (par k) ∗ outSt d L tab idx k ∗ blocks d L tab idx o₀ k ∗ owing d L O W)

/-- The words of step `t`. -/
abbrev w6 (t : ℕ) : BitVec 32 := BitVec.ofNat 32 (min (t + 1) (nB L))
abbrev wt (t : ℕ) : BitVec 32 := BitVec.ofNat 32 t

variable {d L tab idx q}

/-- What the body's first part hands on. -/
abbrev Handed (L : grid1.Coords) (t : Fin (k1_t1_loop L).trips) (a6 a7 a8 a9 a10 : BitVec 32) : Type :=
  Σ' (_ : k1_chk3 L a7) (_ : k1_chk2 L a8) (_ : k1_chk1 L t a6 a7 a8 a9 a10) (_ : BitVec 32) (_ : BitVec 32) (_ : BitVec 1) (_ : BitVec 1)
    (_ : BitVec 32) (_ : BitVec 32) (_ : BitVec 32) (_ : BitVec 32) (_ : BitVec 1), BitVec 32

def handed (L : grid1.Coords) (t : Fin (k1_t1_loop L).trips) : Handed L t (w6 L t.val) (wt t.val) (wt t.val) (wt (t.val - 1)) (wt t.val) :=
  ⟨chk3_ok L t, chk2_ok L t, chk1_ok L t, Scf.iv 0#32 1#32 t.val, Scalar.muli 1#32 (v5w L), Scalar.cmpi .eq (Scf.iv 0#32 1#32 t.val) 0#32,
          Scalar.cmpi .eq (Scf.iv 0#32 1#32 t.val) (Scalar.subi (Scalar.muli 1#32 (v5w L)) 1#32), Scalar.addi (wt t.val) (v10w L),
          prevW L (wt t.val), nextW L (wt t.val), (yielded L t.val (w6 L t.val) (wt t.val) (wt t.val) (wt (t.val - 1)) (wt t.val)).1,
          Scalar.cmpi .ne (Scalar.addi (wt t.val) (v10w L)) (nextW L (wt t.val)), 2#32⟩

/-- The body's first part starts the copy of the next block's row numbers, if there is a next block. -/
theorem part1 (h1) (t : Fin (k1_t1_loop L).trips) {Q : Handed L t (w6 L t.val) (wt t.val) (wt t.val) (wt (t.val - 1)) (wt t.val) → sProp 𝕄} :
    inFree d L idx q (par (t.val + 1)) ⊢ iprop((inSt d L idx q (t.val + 1) -∗
        Q (handed L t)) -∗
      wp frame (wpE (defs₀ (F := F)) 𝒱₀ (th d L) none) Set.univ
        (k1_part1 L eV (Memref.isWhole_whole _) iV (Memref.isWhole_whole _) oV (Memref.isWhole_whole _) isV (Memref.isWhole_whole _) cc1_scoped1
          osV (Memref.isWhole_whole _) cc1_scoped3 cc1_scoped4 cc1_scoped5 (v5w L) (v10w L) h1 0#32 1#32 t (w6 L t.val) (wt t.val) (wt t.val) (wt (t.val - 1)) (wt t.val)) Q) := by
  have c1 := chk1_ok L t
  have c2 := chk2_ok L t
  have c3 := chk3_ok L t
  have hQ : ∀ x, x = handed L t → (Q (handed L t) ⊢ Q x) := fun x h => h ▸ .rfl
  rw [k1_part1_eq_skeleton]
  unfold k1_part1_skel
  iintro Hin Hk
  sl_exec
  by_cases hk : t.val + 1 < nB L
  · have hc := (cond3_iff L t).mpr hk
    rw [dif_pos hc]
    rw [wp_bind]
    have h4 : t.val + 1 < 4 := lt_of_le_of_lt hk.le (Nat.lt_succ_of_le (nB_le L))
    have hw : w6 L t.val = BitVec.ofNat 32 (⟨t.val + 1, h4⟩ : Fin 4).val := by
      show BitVec.ofNat 32 _ = _
      rw [min_eq_left hk.le]
    iapply enqIn (block_lt L hk) (off5_eq L t hk) ((congrArg k1_off4 hw).trans (off4_eq _)) ((congrArg k1_off6 hw).trans (off6_eq _)) $$ Hin
    iintro Hin
    sl_exec
    rw [wp_ret]
    imodintro
    iapply hQ
    · rfl
    iapply Hk
    rw [inSt, if_pos hk]
    iexact Hin
  · have hc := fun h => hk ((cond3_iff L t).mp h)
    rw [dif_neg hc]
    sl_exec
    rw [wp_ret]
    imodintro
    iapply hQ
    · rfl
    iapply Hk
    rw [inSt, if_neg hk]
    iexact Hin

theorem insert_own {W W' : Waits sig (HIx 1)} {c : SemLoc sig} (h : ∀ p ∈ W', p ∈ W ∨ p.2 = none) :
    ∀ p ∈ insert (c, (default : HIx 1)) W', p ∈ W ∨ p.2 = none := by
  intro p hp
  rcases Finset.mem_insert.mp hp with rfl | hp
  · exact .inr rfl
  · exact h p hp

theorem owing_open {O : CellTallies nD τ sig (HIx 1)} {W : Waits sig (HIx 1)} :
    (owing d L O W : sProp 𝕄) ⊢ iprop(∃ W', ⌜∀ p ∈ W', p ∈ W ∨ p.2 = none⌝ ∗ owes (th d L) O W') := .rfl

theorem owing_insert {O : CellTallies nD τ sig (HIx 1)} {W W' : Waits sig (HIx 1)} {c : SemLoc sig} (h : ∀ p ∈ W', p ∈ W ∨ p.2 = none) :
    (owes (th d L) O (insert (c, default) W') : sProp 𝕄) ⊢ owing d L O W := by
  iintro H
  unfold owing
  iexists (insert (c, default) W')
  isplitr
  · ipureintro
    exact insert_own h
  · iexact H

/-- The body's second part awaits the block's row numbers and gathers its rows. -/
theorem part2 (hidx : ∀ j, (idx j).toNat < 1024) (h1) (t : Fin (k1_t1_loop L).trips) (hw3 hw2 hw1) (a5 a80 : BitVec 32) (a81 : BitVec 1)
    (a84 a90 : BitVec 32) (a113 : BitVec 1) (c2 : BitVec 32)
    {qe : PosShare TreeShare} {O : CellTallies nD τ sig (HIx 1)} {W : Waits sig (HIx 1)} {Q : PUnit → sProp 𝕄} :
    iprop(inFly d L idx q (par t.val) (base L + t.val) ∗ outFree d L (par t.val) ∗ (eLoc d ↦{qe} tab) ∗ semVal (th d L, .dma semG) 0
        ∗ owing d L O W ∗ Transfers.MayWaits (th d L) (default : HIx 1) O) ⊢
      iprop((inFree d L idx q (par t.val) ∗ outHas d L tab idx (par t.val) (base L + t.val) ∗ (eLoc d ↦{qe} tab) ∗ semVal (th d L, .dma semG) 0
        ∗ owing d L O W -∗ Q ⟨⟩) -∗
      wp frame (wpE (defs₀ (F := F)) 𝒱₀ (th d L) none) Set.univ
        (k1_part2 L eV (Memref.isWhole_whole _) iV (Memref.isWhole_whole _) oV (Memref.isWhole_whole _) isV (Memref.isWhole_whole _) cc1_scoped1
          osV (Memref.isWhole_whole _) cc1_scoped3 cc1_scoped4 cc1_scoped5 h1 t (w6 L t.val) (wt t.val) (wt t.val) (wt (t.val - 1)) (wt t.val)
          hw3 hw2 hw1 a5 a80 a81 a84 a90 a113 c2) Q) := by
  have ht : t.val < nB L := lt_of_lt_of_eq t.isLt (trips_eq L)
  have h4 : t.val < 4 := lt_of_lt_of_le ht ((nB_le L).trans (by omega))
  have hc := cond4_eq L t
  rw [k1_part2_eq_skeleton]
  unfold k1_part2_skel
  iintro ⟨Hin, Hout, He, Hg, HO, #Hmw⟩ Hk
  rw [dif_pos hc]
  rw [wp_bind]
  ihave HO := owing_open $$ HO
  icases HO with ⟨%W', %hW', HO⟩
  iapply waitIn (block_lt L ht) (off7_eq ⟨t.val, h4⟩) (off9_eq ⟨t.val, h4⟩) $$ [Hin HO]
  · iframe
    iexact Hmw
  iintro ⟨Hin, HO⟩
  rw [ite_self]
  iapply gatherStep hidx (off10_eq ⟨t.val, h4⟩) (off11_eq ⟨t.val, h4⟩) (off10_eq ⟨t.val, h4⟩) $$ [Hin Hout He Hg HO]
  · iframe
    iexact Hmw
  iintro ⟨Hin, Hout, He, Hg, HO⟩
  iapply Hk
  iframe
  iapply (owing_insert (F := F) (insert_own hW')) $$ HO

/-! ## The states' changes over a step -/

theorem inSt_fly {k : ℕ} (hk : k < nB L) : inSt (F := F) d L idx q k = inFly d L idx q (par k) (base L + k) := if_pos hk
theorem inSt_end {k : ℕ} (hk : ¬ k < nB L) : inSt (F := F) d L idx q k = inFree d L idx q (par k) := if_neg hk
theorem outSt_succ (k : ℕ) : outSt d L tab idx (k + 1) = outFly d L tab idx (par k) (base L + k) := by
  unfold outSt
  rw [if_pos (Nat.succ_pos k), show k + 1 + 1 = k + 2 from rfl, par_add_two, Nat.add_sub_cancel]
theorem outSt_zero : outSt d L tab idx 0 = outFree d L (par 1) := if_neg (Nat.lt_irrefl 0)

/-- The next block of the output is taken from those not yet reached. -/
theorem blocks_take {o₀ : S18432x128.Idx → Elt F .f32} {k : ℕ} (hk : k < nB L) :
    (bigSep (Finset.Ico k (nB L)) fun j => (iprop(oLoc d ↦[oRowSet (base L + j)]{fullShare} o₀) : sProp 𝕄))
      = iprop((oLoc d ↦[oRowSet (base L + k)]{fullShare} o₀) ∗ bigSep (Finset.Ico (k + 1) (nB L)) fun j => iprop(oLoc d ↦[oRowSet (base L + j)]{fullShare} o₀)) := by
  rw [← Finset.insert_Ico_add_one_left_eq_Ico hk, bigSep_insert (by simp)]
  rfl

/-- The block just awaited joins those at their final rows. -/
theorem blocks_join {k : ℕ} (hk : 0 < k) :
    iprop(done d tab idx (base L + (k - 1)) ∗ bigSep (Finset.range (k - 1)) fun j => done d tab idx (base L + j))
      = (bigSep (Finset.range k) fun j => done d tab idx (base L + j)) := by
  obtain ⟨n, rfl⟩ : ∃ n, k = n + 1 := ⟨k - 1, by omega⟩
  rw [Nat.add_sub_cancel, Finset.range_add_one, bigSep_insert (by simp)]
  rfl

theorem done_congr {k k' : ℕ} (h : k = k') :
    (bigSep (Finset.range k) fun j => done (F := F) d tab idx (base L + j)) = bigSep (Finset.range k') fun j => done d tab idx (base L + j) := by rw [h]

/-- One step of the loop keeps its invariant. -/
theorem body_step (hidx : ∀ j, (idx j).toNat < 1024) (h1) (v41 v45 : BitVec 32) (t : Fin (k1_t1_loop L).trips)
    {qe : PosShare TreeShare} {o₀ : S18432x128.Idx → Elt F .f32} {O : CellTallies nD τ sig (HIx 1)} {W : Waits sig (HIx 1)} :
    I d L tab idx q qe o₀ O W t.val (carried L t.val) ⊢
      wp frame (wpE (defs₀ (F := F)) 𝒱₀ (th d L) none) Set.univ
        (k1_t1_body L eV (Memref.isWhole_whole _) iV (Memref.isWhole_whole _) oV (Memref.isWhole_whole _) isV (Memref.isWhole_whole _) cc1_scoped1
          osV (Memref.isWhole_whole _) cc1_scoped3 cc1_scoped4 cc1_scoped5 (v5w L) (v10w L) (v11w L) h1 v41 0#32 0#32 0#32 0#32 0#32 v45 t (carried L t.val))
        (I d L tab idx q qe o₀ O W (t.val + 1)) := by
  have ht : t.val < nB L := lt_of_lt_of_eq t.isLt (trips_eq L)
  have h4 : t.val < 4 := lt_of_lt_of_le ht ((nB_le L).trans (by omega))
  have hp : t.val - 1 < 4 := by omega
  have hc7 := cond7_eq L t
  have hc : carried L t.val = (w6 L t.val, wt t.val, wt t.val, wt (t.val - 1), wt t.val) := by
    unfold carried stepW
    rw [if_pos ht]
  rw [hc]
  unfold k1_t1_body
  iintro HI
  ihave HI := (show I d L tab idx q qe o₀ O W t.val _ ⊢ _ from .rfl) $$ HI
  unfold I
  icases HI with ⟨-, #Hmw, He, Hg, Hin, Hin', Hout, Hout', Hbl, HO⟩
  dsimp only
  rw [wp_bind]
  iapply part1 h1 t $$ Hin'
  iintro Hin'
  unfold handed
  dsimp only
  rw [wp_bind]
  ihave Hin := (Entails.of_eq (inSt_fly ht)) $$ Hin
  iapply part2 hidx h1 t $$ [Hin Hout He Hg HO]
  · iframe
    iexact Hmw
  iintro ⟨Hin, Hout, He, Hg, HO⟩
  rw [ite_self, dif_pos hc7, wp_bind]
  unfold blocks
  icases Hbl with ⟨Hdone, Hrest⟩
  ihave Hrest := (Entails.of_eq (blocks_take ht)) $$ Hrest
  icases Hrest with ⟨Hb, Hrest⟩
  iapply enqOut (block_lt L ht) (off13_eq L t) (off12_eq ⟨t.val, h4⟩) (off14_eq ⟨t.val, h4⟩) $$ [Hout Hb]
  · iframe
  iintro Hout
  ihave Hout := (Entails.of_eq (outSt_succ t.val).symm) $$ Hout
  ihave Hin := (Entails.of_eq (congrArg (inFree d L idx q) (par_add_two t.val).symm)) $$ Hin
  rw [ite_self]
  by_cases h0 : 0 < t.val
  · have hc9 := (cond9_iff L t).mpr h0
    have hpar : par (t.val - 1) = par (t.val + 1) := by
      obtain ⟨n, hn⟩ : ∃ n, t.val = n + 1 := ⟨t.val - 1, by omega⟩
      rw [hn, show n + 1 + 1 = n + 2 from rfl, par_add_two, Nat.add_sub_cancel]
    rw [dif_pos hc9, wp_bind]
    ihave Hout' := (Entails.of_eq (show outSt d L tab idx t.val = outFly d L tab idx (par (t.val - 1)) (base L + (t.val - 1)) by
      unfold outSt
      rw [if_pos h0, hpar])) $$ Hout'
    ihave HO := owing_open $$ HO
    icases HO with ⟨%W', %hW', HO⟩
    iapply waitOut (off15_eq ⟨t.val - 1, hp⟩) (off17_eq ⟨t.val - 1, hp⟩) $$ [Hout' HO]
    · iframe
      iexact Hmw
    iintro ⟨Hd, Hout', HO⟩
    rw [wp_pure]
    ihave HO := (owing_insert (F := F) hW') $$ HO
    ihave Hout' := (Entails.of_eq (congrArg (outFree d L) hpar)) $$ Hout'
    ihave Hdone := (Entails.of_eq ((blocks_join h0).trans (done_congr (Nat.add_sub_cancel (n := t.val) (m := 1)).symm))) $$ [Hd Hdone]
    · iframe
    imodintro
    isplitr
    · ipureintro
      exact ⟨ht, yielded_eq L t⟩
    iframe
    iexact Hmw
  · have hc9 : ¬ _ := fun h => h0 ((cond9_iff L t).mp h)
    rw [dif_neg hc9, wp_pure]
    ihave Hout' := (Entails.of_eq (show outSt d L tab idx t.val = outFree d L (par (t.val + 1)) from if_neg h0)) $$ Hout'
    ihave Hdone := (Entails.of_eq (done_congr (show t.val - 1 = t.val + 1 - 1 by omega))) $$ Hdone
    imodintro
    isplitr
    · ipureintro
      exact ⟨ht, yielded_eq L t⟩
    iframe
    iexact Hmw

/-- An operation at the head of a program, as that operation and what follows it. -/
theorem op_eq {E : Type → Type*} {α β : Type} (e : E α) (k : α → Prog E β) : Prog.op e k = (Prog.lift e >>= k) := rfl

theorem loop_step (hidx : ∀ j, (idx j).toNat < 1024) (h1) (v41 v45 : BitVec 32) (t : Fin (k1_t1_loop L).trips)
    (acc : BitVec 32 × BitVec 32 × BitVec 32 × BitVec 32 × BitVec 32)
    {qe : PosShare TreeShare} {o₀ : S18432x128.Idx → Elt F .f32} {O : CellTallies nD τ sig (HIx 1)} {W : Waits sig (HIx 1)} :
    I d L tab idx q qe o₀ O W t.val acc ⊢
      wp frame (wpE (defs₀ (F := F)) 𝒱₀ (th d L) none) Set.univ
        (k1_t1_body L eV (Memref.isWhole_whole _) iV (Memref.isWhole_whole _) oV (Memref.isWhole_whole _) isV (Memref.isWhole_whole _) cc1_scoped1
          osV (Memref.isWhole_whole _) cc1_scoped3 cc1_scoped4 cc1_scoped5 (v5w L) (v10w L) (v11w L) h1 v41 0#32 0#32 0#32 0#32 0#32 v45 t acc)
        (I d L tab idx q qe o₀ O W (t.val + 1)) := by
  iintro HI
  ihave HI := (show I d L tab idx q qe o₀ O W t.val acc ⊢ iprop(⌜t.val ≤ nB L ∧ acc = carried L t.val⌝ ∗ I d L tab idx q qe o₀ O W t.val acc) by
    unfold I
    iintro ⟨%h, H⟩
    isplitr
    · ipureintro; exact h
    isplitr
    · ipureintro; exact h
    · iexact H) $$ HI
  icases HI with ⟨%h, HI⟩
  obtain ⟨-, rfl⟩ := h
  iapply body_step hidx h1 v41 v45 t $$ HI

/-- The counter of started copies before the loop, and the loop's end. -/
abbrev v41w (L : grid1.Coords) : BitVec 32 := Scalar.select (Scalar.andi 1#1 (Scalar.cmpi .sgt (Scalar.muli 1#32 (v5w L)) 0#32)) (Scalar.addi 0#32 1#32) 0#32
abbrev v45w (L : grid1.Coords) : BitVec 32 := Scalar.muli (Scalar.divsi (Scalar.subi (v11w L) 0#32) 1#32) 1#32

abbrev Started : Type := Σ' (_ : BitVec 32) (_ : BitVec 32) (_ : BitVec 32) (_ : BitVec 32) (_ : BitVec 32) (_ : BitVec 32), BitVec 32

/-- Before the loop the copy of the first block's row numbers starts. -/
theorem part5 (h1) {Q : Started → sProp 𝕄} :
    inFree d L idx q 0 ⊢ iprop((inFly d L idx q 0 (base L) -∗ Q ⟨v41w L, 0#32, 0#32, 0#32, 0#32, 0#32, v45w L⟩) -∗
      wp frame (wpE (defs₀ (F := F)) 𝒱₀ (th d L) none) Set.univ
        (k1_part5 L eV (Memref.isWhole_whole _) iV (Memref.isWhole_whole _) oV (Memref.isWhole_whole _) isV (Memref.isWhole_whole _) cc1_scoped1
          osV (Memref.isWhole_whole _) cc1_scoped3 cc1_scoped4 cc1_scoped5 (v5w L) (v10w L) (v11w L) h1) Q) := by
  have h2 := cond2_eq L
  rw [k1_part5_eq_skeleton]
  unfold k1_part5_skel
  iintro Hi Hk
  dsimp only
  rw [dif_pos h2, wp_bind]
  iapply enqIn (b := base L) (by have := block_lt L (nB_pos L); omega) (off2_eq L) k1_off1_eq k1_off3_eq $$ Hi
  iintro Hi
  rw [wp_pure]
  imodintro
  iapply Hk $$ Hi

/-- The loop, and the wait for the last block. -/
theorem part6 (hidx : ∀ j, (idx j).toNat < 1024) (h1) (v45 : BitVec 32)
    {qe : PosShare TreeShare} {o₀ : S18432x128.Idx → Elt F .f32} {O : CellTallies nD τ sig (HIx 1)} {W : Waits sig (HIx 1)} {Q : PUnit → sProp 𝕄} :
    I d L tab idx q qe o₀ O W 0 (v41w L, 0#32, 0#32, 0#32, 0#32) ⊢ iprop((((eLoc d ↦{qe} tab) ∗ semVal (th d L, .dma semG) 0
          ∗ inFree d L idx q (par (nB L)) ∗ inFree d L idx q (par (nB L + 1)) ∗ outFree d L (par (nB L)) ∗ outFree d L (par (nB L + 1))
          ∗ (bigSep (Finset.range (nB L)) fun j => done d tab idx (base L + j)) ∗ owing d L O W) -∗ Q ⟨⟩) -∗
      wp frame (wpE (defs₀ (F := F)) 𝒱₀ (th d L) none) Set.univ
        (k1_part6 L eV (Memref.isWhole_whole _) iV (Memref.isWhole_whole _) oV (Memref.isWhole_whole _) isV (Memref.isWhole_whole _) cc1_scoped1
          osV (Memref.isWhole_whole _) cc1_scoped3 cc1_scoped4 cc1_scoped5 (v5w L) (v10w L) (v11w L) h1 (v41w L) 0#32 0#32 0#32 0#32 0#32 v45) Q) := by
  have h18 := cond18_eq L
  have hn : nB L - 1 < 4 := by have := nB_le L; omega
  have hnp := nB_pos L
  rw [k1_part6_eq_skeleton]
  unfold k1_part6_skel
  iintro HI Hk
  dsimp only
  rw [wp_bind]
  iapply Scf.wp_for _ _ _ _ _ _ _ _ _ (I d L tab idx q qe o₀ O W) (fun t acc => loop_step hidx h1 (v41w L) v45 t acc)
  isplitl [HI]
  · iexact HI
  iintro %acc HI
  ihave HI := (show I d L tab idx q qe o₀ O W (k1_t1_loop L).trips acc ⊢ I d L tab idx q qe o₀ O W (nB L) acc by rw [trips_eq L]) $$ HI
  unfold I
  icases HI with ⟨%hacc, #Hmw, He, Hg, Hin, Hin', Hout, Hout', Hbl, HO⟩
  obtain ⟨-, rfl⟩ := hacc
  have hc : carried L (nB L) = (BitVec.ofNat 32 (min (nB L + 1) (nB L)), BitVec.ofNat 32 (nB L), BitVec.ofNat 32 (nB L), BitVec.ofNat 32 (nB L - 1), 0#32) := by
    unfold carried stepW
    rw [if_neg (Nat.lt_irrefl _)]
  rw [hc]
  dsimp only
  rw [wp_bind]
  iapply Scf.wp_for _ _ _ _ _ _ _ _ _ (fun _ a => iprop(⌜a = _⌝)) (fun k => absurd k.isLt (by have := trips2_eq L; exact fun h => absurd (lt_of_lt_of_eq h this) (Nat.not_lt_zero _)))
  isplitr
  · ipureintro
    rfl
  iintro %a %ha
  subst ha
  have c7 := chk7_ok L
  have c8 := chk8_ok L
  sl_exec
  rw [op_eq, wp_bind]
  dsimp only
  ihave Hin := (Entails.of_eq (inSt_end (Nat.lt_irrefl (nB L)))) $$ Hin
  obtain ⟨n, hn1⟩ : ∃ n, nB L = n + 1 := ⟨nB L - 1, by omega⟩
  have hpar : par (nB L - 1) = par (nB L + 1) := by
    rw [hn1, show n + 1 + 1 = n + 2 from rfl, par_add_two, Nat.add_sub_cancel]
  ihave Hout' := (Entails.of_eq (show outSt d L tab idx (nB L) = outFly d L tab idx (par (nB L - 1)) (base L + (nB L - 1)) by
    unfold outSt
    rw [if_pos (by omega), hpar])) $$ Hout'
  ihave HO := owing_open $$ HO
  icases HO with ⟨%W', %hW', HO⟩
  iapply waitOut (off35_eq ⟨nB L - 1, hn⟩) (off34_eq ⟨nB L - 1, hn⟩) $$ [Hout' HO]
  · iframe
    iexact Hmw
  iintro ⟨Hd, Hout', HO⟩
  rw [wp_pure]
  imodintro
  ihave HO := (owing_insert (F := F) hW') $$ HO
  ihave Hout' := (Entails.of_eq (congrArg (outFree d L) hpar)) $$ Hout'
  unfold blocks
  icases Hbl with ⟨Hdone, -⟩
  ihave Hdone := (Entails.of_eq (blocks_join (lt_of_lt_of_le Nat.zero_lt_two hnp))) $$ [Hd Hdone]
  · iframe
  iapply Hk
  iframe

theorem cc1_k_eq : cc1_k (F := F) L eV (Memref.isWhole_whole _) iV (Memref.isWhole_whole _) oV (Memref.isWhole_whole _) isV (Memref.isWhole_whole _) cc1_scoped1
          osV (Memref.isWhole_whole _) cc1_scoped3 cc1_scoped4 cc1_scoped5
    = (k1_part5 L eV (Memref.isWhole_whole _) iV (Memref.isWhole_whole _) oV (Memref.isWhole_whole _) isV (Memref.isWhole_whole _) cc1_scoped1
          osV (Memref.isWhole_whole _) cc1_scoped3 cc1_scoped4 cc1_scoped5 (v5w L) (v10w L) (v11w L) (cond1_eq L) >>= fun a =>
        k1_part6 L eV (Memref.isWhole_whole _) iV (Memref.isWhole_whole _) oV (Memref.isWhole_whole _) isV (Memref.isWhole_whole _) cc1_scoped1
          osV (Memref.isWhole_whole _) cc1_scoped3 cc1_scoped4 cc1_scoped5 (v5w L) (v10w L) (v11w L) (cond1_eq L) a.1 a.2.1 a.2.2.1 a.2.2.2.1 a.2.2.2.2.1 a.2.2.2.2.2.1 a.2.2.2.2.2.2 >>= fun _ => pure PUnit.unit) := by
  rw [cc1_k_eq_skeleton]
  unfold cc1_k_skel
  dsimp only
  rw [dif_pos (cond1_eq L)]
  rfl

/-- The task from its idle slots: its blocks of the output end at the gathered rows, and the slots idle. -/
theorem task (hidx : ∀ j, (idx j).toNat < 1024)
    {qe : PosShare TreeShare} {o₀ : S18432x128.Idx → Elt F .f32} {O : CellTallies nD τ sig (HIx 1)} {W : Waits sig (HIx 1)} :
    iprop(Transfers.MayWaits (th d L) (default : HIx 1) O ∗ (eLoc d ↦{qe} tab) ∗ semVal (th d L, .dma semG) 0
        ∗ inFree d L idx q 0 ∗ inFree d L idx q 1 ∗ outFree d L 0 ∗ outFree d L 1
        ∗ (bigSep (Finset.range (nB L)) fun j => iprop(oLoc d ↦[oRowSet (base L + j)]{fullShare} o₀)) ∗ owing d L O W) ⊢
      wp frame (wpE (defs₀ (F := F)) 𝒱₀ (th d L) none) Set.univ
        (cc1_k L eV (Memref.isWhole_whole _) iV (Memref.isWhole_whole _) oV (Memref.isWhole_whole _) isV (Memref.isWhole_whole _) cc1_scoped1
          osV (Memref.isWhole_whole _) cc1_scoped3 cc1_scoped4 cc1_scoped5)
        fun _ => iprop((eLoc d ↦{qe} tab) ∗ semVal (th d L, .dma semG) 0
          ∗ inFree d L idx q 0 ∗ inFree d L idx q 1 ∗ outFree d L 0 ∗ outFree d L 1
          ∗ (bigSep (Finset.range (nB L)) fun j => done d tab idx (base L + j)) ∗ owing d L O W) := by
  have hnp := nB_pos L
  rw [cc1_k_eq]
  iintro ⟨#Hmw, He, Hg, Hi0, Hi1, Ho0, Ho1, Hbl, HO⟩
  rw [wp_bind]
  iapply part5 (cond1_eq L) $$ Hi0
  iintro Hi0
  dsimp only
  rw [wp_bind]
  iapply part6 (tab := tab) (q := q) (qe := qe) (o₀ := o₀) (O := O) (W := W) hidx (cond1_eq L) (v45w L) $$ [Hi0 Hi1 Ho0 Ho1 He Hg Hbl HO]
  · unfold I blocks
    isplitr
    · ipureintro
      exact ⟨Nat.zero_le _, first_eq L⟩
    rw [outSt_zero, inSt_fly (lt_of_lt_of_le Nat.zero_lt_two hnp), Nat.zero_sub, Finset.range_zero, bigSep_empty, Finset.range_eq_Ico,
      show par 0 = 0 from rfl, show par (0 + 1) = 1 from rfl, Nat.add_zero]
    iframe
    isplitr
    · iexact Hmw
    · iempintro
  iintro ⟨He, Hg, Hi0, Hi1, Ho0, Ho1, Hbl, HO⟩
  rw [wp_pure]
  imodintro
  by_cases he : nB L % 2 = 0
  · rw [show par (nB L) = 0 from Fin.ext he, show par (nB L + 1) = 1 from Fin.ext (show (nB L + 1) % 2 = 1 by omega)]
    iframe
  · rw [show par (nB L) = 1 from Fin.ext (show nB L % 2 = 1 by omega), show par (nB L + 1) = 0 from Fin.ext (show (nB L + 1) % 2 = 0 by omega)]
    iframe

end Tile

end Cert.Proof.Whole
-- ==== Proof.WholeLaunch.lean ====
/-
  The row gather's SparseCore call: what its tiles are handed and bring back, each tile's task as the launch asks for it,
  and how the call's arrays split over the tiles: the table and the list of row numbers by shares, the output by blocks.
-/
module

public import proofs.«01_k».proof.Proof.WholeBody

@[expose] public section

set_option Elab.async false

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eV" => (Memref.whole Cert.KernelIdeal.main_v10_scv : Memref Cert.KernelIdeal.sig Kind.scVector Space.hbm Cert.KernelIdeal.S1024x128 EltTy.f32)
local notation "iV" => (Memref.whole Cert.KernelIdeal.main_v13_scv : Memref Cert.KernelIdeal.sig Kind.scVector Space.hbm Cert.KernelIdeal.S1x18432 EltTy.i32)
local notation "oV" => (Memref.whole Cert.KernelIdeal.main_v14_scv : Memref Cert.KernelIdeal.sig Kind.scVector Space.hbm Cert.KernelIdeal.S18432x128 EltTy.f32)
local notation "isV" => (Memref.whole Cert.KernelIdeal.cc1_scoped0 : Memref Cert.KernelIdeal.sig Kind.scVector Space.vmem Cert.KernelIdeal.S2x1x256 EltTy.i32)
local notation "osV" => (Memref.whole Cert.KernelIdeal.cc1_scoped2 : Memref Cert.KernelIdeal.sig Kind.scVector Space.vmem Cert.KernelIdeal.S2x256x128 EltTy.f32)

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The tile at SparseCore `c`, subcore `s`. -/
def coords (c : Fin (grid1.bound 0)) (s : Fin (grid1.bound 1)) : grid1.Coords :=
  fun | 0 => c | 1 => s | ⟨_ + 2, h⟩ => absurd h (Nat.not_lt.2 (Nat.le_add_left _ _))

/-- A tile's share of the table and of the list of row numbers. -/
abbrev sh (L : grid1.Coords) : PosShare TreeShare := Transfers.shareTokN fullShare (wid L)

/-! ## What the call's tiles are handed and bring back -/

section Call

variable (tab : Dev nD → S1024x128.Idx → Elt F .f32) (idx : Dev nD → S1x18432.Idx → BitVec 32) (o₀ : Dev nD → S18432x128.Idx → Elt F .f32)

/-- A tile's blocks of the output, at contents `f`. -/
def outBlocks (d : Dev nD) (L : grid1.Coords) (f : S18432x128.Idx → Elt F .f32) : sProp 𝕄 :=
  bigSep (Finset.range (nB L)) fun j => iprop(oLoc d ↦[oRowSet (base L + j)]{fullShare} f)
/-- What a tile is handed. -/
def given (d : Dev nD) (L : grid1.Coords) : sProp 𝕄 :=
  iprop((eLoc d ↦{sh L} tab d) ∗ (iLoc d ↦{sh L} idx d) ∗ outBlocks d L (o₀ d))
/-- What it brings back: its blocks of the output, at the gathered rows. -/
def brought (d : Dev nD) (L : grid1.Coords) : sProp 𝕄 := outBlocks d L (G (tab d) (idx d))

instance outBlocks_storable (d : Dev nD) (L : grid1.Coords) (f : S18432x128.Idx → Elt F .f32) :
    BI.Storable (upEmb : UEmb _ 𝕄) (outBlocks d L f) := by unfold outBlocks; infer_instance
instance given_storable (d : Dev nD) (L : grid1.Coords) : BI.Storable (upEmb : UEmb _ 𝕄) (given tab idx o₀ d L) := by
  unfold given; infer_instance
instance brought_storable (d : Dev nD) (L : grid1.Coords) : BI.Storable (upEmb : UEmb _ 𝕄) (brought tab idx d L) := by
  unfold brought; infer_instance

/-- A SparseCore is handed what its sixteen tiles are, and brings back what they do. -/
def P : (K (F := F)).Pay (nD := nD) (Val := Elt F) (Name := ℕ) (U := UU) where
  st := fun q d c => match q with | 0 => bigSep Finset.univ fun i : Fin (grid1.bound 1) => given tab idx o₀ d (coords c i)
  dn := fun q d c => match q with | 0 => bigSep Finset.univ fun i : Fin (grid1.bound 1) => brought tab idx d (coords c i)
  go := fun q d c i => match q with | 0 => given tab idx o₀ d (coords c i)
  td := fun q d c i => match q with | 0 => brought tab idx d (coords c i)
  x := fun _ _ => iprop(emp)

instance P_storable : (P (F := F) tab idx o₀).IsStorable where
  st q d c := match q with
    | 0 => (inferInstance : BI.Storable (upEmb : UEmb _ 𝕄) (bigSep Finset.univ fun i : Fin (grid1.bound 1) => given tab idx o₀ d (coords c i)))
  dn q d c := match q with
    | 0 => (inferInstance : BI.Storable (upEmb : UEmb _ 𝕄) (bigSep Finset.univ fun i : Fin (grid1.bound 1) => brought tab idx d (coords c i)))
  go q d c i := match q with
    | 0 => (inferInstance : BI.Storable (upEmb : UEmb _ 𝕄) (given tab idx o₀ d (coords c i)))
  td q d c i := match q with
    | 0 => (inferInstance : BI.Storable (upEmb : UEmb _ 𝕄) (brought tab idx d (coords c i)))

theorem vecSplit : (K (F := F)).VecSplit' (P tab idx o₀) 0 := by
  intro d c
  show (bigSep Finset.univ fun i : Fin (grid1.bound 1) => given tab idx o₀ d (coords c i)) ⊢ |={Set.univ}=> iprop(
      (bigSep Finset.univ fun i : Fin (grid1.bound 1) => given tab idx o₀ d (coords c i))
      ∗ ((bigSep Finset.univ fun i : Fin (grid1.bound 1) => brought tab idx d (coords c i))
          -∗ (bigSep Finset.univ fun i : Fin (grid1.bound 1) => brought tab idx d (coords c i))))
  iintro H; imodintro
  isplitl [H]; · iexact H
  iintro H; iexact H

/-! ## The tile's scratch: the two slots of each buffer, the five semaphores -/

section Scratch

variable (d : Dev nD) (L : grid1.Coords)

theorem set_inSlot (p : Fin 2) : (inSlot p).view.set = Finset.univ.filter fun x : S2x1x256.Idx => (x 0).val = p.val := by
  show (((isV).view.slice (Rect.unit (s := S2x1x256) ![p.val, 0, 0] S1x1x256.size (inb_is p))).reshape S1x256 squeezes_S1x1x256_S1x256.numel_eq).set = _
  rw [View.set_reshape]
  ext x
  rw [show ((isV).view.slice (Rect.unit (s := S2x1x256) ![p.val, 0, 0] S1x1x256.size (inb_is p))).set
      = (Rect.unit (s := S2x1x256) ![p.val, 0, 0] S1x1x256.size (inb_is p)).set from View.set_slice_whole _ _, Rect.mem_set_unit]
  have h1 : (x 1).val < 1 := (x 1).isLt
  have h2 : (x 2).val < 256 := (x 2).isLt
  simp only [Finset.mem_filter, Finset.mem_univ, true_and, Fin.forall_fin_succ, S1x1x256]
  simp
  omega
theorem set_outSlot (p : Fin 2) : (outSlot p).view.set = Finset.univ.filter fun x : S2x256x128.Idx => (x 0).val = p.val := by
  show (((osV).view.slice (Rect.unit (s := S2x256x128) ![p.val, 0, 0] S1x256x128.size (inb_os p))).reshape S256x128 squeezes_S1x256x128_S256x128.numel_eq).set = _
  rw [View.set_reshape]
  ext x
  rw [show ((osV).view.slice (Rect.unit (s := S2x256x128) ![p.val, 0, 0] S1x256x128.size (inb_os p))).set
      = (Rect.unit (s := S2x256x128) ![p.val, 0, 0] S1x256x128.size (inb_os p)).set from View.set_slice_whole _ _, Rect.mem_set_unit]
  have h1 : (x 1).val < 256 := (x 1).isLt
  have h2 : (x 2).val < 128 := (x 2).isLt
  simp only [Finset.mem_filter, Finset.mem_univ, true_and, Fin.forall_fin_succ, S1x256x128]
  simp
  omega

/-- A buffer of two slots is its slots. -/
theorem two_slots {ℓ : Loc nD τ sig} {A B : Finset (Idx ℓ)} (hd : Disjoint A B) (hu : A ∪ B = Finset.univ) :
    (iprop(∃ f, ℓ ↦{fullShare} f) : sProp 𝕄) ⊣⊢ iprop((∃ f, ℓ ↦[A]{fullShare} f) ∗ (∃ f, ℓ ↦[B]{fullShare} f)) := by
  constructor
  · iintro ⟨%f, H⟩
    ihave H := (Entails.of_eq (show (ℓ ↦{fullShare} f : sProp 𝕄) = ℓ ↦[A ∪ B]{fullShare} f by rw [hu])) $$ H
    ihave H := (pointsTo_union hd).1 $$ H
    icases H with ⟨HA, HB⟩
    isplitl [HA]
    · iexists f; iexact HA
    · iexists f; iexact HB
  · iintro ⟨⟨%f, HA⟩, ⟨%g, HB⟩⟩
    ihave H := (pointsTo_join hd) $$ [HA HB]
    · isplitl [HA] <;> iassumption
    ihave H := (Entails.of_eq (show (ℓ ↦[A ∪ B]{fullShare} (B.piecewise g f) : sProp 𝕄) = ℓ ↦{fullShare} (B.piecewise g f) by rw [hu])) $$ H
    iexists _; iexact H

theorem fin2 (n : ℕ) (h : n < 2) : n = 0 ∨ n = 1 := by omega

theorem in_slots : (iprop(∃ f, (th d L).loc cc1_scoped0 ↦{fullShare} f) : sProp 𝕄)
    ⊣⊢ iprop((∃ f, (inSlot 0).view.loc (th d L) ↦[(inSlot 0).view.set]{fullShare} f) ∗ (∃ f, (inSlot 1).view.loc (th d L) ↦[(inSlot 1).view.set]{fullShare} f)) := by
  refine two_slots (ℓ := (th d L).loc cc1_scoped0) ?_ ?_
  · rw [set_inSlot, set_inSlot, Finset.disjoint_filter]
    intro x _ h; rw [h]; decide
  · rw [set_inSlot, set_inSlot]
    ext x
    have h0 : (x 0).val < 2 := (x 0).isLt
    simpa using fin2 _ h0
theorem out_slots : (iprop(∃ f, (th d L).loc cc1_scoped2 ↦{fullShare} f) : sProp 𝕄)
    ⊣⊢ iprop((∃ f, (outSlot 0).view.loc (th d L) ↦[(outSlot 0).view.set]{fullShare} f) ∗ (∃ f, (outSlot 1).view.loc (th d L) ↦[(outSlot 1).view.set]{fullShare} f)) := by
  refine two_slots (ℓ := (th d L).loc cc1_scoped2) ?_ ?_
  · rw [set_outSlot, set_outSlot, Finset.disjoint_filter]
    intro x _ h; rw [h]; decide
  · rw [set_outSlot, set_outSlot]
    ext x
    have h0 : (x 0).val < 2 := (x 0).isLt
    simpa using fin2 _ h0

/-- The two buffers are among the tile's own. -/
theorem bufs_own : (ownBufs (th d L) : sProp 𝕄)
    = iprop((∃ f, (th d L).loc cc1_scoped0 ↦{fullShare} f) ∗ (∃ f, (th d L).loc cc1_scoped2 ↦{fullShare} f)
      ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

/-- The five semaphores of the task. -/
abbrev five : Finset (GSem nD τ sig) :=
  {(th d L, .dma (cI 0)), (th d L, .dma (cI 1)), (th d L, .dma (cO 0)), (th d L, .dma (cO 1)), (th d L, .dma semG)}

theorem five_own : five d L ⊆ ownCells (th d L) := by
  intro g hg
  simp only [five, Finset.mem_insert, Finset.mem_singleton] at hg
  rcases hg with h | h | h | h | h <;> subst h <;> refine mem_ownCells.mpr ⟨rfl, ?_⟩
  · show (SemLoc.dma (cI 0) : SemLoc sig).isScoped .scVector = true; decide
  · show (SemLoc.dma (cI 1) : SemLoc sig).isScoped .scVector = true; decide
  · show (SemLoc.dma (cO 0) : SemLoc sig).isScoped .scVector = true; decide
  · show (SemLoc.dma (cO 1) : SemLoc sig).isScoped .scVector = true; decide
  · show (SemLoc.dma semG : SemLoc sig).isScoped .scVector = true; decide

theorem sems_own : (ownSems0 (th d L) : sProp 𝕄)
    = iprop((semVal (th d L, .dma (cI 0)) 0 ∗ semVal (th d L, .dma (cI 1)) 0 ∗ semVal (th d L, .dma (cO 0)) 0 ∗ semVal (th d L, .dma (cO 1)) 0
        ∗ semVal (th d L, .dma semG) 0) ∗ bigSep (ownCells (th d L) \ five d L) fun g => semVal g 0) := by
  have ne : ∀ {a b : DmaSem sig}, a ≠ b → ((th d L, SemLoc.dma a) : GSem nD τ sig) ≠ (th d L, .dma b) := fun h e => h (by injection e with _ e; injection e)
  unfold SparseCore.Cfg.ownSems0
  rw [bigSep_sdiff_split (five_own d L), five,
    bigSep_insert (by simp only [Finset.mem_insert, Finset.mem_singleton, not_or]; exact ⟨ne (by decide), ne (by decide), ne (by decide), ne (by decide)⟩),
    bigSep_insert (by simp only [Finset.mem_insert, Finset.mem_singleton, not_or]; exact ⟨ne (by decide), ne (by decide), ne (by decide)⟩),
    bigSep_insert (by simp only [Finset.mem_insert, Finset.mem_singleton, not_or]; exact ⟨ne (by decide), ne (by decide)⟩),
    bigSep_insert (by simp only [Finset.mem_singleton]; exact ne (by decide)), bigSep_singleton]
  rfl

end Scratch

/-! ## The task, as the launch asks for it -/

/-- What of the tile's scratch the task does not touch. -/
def unused (d : Dev nD) (L : grid1.Coords) : sProp 𝕄 := iprop(
      (bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f))
        ∗ bigSep (ownCells (th d L) \ five d L) fun g => semVal g 0)

/-- The task's own part of the scratch, its slots free and its semaphores at zero. -/
def slots (d : Dev nD) (L : grid1.Coords) : sProp 𝕄 := iprop(
  (∃ f, (inSlot 0).view.loc (th d L) ↦[(inSlot 0).view.set]{fullShare} f) ∗ (∃ f, (inSlot 1).view.loc (th d L) ↦[(inSlot 1).view.set]{fullShare} f)
  ∗ (∃ f, (outSlot 0).view.loc (th d L) ↦[(outSlot 0).view.set]{fullShare} f) ∗ (∃ f, (outSlot 1).view.loc (th d L) ↦[(outSlot 1).view.set]{fullShare} f)
  ∗ semVal (th d L, .dma (cI 0)) 0 ∗ semVal (th d L, .dma (cI 1)) 0 ∗ semVal (th d L, .dma (cO 0)) 0 ∗ semVal (th d L, .dma (cO 1)) 0
        ∗ semVal (th d L, .dma semG) 0)

theorem scratch (d : Dev nD) (L : grid1.Coords) :
    (iprop(ownBufs (th d L) ∗ ownSems0 (th d L)) : sProp 𝕄) ⊣⊢ iprop(unused d L ∗ slots d L) := by
  rw [sems_own, bufs_own]
  unfold unused slots
  constructor
  · iintro ⟨⟨Hin, Hout, Hbufs⟩, ⟨⟨Hi0, Hi1, Ho0, Ho1, Hg⟩, Hsems⟩⟩
    ihave Hin := (in_slots d L).1 $$ Hin
    icases Hin with ⟨Hin0, Hin1⟩
    ihave Hout := (out_slots d L).1 $$ Hout
    icases Hout with ⟨Hout0, Hout1⟩
    isplitl [Hbufs Hsems]
    · isplitl [Hbufs] <;> iassumption
    isplitl [Hin0]; · iexact Hin0
    isplitl [Hin1]; · iexact Hin1
    isplitl [Hout0]; · iexact Hout0
    isplitl [Hout1]; · iexact Hout1
    isplitl [Hi0]; · iexact Hi0
    isplitl [Hi1]; · iexact Hi1
    isplitl [Ho0]; · iexact Ho0
    isplitl [Ho1]; · iexact Ho1
    iexact Hg
  · iintro ⟨⟨Hbufs, Hsems⟩, ⟨Hin0, Hin1, Hout0, Hout1, Hi0, Hi1, Ho0, Ho1, Hg⟩⟩
    ihave Hin := (in_slots d L).2 $$ [Hin0 Hin1]
    · isplitl [Hin0]; · iexact Hin0
      iexact Hin1
    ihave Hout := (out_slots d L).2 $$ [Hout0 Hout1]
    · isplitl [Hout0]; · iexact Hout0
      iexact Hout1
    isplitl [Hin Hout Hbufs]
    · isplitl [Hin]; · iexact Hin
      isplitl [Hout]; · iexact Hout
      iexact Hbufs
    isplitr [Hsems]
    · isplitl [Hi0]; · iexact Hi0
      isplitl [Hi1]; · iexact Hi1
      isplitl [Ho0]; · iexact Ho0
      isplitl [Ho1]; · iexact Ho1
      iexact Hg
    iexact Hsems

variable [FloatOps F]

/-- The task's precondition, from what the tile is handed and its slots. -/
theorem tile_pre (d : Dev nD) (L : grid1.Coords) (O : CellTallies nD τ sig (HIx 1)) (W : Waits sig (HIx 1)) :
    (iprop(Transfers.MayWaits (th d L) (default : HIx 1) O ∗ given tab idx o₀ d L ∗ slots d L ∗ owes (th d L) O W) : sProp 𝕄)
      ⊢ iprop(Transfers.MayWaits (th d L) (default : HIx 1) O ∗ (eLoc d ↦{sh L} tab d) ∗ semVal (th d L, .dma semG) 0
        ∗ inFree d L (idx d) (sh L) 0 ∗ inFree d L (idx d) (sh L) 1 ∗ outFree d L 0 ∗ outFree d L 1
        ∗ (bigSep (Finset.range (nB L)) fun j => iprop(oLoc d ↦[oRowSet (base L + j)]{fullShare} o₀ d)) ∗ owing d L O W) := by
  unfold given slots inFree outFree owing outBlocks
  iintro ⟨#Hmw, ⟨He, Hi, Hbl⟩, ⟨Hin0, Hin1, Hout0, Hout1, Hi0, Hi1, Ho0, Ho1, Hg⟩, HO⟩
  ihave Hi := (pointsTo_share (PosShare.mem_left_op_right (sh L))).1 $$ Hi
  icases Hi with ⟨Hil, Hir⟩
  isplitl []; · iexact Hmw
  isplitl [He]; · iexact He
  isplitl [Hg]; · iexact Hg
  isplitl [Hin0 Hil Hi0]
  · isplitl [Hin0]; · iexact Hin0
    isplitl [Hil]; · iexact Hil
    iexact Hi0
  isplitl [Hin1 Hir Hi1]
  · isplitl [Hin1]; · iexact Hin1
    isplitl [Hir]; · iexact Hir
    iexact Hi1
  isplitl [Hout0 Ho0]
  · isplitl [Hout0]; · iexact Hout0
    iexact Ho0
  isplitl [Hout1 Ho1]
  · isplitl [Hout1]; · iexact Hout1
    iexact Ho1
  isplitl [Hbl]; · iexact Hbl
  iexists W
  isplitr
  · ipureintro; exact fun p hp => Or.inl hp
  iexact HO

/-- What the task leaves, as what the tile brings back and its slots. -/
theorem tile_post (d : Dev nD) (L : grid1.Coords) (O : CellTallies nD τ sig (HIx 1)) (W : Waits sig (HIx 1)) :
    (iprop((eLoc d ↦{sh L} tab d) ∗ semVal (th d L, .dma semG) 0
        ∗ inFree d L (idx d) (sh L) 0 ∗ inFree d L (idx d) (sh L) 1 ∗ outFree d L 0 ∗ outFree d L 1
        ∗ (bigSep (Finset.range (nB L)) fun j => done d (tab d) (idx d) (base L + j)) ∗ owing d L O W) : sProp 𝕄)
      ⊢ iprop(brought tab idx d L ∗ slots d L ∗ owing d L O W) := by
  unfold brought slots inFree outFree outBlocks done
  iintro ⟨-, Hg, ⟨Hin0, -, Hi0⟩, ⟨Hin1, -, Hi1⟩, ⟨Hout0, Ho0⟩, ⟨Hout1, Ho1⟩, Hbl, HO⟩
  isplitl [Hbl]; · iexact Hbl
  isplitr [HO]
  · isplitl [Hin0]; · iexact Hin0
    isplitl [Hin1]; · iexact Hin1
    isplitl [Hout0]; · iexact Hout0
    isplitl [Hout1]; · iexact Hout1
    isplitl [Hi0]; · iexact Hi0
    isplitl [Hi1]; · iexact Hi1
    isplitl [Ho0]; · iexact Ho0
    isplitl [Ho1]; · iexact Ho1
    iexact Hg
  iexact HO

/-- The scratch the launch hands a tile, as the task's slots and the rest. -/
theorem scoped_slots (d : Dev nD) (L : grid1.Coords) :
    (iprop(scopedBufs (Val := Elt F) (th d L) ∗ scopedSems0 (th d L)) : sProp 𝕄) ⊣⊢ iprop(unused d L ∗ slots d L) := by
  have e : (iprop(scopedBufs (Val := Elt F) (th d L) ∗ scopedSems0 (th d L)) : sProp 𝕄) = iprop(ownBufs (th d L) ∗ ownSems0 (th d L)) :=
    congrArg₂ _ ((K (F := F)).scopedBufs_V facts d (cV L) (jV L)) (SparseCore.Cfg.scopedSems0_V (Val := Elt F) d (cV L) (jV L))
  rw [e]
  exact scratch d L

theorem launch_pre (d : Dev nD) (L : grid1.Coords) (O : CellTallies nD τ sig (HIx 1)) (W : Waits sig (HIx 1)) (hO : ∀ g, O g none = 0) :
    (iprop(levAts (K (F := F)).L (K (F := F)).lev ∗ emp ∗ given tab idx o₀ d L
        ∗ scopedBufs (th d L) ∗ scopedSems0 (th d L) ∗ owes (th d L) O W) : sProp 𝕄)
      ⊢ iprop(unused d L ∗ Transfers.MayWaits (th d L) (default : HIx 1) O ∗ given tab idx o₀ d L ∗ slots d L ∗ owes (th d L) O W) := by
  iintro ⟨#Hlv, -, Hgiven, Hbufs, Hsems, HO⟩
  ihave Hmw := (show levAts (K (F := F)).L (K (F := F)).lev ⊢ Transfers.MayWaits (th d L) (default : HIx 1) O from
    (K (F := F)).mayWaits_none (thr := th d L) hO) $$ Hlv
  ihave Hs := (scoped_slots d L).1 $$ [Hbufs Hsems]
  · isplitl [Hbufs] <;> iassumption
  icases Hs with ⟨Hun, Hsl⟩
  isplitl [Hun]; · iexact Hun
  isplitl [Hmw]; · iexact Hmw
  isplitl [Hgiven]; · iexact Hgiven
  isplitl [Hsl]; · iexact Hsl
  iexact HO

theorem launch_post (d : Dev nD) (L : grid1.Coords) (O : CellTallies nD τ sig (HIx 1)) (W : Waits sig (HIx 1)) :
    (iprop(unused d L ∗ brought tab idx d L ∗ slots d L ∗ owing d L O W) : sProp 𝕄)
      ⊢ iprop(brought tab idx d L ∗ scopedBufs (th d L) ∗ scopedSems0 (th d L)
          ∗ ∃ W', ⌜∀ p ∈ W', p ∈ W ∨ p.2 = none ∨ p.2 = some (0 : Fin 1)⌝ ∗ owes (th d L) O W') := by
  iintro ⟨Hun, Hb, Hsl, HO⟩
  ihave Hs := (scoped_slots d L).2 $$ [Hun Hsl]
  · isplitl [Hun] <;> iassumption
  icases Hs with ⟨Hbufs, Hsems⟩
  isplitl [Hb]; · iexact Hb
  isplitl [Hbufs]; · iexact Hbufs
  isplitl [Hsems]; · iexact Hsems
  ihave HO := (owing_open) $$ HO
  icases HO with ⟨%W', %hW, HO⟩
  iexists W'
  isplitr
  · ipureintro; exact fun p hp => (hW p hp).imp id Or.inl
  iexact HO

set_option maxHeartbeats 4000000 in
/-- The task of a tile, as the launch asks for it. -/
theorem tile (hidx : ∀ d j, (idx d j).toNat < 1024) (d : Dev nD) (L : grid1.Coords) (O : CellTallies nD τ sig (HIx 1)) (W : Waits sig (HIx 1)) (hO : ∀ g, O g none = 0) :
    iprop(levAts (K (F := F)).L (K (F := F)).lev ∗ emp ∗ given tab idx o₀ d L
        ∗ scopedBufs (th d L) ∗ scopedSems0 (th d L) ∗ owes (th d L) O W)
      ⊢ wp frame (wpE (defs₀ (F := F)) 𝒱₀ (th d L) none) Set.univ
        (cc1_k L eV (Memref.isWhole_whole _) iV (Memref.isWhole_whole _) oV (Memref.isWhole_whole _) isV (Memref.isWhole_whole _) cc1_scoped1
          osV (Memref.isWhole_whole _) cc1_scoped3 cc1_scoped4 cc1_scoped5)
          fun _ => iprop(brought tab idx d L ∗ scopedBufs (th d L) ∗ scopedSems0 (th d L)
            ∗ ∃ W', ⌜∀ p ∈ W', p ∈ W ∨ p.2 = none ∨ p.2 = some (0 : Fin 1)⌝ ∗ owes (th d L) O W') := by
  have ht := (tile_pre tab idx o₀ d L O W).trans (task (d := d) (L := L) (tab := tab d) (idx := idx d) (q := sh L) (qe := sh L) (o₀ := o₀ d) (O := O) (W := W) (hidx d))
  generalize (cc1_k (F := F) L eV _ iV _ oV _ isV _ cc1_scoped1 osV _ cc1_scoped3 cc1_scoped4 cc1_scoped5) = p at ht ⊢
  exact (launch_pre tab idx o₀ d L O W hO).trans ((sep_mono_r ht).trans ((wp_frame_l _ _ _).trans
    (wp_mono _ _ _ fun _ => (sep_mono_r (tile_post tab idx d L O W)).trans (launch_post tab idx d L O W))))

end Call

variable [FloatOps F]

theorem defs₀_vector (c : Fin τ.nSC) (s : Fin τ.nSub) :
    defs₀ (F := F) (.scVector c s) 1 ()
      = SparseCore.onTile hcore1 hsub1 (fun c s => cc1_k (coords c s) eV (Memref.isWhole_whole _) iV (Memref.isWhole_whole _) oV (Memref.isWhole_whole _)
          isV (Memref.isWhole_whole _) cc1_scoped1 osV (Memref.isWhole_whole _) cc1_scoped3 cc1_scoped4 cc1_scoped5) ⟨⟩ c s := rfl

set_option maxRecDepth 16384 in
set_option maxHeartbeats 4000000 in
theorem tileObl {tab : Dev nD → S1024x128.Idx → Elt F .f32} {idx : Dev nD → S1x18432.Idx → BitVec 32} {o₀ : Dev nD → S18432x128.Idx → Elt F .f32}
    (hidx : ∀ d j, (idx d j).toNat < 1024) : (K (F := F)).TileObl (D (F := F)) 𝒱 (P tab idx o₀) v₀ 0 := by
  intro d c i O W hO _ _
  simp only [show (P tab idx o₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile tab idx o₀ hidx d (coords ⟨_, hci.1⟩ ⟨_, hci.2⟩) O W hO

end Cert.Proof.Whole
-- ==== Proof.WholeRows.lean ====
/-
  The search's block, as values: the distances of 3072 vectors to the 1024 rows of the table, their minimum over the rows, and
  the number of the first row attaining it. The kernel goes through the rows eight at a time, keeping eight running minima in
  parallel and folding the eight to one at the end; here both passes are folds over the 128 groups of eight rows.
-/
module

public import proofs.«01_k».proof.Defs
public import proofs.«01_k».proof.Proof.Gen.KernelIdeal
public import proofs.«01_k».proof.Proof.Gen.KernelIdeal.Skeleton

@[expose] public section

set_option Elab.async false

noncomputable section

namespace Cert.Proof.Whole

open Cert.KernelIdeal Cert.KernelIdeal.Gen
open Idealize.ShloMosaic Idealize.SL.Sem

variable {F : FTy → Type} [FloatOps F]

/-! ## The groups of eight rows -/

theorem slices_group (j : Fin 128) : S1024x3072.Slices ![8 * j.val, 0] S8x3072 := by
  refine ⟨rfl, fun a => ?_⟩
  have := j.isLt
  match a with
  | 0 => simp [S8x3072, S1024x3072]; omega
  | 1 => simp [S8x3072, S1024x3072]

/-- Rows `8 j` to `8 j + 7`. -/
def group (x : FVec F S1024x3072 .f32) (j : Fin 128) : FVec F S8x3072 .f32 :=
  extractStridedSlice S8x3072 ![8 * j.val, 0] x (slices_group j)

/-- Eight rows folded to one by the lower of each two. -/
def fold8 (y : FVec F S8x3072 .f32) : FVec F S1x3072 .f32 :=
  have a := minimumf (extractStridedSlice S4x3072 ![0, 0] y slices_S8x3072_o0_0_S4x3072) (extractStridedSlice S4x3072 ![4, 0] y slices_S8x3072_o4_0_S4x3072)
  have b := minimumf (extractStridedSlice S2x3072 ![0, 0] a slices_S4x3072_o0_0_S2x3072) (extractStridedSlice S2x3072 ![2, 0] a slices_S4x3072_o2_0_S2x3072)
  minimumf (extractStridedSlice S1x3072 ![0, 0] b slices_S2x3072_o0_0_S1x3072) (extractStridedSlice S1x3072 ![1, 0] b slices_S2x3072_o1_0_S1x3072)

/-- The groups, and the number of each one's first row as the kernel writes it. -/
def groups : List (Fin 128 × BitVec 32) :=
  [(0, 0x00000000#32), (1, 0x41000000#32), (2, 0x41800000#32), (3, 0x41C00000#32), (4, 0x42000000#32), (5, 0x42200000#32), (6, 0x42400000#32), (7, 0x42600000#32),
   (8, 0x42800000#32), (9, 0x42900000#32), (10, 0x42A00000#32), (11, 0x42B00000#32), (12, 0x42C00000#32), (13, 0x42D00000#32), (14, 0x42E00000#32), (15, 0x42F00000#32),
   (16, 0x43000000#32), (17, 0x43080000#32), (18, 0x43100000#32), (19, 0x43180000#32), (20, 0x43200000#32), (21, 0x43280000#32), (22, 0x43300000#32), (23, 0x43380000#32),
   (24, 0x43400000#32), (25, 0x43480000#32), (26, 0x43500000#32), (27, 0x43580000#32), (28, 0x43600000#32), (29, 0x43680000#32), (30, 0x43700000#32), (31, 0x43780000#32),
   (32, 0x43800000#32), (33, 0x43840000#32), (34, 0x43880000#32), (35, 0x438C0000#32), (36, 0x43900000#32), (37, 0x43940000#32), (38, 0x43980000#32), (39, 0x439C0000#32),
   (40, 0x43A00000#32), (41, 0x43A40000#32), (42, 0x43A80000#32), (43, 0x43AC0000#32), (44, 0x43B00000#32), (45, 0x43B40000#32), (46, 0x43B80000#32), (47, 0x43BC0000#32),
   (48, 0x43C00000#32), (49, 0x43C40000#32), (50, 0x43C80000#32), (51, 0x43CC0000#32), (52, 0x43D00000#32), (53, 0x43D40000#32), (54, 0x43D80000#32), (55, 0x43DC0000#32),
   (56, 0x43E00000#32), (57, 0x43E40000#32), (58, 0x43E80000#32), (59, 0x43EC0000#32), (60, 0x43F00000#32), (61, 0x43F40000#32), (62, 0x43F80000#32), (63, 0x43FC0000#32),
   (64, 0x44000000#32), (65, 0x44020000#32), (66, 0x44040000#32), (67, 0x44060000#32), (68, 0x44080000#32), (69, 0x440A0000#32), (70, 0x440C0000#32), (71, 0x440E0000#32),
   (72, 0x44100000#32), (73, 0x44120000#32), (74, 0x44140000#32), (75, 0x44160000#32), (76, 0x44180000#32), (77, 0x441A0000#32), (78, 0x441C0000#32), (79, 0x441E0000#32),
   (80, 0x44200000#32), (81, 0x44220000#32), (82, 0x44240000#32), (83, 0x44260000#32), (84, 0x44280000#32), (85, 0x442A0000#32), (86, 0x442C0000#32), (87, 0x442E0000#32),
   (88, 0x44300000#32), (89, 0x44320000#32), (90, 0x44340000#32), (91, 0x44360000#32), (92, 0x44380000#32), (93, 0x443A0000#32), (94, 0x443C0000#32), (95, 0x443E0000#32),
   (96, 0x44400000#32), (97, 0x44420000#32), (98, 0x44440000#32), (99, 0x44460000#32), (100, 0x44480000#32), (101, 0x444A0000#32), (102, 0x444C0000#32), (103, 0x444E0000#32),
   (104, 0x44500000#32), (105, 0x44520000#32), (106, 0x44540000#32), (107, 0x44560000#32), (108, 0x44580000#32), (109, 0x445A0000#32), (110, 0x445C0000#32), (111, 0x445E0000#32),
   (112, 0x44600000#32), (113, 0x44620000#32), (114, 0x44640000#32), (115, 0x44660000#32), (116, 0x44680000#32), (117, 0x446A0000#32), (118, 0x446C0000#32), (119, 0x446E0000#32),
   (120, 0x44700000#32), (121, 0x44720000#32), (122, 0x44740000#32), (123, 0x44760000#32), (124, 0x44780000#32), (125, 0x447A0000#32), (126, 0x447C0000#32), (127, 0x447E0000#32)]

/-- The minimum over the rows: the groups' minimum row by row, and the eight folded. -/
def least (x : FVec F S1024x3072 .f32) : FVec F S1x3072 .f32 :=
  fold8 (groups.tail.foldl (fun a p => minimumf a (group x p.1)) (group x 0))

/-- The square root as the kernel takes it: `x · (1/√x)`, and `0` at `0`. -/
def root {s : Shape} (x : FVec F s .f32) : FVec F s .f32 :=
  select (cmpf .oeq x (broadcast s (Scalar.ofBits .f32 0x00000000#32))) (broadcast s (Scalar.ofBits .f32 0x00000000#32)) (mulf x (rsqrt x))

/-- One group's step of the second pass: the numbers of the rows whose root is the least, 1024 at the others, into the running minimum. -/
def step (x : FVec F S1024x3072 .f32) (s : FVec F S1x3072 .f32) (n : FVec F S8x3072 .f32) (acc : FVec F S8x3072 .f32) (p : Fin 128 × BitVec 32) : FVec F S8x3072 .f32 :=
  minimumf acc (select (cmpf .oeq (root (group x p.1)) (broadcastTo S8x3072 s broadcasts_S1x3072_S8x3072))
    (addf n (broadcast S8x3072 (Scalar.ofBits .f32 p.2))) (broadcast S8x3072 (Scalar.ofBits .f32 0x44800000#32)))

/-- The number of the first row whose root is `s`. -/
def first (x : FVec F S1024x3072 .f32) (s : FVec F S1x3072 .f32) (n : FVec F S8x3072 .f32) : IVec S1x1x3072 32 :=
  shapeCast S1x1x3072 (fptosi 32 (fold8 (groups.foldl (step x s n) (broadcast S8x3072 (Scalar.ofBits .f32 0x44800000#32))))) shapeCasts_S1x3072_S1x1x3072

/-- The kernel's least distances of a block, -/
def leastK (x : FVec F S1024x3072 .f32) (v47 v48 : FVec F S8x3072 .f32) : FVec F S1x3072 .f32 :=
  k0_pay10 x (k0_pay8 x (k0_pay6 x (k0_pay4 x v47 v48) (k0_pay5 x)) (k0_pay7 x)) (k0_pay9 x)
/-- and the numbers of the first rows at the least root. -/
def firstK (x : FVec F S1024x3072 .f32) (s : FVec F S1x3072 .f32) (n : FVec F S8x3072 .f32) : IVec S1x1x3072 32 :=
  have v329 := k0_pay13 x s n
  have v330 := k0_pay14 x
  have v332 := k0_pay15 x
  have v371 := k0_pay16 x s n v329 v330 v332
  have v378 := k0_pay17 x
  have v379 := k0_pay18 s
  have v413 := k0_pay19 x s n v371 v378 v379
  have v422 := k0_pay20 x s
  have v424 := k0_pay21 n
  have v425 := k0_pay22 (F := F)
  have v469 := k0_pay23 x s n v413 v422 v424 v425
  have v470 := k0_pay24 x
  have v472 := k0_pay25 x
  have v511 := k0_pay26 x s n v469 v470 v472
  have v518 := k0_pay27 x
  have v519 := k0_pay28 s
  have v553 := k0_pay29 x s n v511 v518 v519
  have v562 := k0_pay30 x s
  have v564 := k0_pay31 n
  have v565 := k0_pay32 (F := F)
  have v609 := k0_pay33 x s n v553 v562 v564 v565
  have v610 := k0_pay34 x
  have v612 := k0_pay35 x
  have v651 := k0_pay36 x s n v609 v610 v612
  have v658 := k0_pay37 x
  have v659 := k0_pay38 s
  have v693 := k0_pay39 x s n v651 v658 v659
  have v702 := k0_pay40 x s
  have v704 := k0_pay41 n
  have v705 := k0_pay42 (F := F)
  have v749 := k0_pay43 x s n v693 v702 v704 v705
  have v750 := k0_pay44 x
  have v752 := k0_pay45 x
  have v791 := k0_pay46 x s n v749 v750 v752
  have v798 := k0_pay47 x
  have v799 := k0_pay48 s
  have v833 := k0_pay49 x s n v791 v798 v799
  have v842 := k0_pay50 x s
  have v844 := k0_pay51 n
  have v845 := k0_pay52 (F := F)
  have v889 := k0_pay53 x s n v833 v842 v844 v845
  have v890 := k0_pay54 x
  have v892 := k0_pay55 x
  have v931 := k0_pay56 x s n v889 v890 v892
  have v938 := k0_pay57 x
  have v939 := k0_pay58 s
  have v973 := k0_pay59 x s n v931 v938 v939
  have v982 := k0_pay60 x s
  have v984 := k0_pay61 n
  have v985 := k0_pay62 (F := F)
  have v1029 := k0_pay63 x s n v973 v982 v984 v985
  have v1030 := k0_pay64 x
  have v1032 := k0_pay65 x
  have v1071 := k0_pay66 x s n v1029 v1030 v1032
  have v1078 := k0_pay67 x
  have v1079 := k0_pay68 s
  have v1113 := k0_pay69 x s n v1071 v1078 v1079
  have v1122 := k0_pay70 x s
  have v1124 := k0_pay71 n
  have v1125 := k0_pay72 (F := F)
  have v1169 := k0_pay73 x s n v1113 v1122 v1124 v1125
  have v1170 := k0_pay74 x
  have v1172 := k0_pay75 x
  have v1211 := k0_pay76 x s n v1169 v1170 v1172
  have v1218 := k0_pay77 x
  have v1219 := k0_pay78 s
  have v1253 := k0_pay79 x s n v1211 v1218 v1219
  have v1262 := k0_pay80 x s
  have v1264 := k0_pay81 n
  have v1265 := k0_pay82 (F := F)
  have v1309 := k0_pay83 x s n v1253 v1262 v1264 v1265
  have v1310 := k0_pay84 x
  have v1312 := k0_pay85 x
  have v1351 := k0_pay86 x s n v1309 v1310 v1312
  have v1358 := k0_pay87 x
  have v1359 := k0_pay88 s
  have v1393 := k0_pay89 x s n v1351 v1358 v1359
  have v1402 := k0_pay90 x s
  have v1404 := k0_pay91 n
  have v1405 := k0_pay92 (F := F)
  have v1449 := k0_pay93 x s n v1393 v1402 v1404 v1405
  have v1450 := k0_pay94 x
  have v1452 := k0_pay95 x
  have v1491 := k0_pay96 x s n v1449 v1450 v1452
  have v1498 := k0_pay97 x
  have v1499 := k0_pay98 s
  have v1533 := k0_pay99 x s n v1491 v1498 v1499
  have v1542 := k0_pay100 x s
  have v1544 := k0_pay101 n
  have v1545 := k0_pay102 (F := F)
  have v1589 := k0_pay103 x s n v1533 v1542 v1544 v1545
  have v1590 := k0_pay104 x
  have v1592 := k0_pay105 x
  have v1631 := k0_pay106 x s n v1589 v1590 v1592
  have v1638 := k0_pay107 x
  have v1639 := k0_pay108 s
  have v1673 := k0_pay109 x s n v1631 v1638 v1639
  have v1682 := k0_pay110 x s
  have v1684 := k0_pay111 n
  have v1685 := k0_pay112 (F := F)
  have v1729 := k0_pay113 x s n v1673 v1682 v1684 v1685
  have v1730 := k0_pay114 x
  have v1732 := k0_pay115 x
  have v1771 := k0_pay116 x s n v1729 v1730 v1732
  have v1778 := k0_pay117 x
  have v1779 := k0_pay118 s
  have v1813 := k0_pay119 x s n v1771 v1778 v1779
  have v1822 := k0_pay120 x s
  have v1824 := k0_pay121 n
  have v1825 := k0_pay122 (F := F)
  have v1869 := k0_pay123 x s n v1813 v1822 v1824 v1825
  have v1870 := k0_pay124 x
  have v1872 := k0_pay125 x
  have v1911 := k0_pay126 x s n v1869 v1870 v1872
  have v1918 := k0_pay127 x
  have v1919 := k0_pay128 s
  have v1953 := k0_pay129 x s n v1911 v1918 v1919
  have v1962 := k0_pay130 x s
  have v1964 := k0_pay131 n
  have v1965 := k0_pay132 (F := F)
  have v2009 := k0_pay133 x s n v1953 v1962 v1964 v1965
  have v2010 := k0_pay134 x
  have v2012 := k0_pay135 x
  have v2051 := k0_pay136 x s n v2009 v2010 v2012
  have v2058 := k0_pay137 x
  have v2059 := k0_pay138 s
  k0_pay139 x s n v2051 v2058 v2059

set_option maxRecDepth 65536 in
theorem leastK_eq (v0 : Vec F S1024x64 .f32) (v2 : Vec F S64x3072 .f32) (v5 : Vec F S1x3072 .f32) (v9 : Vec F S1024x1 .f32) :
    leastK (k0_pay1 v0 v2 v5 v9) (k0_pay2 v0 v2 v5 v9) (k0_pay3 v0 v2 v5 v9) = least (k0_pay1 v0 v2 v5 v9) := rfl

set_option maxRecDepth 65536 in
theorem rootK_eq (x : FVec F S1024x3072 .f32) (a b : FVec F S8x3072 .f32) : k0_pay11 x a b = root (k0_pay10 x a b) := rfl

set_option maxRecDepth 65536 in
theorem firstK_eq (x : FVec F S1024x3072 .f32) (s : FVec F S1x3072 .f32) (n : FVec F S8x3072 .f32) : firstK x s n = first x s n := rfl

end Cert.Proof.Whole

end
-- ==== Proof.WholeSearch.lean ====
/-
  The search's block, run: from the four inputs' staging buffers it leaves the rows' numbers in the first output's, and in the
  second output's the running total of the least distances: begun at the first block, added to at the others.
-/
module

public import proofs.«01_k».proof.Proof.WholeRows
public import proofs.«01_k».proof.Proof.WholeTile
public import Idealize.ShloMosaic.Lib.Pipeline.Frame
public import Idealize.ShloMosaic.Lib.WholeRead

@[expose] public section

set_option Elab.async false

noncomputable section

namespace Cert.Proof.Whole

open Cert.KernelIdeal Cert.KernelIdeal.Gen
open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The values a block gives -/

variable (A : FVec F S1024x64 .f32) (B : FVec F S64x3072 .f32) (C : FVec F S1x3072 .f32) (D' : FVec F S1024x1 .f32)

/-- The distances of the block's vectors to the rows, -/
def dist : FVec F S1024x3072 .f32 := k0_pay1 A B C D'
/-- the least of each vector's, -/
def low : FVec F S1x3072 .f32 := least (dist A B C D')
/-- and the number of the first row attaining it. -/
def num : IVec S1x1x3072 32 := first (dist A B C D') (root (low A B C D')) k0_pay12

/-- A block's stores: the numbers, and the total begun or added to. -/
def stores (i : grid0.Coords) (arg5 : Memref sig .tc .vmem S1x1x3072 .i32) (arg6 : Memref sig .tc .vmem S1x1 .f32) (l : FVec F S1x3072 .f32) (n : IVec S1x1x3072 32) :
    Prog (TpuEff nD τ sig (Elt F) Λ₀ .tc) PUnit := do
  let _v2091 : Vec F S1x1x3072 .i32 ← Prog.lift (.load arg5 (Rect.unit (s := S1x1x3072) ![0, 0, 0] S1x1x3072.size inb_S1x1x3072_S1x1x3072_0_0_0).toLoadRect (View.loadsAt_vmem h_S1x1x3072))
  Prog.lift (.store arg5 (Rect.unit (s := S1x1x3072) ![0, 0, 0] S1x1x3072.size inb_S1x1x3072_S1x1x3072_0_0_0)
    n Finset.univ (View.stores_vmem_bits_univ h_S1x1x3072 rfl) (.inl rfl))
  if k0_h1 : k0_cond1 i = 1#1 then do
    let _v2103 : Vec F S1x1 .f32 ← Prog.lift (.load arg6 (Rect.unit (s := S1x1) ![0, 0] S1x1.size inb_S1x1_S1x1_0_0).toLoadRect (View.loadsAt_vmem h_S1x1))
    Prog.lift (.store arg6 (Rect.unit (s := S1x1) ![0, 0] S1x1.size inb_S1x1_S1x1_0_0)
      (k0_pay140 l) Finset.univ (View.stores_vmem_bits_univ h_S1x1 rfl) (.inl rfl))
    pure ⟨⟩
  else do
    pure ⟨⟩
  if k0_h2 : k0_cond2 i = 1#1 then do
    let v2103 : Vec F S1x1 .f32 ← Prog.lift (.load arg6 (Rect.unit (s := S1x1) ![0, 0] S1x1.size inb_S1x1_S1x1_0_0).toLoadRect (View.loadsAt_vmem h_S1x1))
    let _v2106 : Vec F S1x1 .f32 ← Prog.lift (.load arg6 (Rect.unit (s := S1x1) ![0, 0] S1x1.size inb_S1x1_S1x1_0_0).toLoadRect (View.loadsAt_vmem h_S1x1))
    Prog.lift (.store arg6 (Rect.unit (s := S1x1) ![0, 0] S1x1.size inb_S1x1_S1x1_0_0)
      (k0_pay141 l v2103) Finset.univ (View.stores_vmem_bits_univ h_S1x1 rfl) (.inl rfl))
    pure ⟨⟩
  else do
    pure ⟨⟩
  pure ⟨⟩

/-- The block's program, the arithmetic between its loads and stores gathered into `dist`, `low` and `num`. -/
def block (i : grid0.Coords) (arg1 : Memref sig .tc .vmem S1024x64 .f32) (arg2 : Memref sig .tc .vmem S64x3072 .f32) (arg3 : Memref sig .tc .vmem S1x3072 .f32)
    (arg4 : Memref sig .tc .vmem S1024x1 .f32) (arg5 : Memref sig .tc .vmem S1x1x3072 .i32) (arg6 : Memref sig .tc .vmem S1x1 .f32) :
    Prog (TpuEff nD τ sig (Elt F) Λ₀ .tc) PUnit := do
  let v0 : Vec F S1024x64 .f32 ← Prog.lift (.load arg1 (Rect.unit (s := S1024x64) ![0, 0] S1024x64.size inb_S1024x64_S1024x64_0_0).toLoadRect (View.loadsAt_vmem h_S1024x64))
  let v2 : Vec F S64x3072 .f32 ← Prog.lift (.load arg2 (Rect.unit (s := S64x3072) ![0, 0] S64x3072.size inb_S64x3072_S64x3072_0_0).toLoadRect (View.loadsAt_vmem h_S64x3072))
  let v5 : Vec F S1x3072 .f32 ← Prog.lift (.load arg3 (Rect.unit (s := S1x3072) ![0, 0] S1x3072.size inb_S1x3072_S1x3072_0_0).toLoadRect (View.loadsAt_vmem h_S1x3072))
  let v9 : Vec F S1024x1 .f32 ← Prog.lift (.load arg4 (Rect.unit (s := S1024x1) ![0, 0] S1024x1.size inb_S1024x1_S1024x1_0_0).toLoadRect (View.loadsAt_vmem h_S1024x1))
  stores i arg5 arg6 (leastK (k0_pay1 v0 v2 v5 v9) (k0_pay2 v0 v2 v5 v9) (k0_pay3 v0 v2 v5 v9))
    (firstK (k0_pay1 v0 v2 v5 v9) (root (leastK (k0_pay1 v0 v2 v5 v9) (k0_pay2 v0 v2 v5 v9) (k0_pay3 v0 v2 v5 v9))) k0_pay12)
  pure ⟨⟩

variable (i : grid0.Coords) (arg1 : Memref sig .tc .vmem S1024x64 .f32) (harg1 : arg1.IsWhole) (arg2 : Memref sig .tc .vmem S64x3072 .f32) (harg2 : arg2.IsWhole)
  (arg3 : Memref sig .tc .vmem S1x3072 .f32) (harg3 : arg3.IsWhole) (arg4 : Memref sig .tc .vmem S1024x1 .f32) (harg4 : arg4.IsWhole)
  (arg5 : Memref sig .tc .vmem S1x1x3072 .i32) (harg5 : arg5.IsWhole) (arg6 : Memref sig .tc .vmem S1x1 .f32) (harg6 : arg6.IsWhole)

set_option maxRecDepth 65536 in
theorem block_eq : cc0__vq_tc_kernel (F := F) i arg1 harg1 arg2 harg2 arg3 harg3 arg4 harg4 arg5 harg5 arg6 harg6 = block i arg1 arg2 arg3 arg4 arg5 arg6 := rfl

/-! ## Loads and stores of a whole buffer -/

/-- A memref's buffer held whole, reading `X`. -/
abbrev holds {s : Shape} {e : EltTy} (c : Dev nD) {M : Memref sig .tc .vmem s e} (h : M.IsWhole) (X : s.Idx → Elt F e) : sProp 𝕄 :=
  M.view.loc (c : Thread nD τ) ↦{fullShare} h.unread X

theorem unit_idx {s : Shape} {off : Fin s.rank → ℕ} (ho : off = fun _ => 0) (inb : ∀ a, off a + s.size a ≤ s.size a) (x : s.Idx) :
    (Rect.unit (s := s) off s.size inb).toLoadRect.idx x = x := by
  subst ho
  funext a
  exact Fin.ext (by simp [Rect.unit, LoadRect.idx, Rect.toLoadRect])

theorem ld {s : Shape} {e : EltTy} (c : Dev nD) {M : Memref sig .tc .vmem s e} (h : M.IsWhole) (X : s.Idx → Elt F e) {off : Fin s.rank → ℕ} (ho : off = fun _ => 0)
    {inb : ∀ a, off a + s.size a ≤ s.size a} {hl : M.view.LoadsAt (Rect.unit (s := s) off s.size inb).toLoadRect}
    {k : (s.Idx → Elt F e) → Prog (TpuEff nD τ sig (Elt F) Λ₀ .tc) PUnit} {E : Set ℕ} {Q : PUnit → sProp 𝕄} :
    holds c h X ⊢ iprop((holds c h X -∗ wp frame (wpE (defs₀ (F := F)) 𝒱₀ (c : Thread nD τ) none) E (k X) Q)
      -∗ wp frame (wpE (defs₀ (F := F)) 𝒱₀ (c : Thread nD τ) none) E (.op (.load M (Rect.unit (s := s) off s.size inb).toLoadRect hl) k) Q) := by
  have hx := wp_load (defs := defs₀ (F := F)) 𝒱₀ (c : Thread nD τ) none (Γ := .empty) E (Q := Q) (m := M) (r := (Rect.unit (s := s) off s.size inb).toLoadRect) (hl := hl)
    (k := k) (q := fullShare) (f := h.unread X) (S := Finset.univ) (Finset.subset_univ _)
  have hr : View.readAt (Elt F) M.view (Rect.unit (s := s) off s.size inb).toLoadRect (h.unread X) = X := by
    funext x
    rw [h.readAt_unread X]
    exact congrArg X (unit_idx ho inb x)
  rwa [hr] at hx

theorem written {s : Shape} {e : EltTy} {M : Memref sig .tc .vmem s e} (h : M.IsWhole) {off : Fin s.rank → ℕ} (ho : off = fun _ => 0)
    (inb : ∀ a, off a + s.size a ≤ s.size a) (f : M.view.ty.Contents (Elt F)) (w : s.Idx → Elt F e) :
    (M.access (Rect.unit (s := s) off s.size inb)).write (Elt F) f w Finset.univ = h.unread w := by
  refine h.eq_unread ?_
  funext x
  have hx := View.read_slice_write_emb (v := M.view) (Rect.unit (s := s) off s.size inb) f w (Finset.mem_univ x)
  rwa [show (Rect.unit (s := s) off s.size inb).emb x = x from unit_idx ho inb x] at hx

theorem st {s : Shape} {e : EltTy} (c : Dev nD) {M : Memref sig .tc .vmem s e} (h : M.IsWhole) (X w : s.Idx → Elt F e) {off : Fin s.rank → ℕ} (ho : off = fun _ => 0)
    {inb : ∀ a, off a + s.size a ≤ s.size a} {hx hm} {k : PUnit → Prog (TpuEff nD τ sig (Elt F) Λ₀ .tc) PUnit} {E : Set ℕ} {Q : PUnit → sProp 𝕄} :
    holds c h X ⊢ iprop((holds c h w -∗ wp frame (wpE (defs₀ (F := F)) 𝒱₀ (c : Thread nD τ) none) E (k ⟨⟩) Q)
      -∗ wp frame (wpE (defs₀ (F := F)) 𝒱₀ (c : Thread nD τ) none) E (.op (.store M (Rect.unit (s := s) off s.size inb) w Finset.univ hx hm) k) Q) := by
  have h' := wp_store (defs := defs₀ (F := F)) 𝒱₀ (c : Thread nD τ) none (Γ := .empty) E (Q := Q) (m := M) (r := Rect.unit (s := s) off s.size inb) (w := w) (Mk := Finset.univ)
    (hx := hx) (hm := hm) (k := k) (f := h.unread X) (S := Finset.univ) (Finset.subset_univ _)
  rwa [written h ho inb] at h'

/-! ## The block's run -/

/-- The running total after a block. -/
def total (i : grid0.Coords) (old : FVec F S1x1 .f32) (l : FVec F S1x3072 .f32) : FVec F S1x1 .f32 :=
  if k0_cond1 i = 1#1 then k0_pay140 l else k0_pay141 l old

theorem zero2 : (![0, 0] : Fin 2 → ℕ) = fun _ => 0 := by decide
theorem zero3 : (![0, 0, 0] : Fin 3 → ℕ) = fun _ => 0 := by decide

theorem finish (c : Dev nD) (Q : PUnit → sProp 𝕄) : Q ⟨⟩ ⊢ wp frame (wpE (defs₀ (F := F)) 𝒱₀ (c : Thread nD τ) none) Set.univ (.ret ⟨⟩) Q := by
  iintro H
  sl_step
  iexact H

theorem block_run (c : Dev nD) (hi : (k0_cond1 i = 1#1 ∧ ¬ k0_cond2 i = 1#1) ∨ (¬ k0_cond1 i = 1#1 ∧ k0_cond2 i = 1#1))
    (X5 : IVec S1x1x3072 32) (X6 : FVec F S1x1 .f32) (Q : PUnit → sProp 𝕄) :
    iprop(holds c harg1 A ∗ holds c harg2 B ∗ holds c harg3 C ∗ holds c harg4 D' ∗ holds c harg5 X5 ∗ holds c harg6 X6
        ∗ (iprop(holds c harg1 A ∗ holds c harg2 B ∗ holds c harg3 C ∗ holds c harg4 D' ∗ holds c harg5 (num A B C D') ∗ holds c harg6 (total i X6 (low A B C D'))) -∗ Q ⟨⟩))
      ⊢ wp frame (wpE (defs₀ (F := F)) 𝒱₀ (c : Thread nD τ) none) Set.univ (cc0__vq_tc_kernel (F := F) i arg1 harg1 arg2 harg2 arg3 harg3 arg4 harg4 arg5 harg5 arg6 harg6) Q := by
  rw [block_eq]
  unfold block stores
  iintro ⟨H1, H2, H3, H4, H5, H6, Hk⟩
  iapply (ld c harg1 A zero2) $$ [H1]; · iexact H1
  iintro H1
  iapply (ld c harg2 B zero2) $$ [H2]; · iexact H2
  iintro H2
  iapply (ld c harg3 C zero2) $$ [H3]; · iexact H3
  iintro H3
  iapply (ld c harg4 D' zero2) $$ [H4]; · iexact H4
  iintro H4
  simp only [leastK_eq, firstK_eq]
  iapply (ld c harg5 X5 zero3) $$ [H5]; · iexact H5
  iintro H5
  iapply (st c harg5 X5 (num A B C D') zero3) $$ [H5]; · iexact H5
  iintro H5
  rcases hi with ⟨h1, h2⟩ | ⟨h1, h2⟩
  · rw [dif_pos h1, dif_neg h2, total, if_pos h1]
    iapply (ld c harg6 X6 zero2) $$ [H6]; · iexact H6
    iintro H6
    iapply (st c harg6 X6 (k0_pay140 (low A B C D')) zero2) $$ [H6]; · iexact H6
    iintro H6
    iapply (finish c Q)
    iapply Hk
    isplitl [H1]; · iexact H1
    isplitl [H2]; · iexact H2
    isplitl [H3]; · iexact H3
    isplitl [H4]; · iexact H4
    isplitl [H5]; · iexact H5
    iexact H6
  · rw [dif_neg h1, dif_pos h2, total, if_neg h1]
    iapply (ld c harg6 X6 zero2) $$ [H6]; · iexact H6
    iintro H6
    iapply (ld c harg6 X6 zero2) $$ [H6]; · iexact H6
    iintro H6
    iapply (st c harg6 X6 (k0_pay141 (low A B C D') X6) zero2) $$ [H6]; · iexact H6
    iintro H6
    iapply (finish c Q)
    iapply Hk
    isplitl [H1]; · iexact H1
    isplitl [H2]; · iexact H2
    isplitl [H3]; · iexact H3
    isplitl [H4]; · iexact H4
    isplitl [H5]; · iexact H5
    iexact H6

end Cert.Proof.Whole

end
-- ==== Proof.WholeRegion.lean ====
/-
  The search's call, run: six blocks of 3072 vectors, each staged with the table, searched, and its numbers written back, the
  total of the least distances staying staged from the first block to the last. It is entered while the launch still owes the
  SparseCores their starts: its waits record nothing above level zero.
-/
module

public import proofs.«01_k».proof.Proof.WholeSearch
public import Idealize.ShloMosaic.Lib.Pipeline.RegionArrays

@[expose] public section

set_option Elab.async false

noncomputable section

namespace Cert.Proof.Whole

open Cert.KernelIdeal Cert.KernelIdeal.Gen
open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation cellOf arrRef arrRefs)

variable {F : FTy → Type} [FloatOps F]

local notation "𝕄" => MT nD τ sig (HIx 1) (Elt F) ℕ UU ℕ

/-! ## The call's layout -/

abbrev spec0 (w : Fin 6) : Pipeline.WinSpec sig grid0.rank := (win0 w).toWinSpec

theorem points : cfg0.N = 6 := by decide
theorem winFacts : Pipeline.WinFacts spec0 := by decide
theorem block_pos (w : Fin 6) : 0 < (spec0 w).block.numel := by revert w; decide
theorem arr_whole (w : Fin 6) : (spec0 w).arr.IsWhole :=
  match w with
  | 0 => Memref.isWhole_whole _ | 1 => Memref.isWhole_whole _ | 2 => Memref.isWhole_whole _
  | 3 => Memref.isWhole_whole _ | 4 => Memref.isWhole_whole _ | 5 => Memref.isWhole_whole _
theorem stage_whole (w : Fin 6) (s : Fin (spec0 w).nbuf) : ((spec0 w).stage s).IsWhole :=
  match w, s with
  | 0, s => hstage0_0 (s.cast nbuf0_0) | 1, s => hstage0_1 (s.cast nbuf0_1) | 2, s => hstage0_2 (s.cast nbuf0_2)
  | 3, s => hstage0_3 (s.cast nbuf0_3) | 4, s => hstage0_4 (s.cast nbuf0_4) | 5, s => hstage0_5 (s.cast nbuf0_5)

/-- Over the windows one by one. -/
theorem bigSep_windows (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The table's windows are staged at the first block and kept, -/
theorem fetch_first : ∀ t : Fin cfg0.N, (cfg0.win 0).fetch t = decide (t.val = 0) ∧ (cfg0.win 3).fetch t = decide (t.val = 0) := by decide
/-- the vectors' at each; -/
theorem fetch_each : ∀ t : Fin cfg0.N, (cfg0.win 1).fetch t = true ∧ (cfg0.win 2).fetch t = true := by decide
theorem flush_in : ∀ t : Fin cfg0.N, (cfg0.win 0).flush t = false ∧ (cfg0.win 3).flush t = false := by decide
/-- the numbers' is written back at each block, the total's at the last. -/
theorem flush_out : ∀ t : Fin cfg0.N, (cfg0.win 4).flush t = true ∧ (cfg0.win 5).flush t = decide (t.val = 5) ∧ (cfg0.win 5).fetch t = false := by decide
/-- The body begins the total at the first block and adds to it at the others. -/
theorem cond_first : ∀ t : Fin cfg0.N, if t.val = 0 then k0_cond1 (grid0.coords t) = 1#1 ∧ ¬ k0_cond2 (grid0.coords t) = 1#1
    else ¬ k0_cond1 (grid0.coords t) = 1#1 ∧ k0_cond2 (grid0.coords t) = 1#1 := by decide
theorem total_live : ∀ t : Fin cfg0.N, cfg0.idle 5 (cfg0.grid.coords t) = false := by decide

/-! ## What each block leaves -/

variable (W : Dev nD → Valuation τ sig (Elt F))

abbrev pt0 : Fin cfg0.N := ⟨0, by decide⟩

/-- The scaled table, a block of vectors, their squared lengths, the rows'. -/
def tabIn (c : Dev nD) : FVec F S1024x64 .f32 := ((cfg0.win 0).blk pt0).view.read (Elt F) (W c (Proc.devRef .tc (arrRef spec0 0)))
def vecIn (c : Dev nD) (t : Fin cfg0.N) : FVec F S64x3072 .f32 := ((cfg0.win 1).blk t).view.read (Elt F) (W c (Proc.devRef .tc (arrRef spec0 1)))
def lenIn (c : Dev nD) (t : Fin cfg0.N) : FVec F S1x3072 .f32 := ((cfg0.win 2).blk t).view.read (Elt F) (W c (Proc.devRef .tc (arrRef spec0 2)))
def rowIn (c : Dev nD) : FVec F S1024x1 .f32 := ((cfg0.win 3).blk pt0).view.read (Elt F) (W c (Proc.devRef .tc (arrRef spec0 3)))

/-- The least distances of block `t`, and the rows' numbers. -/
def lowAt (c : Dev nD) (t : Fin cfg0.N) : FVec F S1x3072 .f32 := low (tabIn W c) (vecIn W c t) (lenIn W c t) (rowIn W c)
def numAt (c : Dev nD) (t : Fin cfg0.N) : IVec S1x1x3072 32 := num (tabIn W c) (vecIn W c t) (lenIn W c t) (rowIn W c)

/-- The total after block `n`. -/
def totAt (c : Dev nD) : ℕ → FVec F S1x1 .f32
  | 0 => k0_pay140 (lowAt W c pt0)
  | n + 1 => if h : n + 1 < cfg0.N then k0_pay141 (lowAt W c ⟨n + 1, h⟩) (totAt c n) else totAt c n

variable [∀ e, Nonempty (Elt F e)]

/-- The pairs a wait may have recorded: those at level zero. -/
abbrev low0 (c : Dev nD) : Set (SemLoc sig × HIx 1) := {p | (K (F := F)).lev ((T c : Thread nD τ), p.1) p.2 ≤ 0}

/-- The run's data. -/
def dat (c : Dev nD) : Dat τ (Elt F) (HIx 1) ℕ UU ℕ cfg0 c where
  A w := W c (Proc.devRef .tc (arrRef spec0 w))
  after w t := match w with
    | 0 => tabIn W c
    | 1 => vecIn W c t
    | 2 => lenIn W c t
    | 3 => rowIn W c
    | 4 => numAt W c t
    | 5 => totAt W c t.val
  Φ _ := Pipeline.scopedRest (Ix := HIx 1) (Name := ℕ) (U := UU) (Lvl := ℕ) (Val := Elt F) spec0 c
  q _ := fullShare
  owed _ := (K (F := F)).Otc c 0
  recorded _ := low0 (F := F) c

theorem before_0 (c : Dev nD) (t : Fin cfg0.N) (d) : (dat W c).before 0 t d = tabIn W c := by
  by_cases ht : t.val = 0
  · obtain rfl : t = pt0 := Fin.ext ht
    unfold Dat.before; rw [if_pos (show (cfg0.win 0).fetch pt0 = true by decide)]; rfl
  · rw [(dat W c).before_of_pos 0 t ht ((fetch_first t).1.trans (decide_eq_false ht)), if_neg (by rw [(flush_in _).1]; decide)]; rfl
theorem before_3 (c : Dev nD) (t : Fin cfg0.N) (d) : (dat W c).before 3 t d = rowIn W c := by
  by_cases ht : t.val = 0
  · obtain rfl : t = pt0 := Fin.ext ht
    unfold Dat.before; rw [if_pos (show (cfg0.win 3).fetch pt0 = true by decide)]; rfl
  · rw [(dat W c).before_of_pos 3 t ht ((fetch_first t).2.trans (decide_eq_false ht)), if_neg (by rw [(flush_in _).2]; decide)]; rfl
theorem before_1 (c : Dev nD) (t : Fin cfg0.N) (d) : (dat W c).before 1 t d = vecIn W c t := by
  unfold Dat.before; rw [if_pos (fetch_each t).1]; rfl
theorem before_2 (c : Dev nD) (t : Fin cfg0.N) (d) : (dat W c).before 2 t d = lenIn W c t := by
  unfold Dat.before; rw [if_pos (fetch_each t).2]; rfl
/-- After the first block the total's buffer holds the total so far. -/
theorem before_5 (c : Dev nD) (t : Fin cfg0.N) (ht : t.val ≠ 0) (d) : (dat W c).before 5 t d = totAt W c (t.val - 1) := by
  have hN : t.val < 6 := points ▸ t.isLt
  rw [(dat W c).before_of_pos 5 t ht (flush_out t).2.2, if_neg (by rw [(flush_out _).2.1]; simp; omega)]
  unfold Dat.left
  rw [total_live]
  rfl

/-- The block's step of the total. -/
theorem tot_step (c : Dev nD) (t : Fin cfg0.N) (d) :
    total (grid0.coords t) ((dat W c).before 5 t d) (lowAt W c t) = totAt W c t.val := by
  have hc := cond_first t
  by_cases ht : t.val = 0
  · rw [if_pos ht] at hc
    obtain rfl : t = pt0 := Fin.ext ht
    rw [total, if_pos hc.1]; rfl
  · rw [if_neg ht] at hc
    rw [total, if_neg hc.1, before_5 W c t ht]
    obtain ⟨n, hn⟩ := t
    obtain ⟨n, rfl⟩ : ∃ k, n = k + 1 := ⟨n - 1, by simp at ht; omega⟩
    show _ = totAt W c (n + 1)
    rw [totAt, dif_pos hn]; rfl

/-! ## The body at a point -/

theorem owns_holds {s : Shape} {e : EltTy} (c : Dev nD) {M : Memref sig .tc .vmem s e} (h : M.IsWhole) (X : s.Idx → Elt F e) :
    (owns (c : Thread nD τ) M fullShare X : sProp 𝕄) ⊢ holds c h X := by
  have hs : M.view.set = Finset.univ := h.set_eq_univ
  unfold owns
  rw [hs]
  iintro ⟨%f, %hf, H⟩
  obtain rfl := h.eq_unread hf
  iexact H

theorem holds_owns {s : Shape} {e : EltTy} (c : Dev nD) {M : Memref sig .tc .vmem s e} (h : M.IsWhole) (X : s.Idx → Elt F e) :
    holds c h X ⊢ (owns (c : Thread nD τ) M fullShare X : sProp 𝕄) := by
  have hs : M.view.set = Finset.univ := h.set_eq_univ
  unfold owns
  rw [hs]
  iintro H
  iexists _
  isplitr; swap; · iexact H
  ipureintro; exact h.read_unread X

/-- The buffer window `w` is staged in at point `t`. -/
abbrev slot (t : Fin cfg0.N) (w : Fin 6) : Fin (spec0 w).nbuf := cfg0.slots t w

theorem body_eq (t : Fin cfg0.N) : defs₀ (F := F) .tc cfg0.body (cfg0.bodyArgs t (cfg0.slots t))
    = cc0__vq_tc_kernel (grid0.coords t) (win0_0.stage (slot t 0)) (stage_whole 0 (slot t 0)) (win0_1.stage (slot t 1)) (stage_whole 1 (slot t 1))
        (win0_2.stage (slot t 2)) (stage_whole 2 (slot t 2)) (win0_3.stage (slot t 3)) (stage_whole 3 (slot t 3))
        (win0_4.stage (slot t 4)) (stage_whole 4 (slot t 4)) (win0_5.stage (slot t 5)) (stage_whole 5 (slot t 5)) := rfl

theorem conds (t : Fin cfg0.N) : (k0_cond1 (grid0.coords t) = 1#1 ∧ ¬ k0_cond2 (grid0.coords t) = 1#1) ∨ (¬ k0_cond1 (grid0.coords t) = 1#1 ∧ k0_cond2 (grid0.coords t) = 1#1) := by
  have h := cond_first t
  split at h
  · exact .inl h
  · exact .inr h

theorem body_obligation (c : Dev nD) : BodyObligation (dat W c) (defs₀ (F := F)) 𝒱₀ (none : HIx 1) Set.univ := fun t => by
  rw [bigSep_windows, bigSep_windows, body_eq]
  dsimp only
  rw [show idle0 5 (grid0.coords t) = false from total_live t]
  rw [show (dat W c).Φ t.succ = (dat W c).Φ t.castSucc from rfl, show (dat W c).owesAt (none : HIx 1) t.succ = (dat W c).owesAt (none : HIx 1) t.castSucc from rfl]
  iintro ⟨HΦ, Howes, ⟨%d0, H0⟩, ⟨%d1, H1⟩, ⟨%d2, H2⟩, ⟨%d3, H3⟩, ⟨%d4, H4⟩, ⟨%d5, H5⟩⟩
  rw [before_0, before_1, before_2, before_3]
  ihave H0 := (owns_holds c (stage_whole 0 (slot t 0)) (tabIn W c)) $$ H0
  ihave H1 := (owns_holds c (stage_whole 1 (slot t 1)) (vecIn W c t)) $$ H1
  ihave H2 := (owns_holds c (stage_whole 2 (slot t 2)) (lenIn W c t)) $$ H2
  ihave H3 := (owns_holds c (stage_whole 3 (slot t 3)) (rowIn W c)) $$ H3
  ihave H4 := (owns_holds c (stage_whole 4 (slot t 4)) ((dat W c).before 4 t d4)) $$ H4
  ihave H5 := (owns_holds c (stage_whole 5 (slot t 5)) ((dat W c).before 5 t d5)) $$ H5
  iapply (block_run (tabIn W c) (vecIn W c t) (lenIn W c t) (rowIn W c) (grid0.coords t) _ (stage_whole 0 (slot t 0)) _ (stage_whole 1 (slot t 1)) _ (stage_whole 2 (slot t 2))
    _ (stage_whole 3 (slot t 3)) _ (stage_whole 4 (slot t 4)) _ (stage_whole 5 (slot t 5)) c (conds t) ((dat W c).before 4 t d4) ((dat W c).before 5 t d5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  rw [show low (tabIn W c) (vecIn W c t) (lenIn W c t) (rowIn W c) = lowAt W c t from rfl, tot_step]
  isplitl [HΦ]; · iexact HΦ
  isplitl [Howes]; · iexact Howes
  isplitl [H0]; · iapply (holds_owns c (stage_whole 0 (slot t 0)) (tabIn W c)); iexact H0
  isplitl [H1]; · iapply (holds_owns c (stage_whole 1 (slot t 1)) (vecIn W c t)); iexact H1
  isplitl [H2]; · iapply (holds_owns c (stage_whole 2 (slot t 2)) (lenIn W c t)); iexact H2
  isplitl [H3]; · iapply (holds_owns c (stage_whole 3 (slot t 3)) (rowIn W c)); iexact H3
  isplitl [H4]; · iapply (holds_owns c (stage_whole 4 (slot t 4)) (numAt W c t)); iexact H4
  iapply (holds_owns c (stage_whole 5 (slot t 5)) (totAt W c t.val)); iexact H5

/-! ## The region -/

theorem cellOf_inj : Function.Injective (cellOf (nD := nD) (τ := τ) cfgs) := by decide

theorem launch : Pipeline.LaunchFacts (nD := nD) (τ := τ) cfgs 0 where
  cellOf_inj := cellOf_inj
  win := winFacts
  block_pos := block_pos
  arr_whole := arr_whole
  stage_whole := stage_whole

abbrev adm (q : Fin 1) : (pcfgs (F := F) q).Adm := (cfgs q).toPCfg_adm

def pdats : (p : Fin 1) → (c : Dev nD) → Dat τ (Elt F) (HIx 1) ℕ UU ℕ (Pipeline.pin (pcfgs (F := F)) adm p) c
  | ⟨0, _⟩ => fun c => dat W c

/-- The arrays' contents after the call: the numbers and the total at what the blocks wrote. -/
def Wout (c : Dev nD) : Valuation τ sig (Elt F) :=
  Function.update (Function.update (W c) (Proc.devRef .tc (arrRef spec0 4)) ((dat W c).arrAt 4 cfg0.N)) (Proc.devRef .tc (arrRef spec0 5)) ((dat W c).arrAt 5 cfg0.N)

/-- What the core owes over the call, its waits bounded as at launch. -/
abbrev startOwes (c : Dev nD) : sProp 𝕄 := iprop(∃ R, ⌜(K (F := F)).WBelow (T c) R 0⌝ ∗ owes (T c : Thread nD τ) ((K (F := F)).Otc c 0) R)

theorem held_in (c : Dev nD) : ((pdats W 0 c).arrays ((pdats W 0 c).arrAt · 0) : sProp 𝕄) = StableHlo.held (c.tc : Thread nD τ) (arrRefs spec0) (W c) :=
  Pipeline.arrays_held (pcfgs (F := F)) adm (pdats W) 0 launch.toP c ((pdats W 0 c).share_full fun _ => rfl) _ (W c) fun _ => rfl

theorem held_out (c : Dev nD) :
    ((pdats W 0 c).arrays ((pdats W 0 c).arrAt · (Pipeline.pin (pcfgs (F := F)) adm 0).N) : sProp 𝕄) = StableHlo.held (c.tc : Thread nD τ) (arrRefs spec0) (Wout W c) := by
  refine Pipeline.arrays_held (pcfgs (F := F)) adm (pdats W) 0 launch.toP c ((pdats W 0 c).share_full fun _ => rfl) _ (Wout W c) fun w => ?_
  have hi : ∀ v : Fin 6, (cfg0.win v).isOut = false → Proc.devRef (τ := τ) .tc (arrRef spec0 v) ≠ Proc.devRef .tc (arrRef spec0 4) ∧ Proc.devRef (τ := τ) .tc (arrRef spec0 v) ≠ Proc.devRef .tc (arrRef spec0 5) := by decide
  have hin : ∀ v : Fin 6, (cfg0.win v).isOut = false → (dat W c).arrAt v cfg0.N = Wout W c (Proc.devRef .tc (arrRef spec0 v)) := fun v hv => by
    unfold Wout
    rw [Function.update_of_ne (hi v hv).2, Function.update_of_ne (hi v hv).1]
    exact (dat W c).arrAt_in v hv _
  match w with
  | 0 => exact hin 0 rfl
  | 1 => exact hin 1 rfl
  | 2 => exact hin 2 rfl
  | 3 => exact hin 3 rfl
  | 4 =>
    show (dat W c).arrAt 4 cfg0.N = Wout W c (Proc.devRef .tc (arrRef spec0 4))
    unfold Wout
    rw [Function.update_of_ne (by decide), Function.update_self]
  | 5 =>
    show (dat W c).arrAt 5 cfg0.N = Wout W c (Proc.devRef .tc (arrRef spec0 5))
    unfold Wout
    rw [Function.update_self]

set_option backward.isDefEq.respectTransparency.types false in
def reg : Pipeline.RegionSeg (pcfgs (F := F)) adm (pdats W) (none : HIx 1) (defs₀ (F := F)) 𝒱₀ (K (F := F)).L (K (F := F)).lev 0 where
  win := winFacts.to₀
  block_pos := block_pos
  stage_whole := stage_whole
  K := PEmpty
  osem k := k.elim
  ho := Pipeline.OwnSemFacts.none _
  hbody c := (body_obligation W c).loose
  hwaits c := Pipeline.cellsWaits_of_cut (Pipeline.pin (pcfgs (F := F)) adm) (pdats W) (none : HIx 1) 0 c 0 ((K (F := F)).Otc c 0) (fun _ => rfl)
    (fun _ _ => Finset.mem_univ _) (fun _ _ => le_refl _)
    fun _ _ h => ⟨Finset.mem_univ _, SparseCore.Cfg.lev_of_Otc_pos h⟩
  pre c := iprop(StableHlo.held (c.tc : Thread nD τ) (arrRefs spec0) (W c) ∗ startOwes c)
  post c := iprop(StableHlo.held (c.tc : Thread nD τ) (arrRefs spec0) (Wout W c) ∗ startOwes c)
  X _ := BI.emp
  Y _ := BI.emp
  Z _ := BI.emp
  hentry c := by
    rw [Pipeline.ownSems0_none, Pipeline.prefHeld_of_none _ rfl, held_in]
    iintro ⟨⟨Ha, HO⟩, -, -⟩
    imodintro
    isplitl [Ha]; · iexact Ha
    isplitr; · iempintro
    isplitl [HO]
    · icases HO with ⟨%R, %hR, HO⟩
      iexists R
      isplitr; · ipureintro; exact fun p hp => Or.inl (hR p hp)
      iexact HO
    isplitr <;> iempintro
  hin c := by
    rw [show (pdats W 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats W 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    rw [held_out]
    iintro ⟨Ha, ⟨%R, %hR, HO⟩, -, -⟩
    imodintro
    isplitl [Ha]; · iexact Ha
    iexists R
    isplitr
    · ipureintro
      intro p hp
      rcases hR hp with h | ⟨w, s, rfl⟩
      · exact h
      · exact le_refl _
    iexact HO

end Cert.Proof.Whole

end
-- ==== Proof.WholeMain.lean ====
/-
  The whole kernel's run: @main's squared lengths and scaled table, the search's call, its numbers handed to the SparseCore
  call that fetches their rows, the first 64 columns of those rows, and the mean of the total. Every array's final contents are named.
-/
module

public import proofs.«01_k».proof.Proof.WholeLaunch
public import proofs.«01_k».proof.Proof.WholeRegion

@[expose] public section

set_option Elab.async false

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (arrRef arrRefs cellsGhost toksInit)

variable {F : FTy → Type}

local notation "𝕄" => MT nD τ sig (HIx 1) (Elt F) ℕ UU ℕ

/-! ## The call's arrays over the tiles -/

/-- An array's whole share deals out to the tiles' shares. -/
theorem deal {ℓ : Loc nD τ sig} (f : Buf (Elt F) ℓ) :
    (ℓ ↦{fullShare} f : sProp 𝕄) ⊢ bigSep Finset.univ fun c : Fin (grid1.bound 0) => bigSep Finset.univ fun i : Fin (grid1.bound 1) => ℓ ↦{sh (coords c i)} f := by
  refine (Transfers.pointsTo_toks fullShare 32).1.trans (sep_elim_right.trans (Entails.of_eq ?_))
  rw [bigSep_univ_equiv (finProdFinEquiv : Fin 2 × Fin 16 ≃ Fin (2 * 16)), bigSep_univ_prod]
  rfl

/-- The tile's number from its place, and its blocks among all. -/
theorem wid_coords (c : Fin (grid1.bound 0)) (i : Fin (grid1.bound 1)) : wid (coords c i) = i.val + 16 * c.val := rfl

theorem blocks_spec (L : grid1.Coords) : (wid L < 8 ∧ base L = 3 * wid L ∧ nB L = 3) ∨ (8 ≤ wid L ∧ base L = 2 * wid L + 8 ∧ nB L = 2) := by
  unfold base nB
  by_cases h : wid L < 8
  · left; simp [h]
  · right; simp [h]; omega

/-- The rows a tile writes. -/
def tileRows (L : grid1.Coords) : Finset S18432x128.Idx := (Finset.range (nB L)).biUnion fun j => oRowSet (base L + j)

theorem mem_tileRows (L : grid1.Coords) (x : S18432x128.Idx) : x ∈ tileRows L ↔ base L ≤ (x 0).val / 256 ∧ (x 0).val / 256 < base L + nB L := by
  simp only [tileRows, Finset.mem_biUnion, Finset.mem_range, oRowSet, Finset.mem_filter, Finset.mem_univ, true_and]
  constructor
  · rintro ⟨j, hj, h⟩; omega
  · rintro ⟨h1, h2⟩; exact ⟨(x 0).val / 256 - base L, by omega, by omega⟩

theorem outBlocks_rows (d : Dev nD) (L : grid1.Coords) (f : S18432x128.Idx → Elt F .f32) :
    (outBlocks d L f : sProp 𝕄) = iprop(oLoc d ↦[tileRows L]{fullShare} f) := by
  unfold outBlocks tileRows
  refine (pointsTo_biUnion (Finset.range (nB L)) (ℓ := oLoc d) (fun j => oRowSet (base L + j)) ?_).symm
  intro i _ j _ h
  simp only [oRowSet, Finset.disjoint_filter]
  intro x _ hx; omega

theorem tiles_disjoint : ∀ p ∈ (Finset.univ : Finset (Fin (grid1.bound 0) × Fin (grid1.bound 1))), ∀ q ∈ (Finset.univ : Finset (Fin (grid1.bound 0) × Fin (grid1.bound 1))),
    p ≠ q → Disjoint (tileRows (coords p.1 p.2)) (tileRows (coords q.1 q.2)) := by
  rintro ⟨c, i⟩ - ⟨c', i'⟩ - hne
  rw [Finset.disjoint_left]
  intro x hx hy
  rw [mem_tileRows] at hx hy
  refine hne ?_
  have hc : c.val < 2 := c.isLt
  have hc' : c'.val < 2 := c'.isLt
  have hi : i.val < 16 := i.isLt
  have hi' : i'.val < 16 := i'.isLt
  have key : i.val + 16 * c.val = i'.val + 16 * c'.val := by
    have h1 := blocks_spec (coords c i)
    have h2 := blocks_spec (coords c' i')
    rw [wid_coords] at h1 h2
    dsimp only at hx hy
    rcases h1 with ⟨h1, e1, n1⟩ | ⟨h1, e1, n1⟩ <;> rcases h2 with ⟨h2, e2, n2⟩ | ⟨h2, e2, n2⟩ <;> rw [e1, n1] at hx <;> rw [e2, n2] at hy <;> omega
  exact Prod.ext (Fin.ext (show c.val = c'.val by omega)) (Fin.ext (show i.val = i'.val by omega))

theorem tiles_cover : (Finset.univ : Finset (Fin (grid1.bound 0) × Fin (grid1.bound 1))).biUnion (fun p => tileRows (coords p.1 p.2)) = Finset.univ := by
  ext x
  simp only [Finset.mem_biUnion, Finset.mem_univ, true_and, iff_true]
  have hx : (x 0).val < 18432 := (x 0).isLt
  have hb : (x 0).val / 256 < 72 := by omega
  generalize hn : (x 0).val / 256 = b at hb
  have hw : (if b < 24 then b / 3 else (b - 8) / 2) < 32 := by split <;> omega
  generalize hwd : (if b < 24 then b / 3 else (b - 8) / 2) = w at hw
  refine ⟨(⟨w / 16, show w / 16 < 2 by omega⟩, ⟨w % 16, show w % 16 < 16 by omega⟩), ?_⟩
  rw [mem_tileRows, hn]
  have h1 := blocks_spec (coords ⟨w / 16, show w / 16 < 2 by omega⟩ ⟨w % 16, show w % 16 < 16 by omega⟩)
  rw [wid_coords] at h1
  dsimp only at h1 ⊢
  rcases h1 with ⟨h1, e1, n1⟩ | ⟨h1, e1, n1⟩ <;> rw [e1, n1] <;> split at hwd <;> omega

/-- The output is its tiles' blocks. -/
theorem out_tiles (d : Dev nD) (f : S18432x128.Idx → Elt F .f32) :
    (oLoc d ↦{fullShare} f : sProp 𝕄) = bigSep Finset.univ fun c : Fin (grid1.bound 0) => bigSep Finset.univ fun i : Fin (grid1.bound 1) => outBlocks d (coords c i) f := by
  rw [show (oLoc d ↦{fullShare} f : sProp 𝕄) = oLoc d ↦[(Finset.univ : Finset (Fin (grid1.bound 0) × Fin (grid1.bound 1))).biUnion (fun p => tileRows (coords p.1 p.2))]{fullShare} f
      from by rw [tiles_cover],
    pointsTo_biUnion Finset.univ (ℓ := oLoc d) (fun p : Fin (grid1.bound 0) × Fin (grid1.bound 1) => tileRows (coords p.1 p.2)) tiles_disjoint, bigSep_univ_prod]
  simp only [outBlocks_rows]

section Call

variable (tab : Dev nD → S1024x128.Idx → Elt F .f32) (idx : Dev nD → S1x18432.Idx → BitVec 32) (o₀ : Dev nD → S18432x128.Idx → Elt F .f32)

/-- The call's arrays are what its tiles are handed. -/
theorem call_in (d : Dev nD) :
    (iprop((eLoc d ↦{fullShare} tab d) ∗ (iLoc d ↦{fullShare} idx d) ∗ (oLoc d ↦{fullShare} o₀ d)) : sProp 𝕄)
      ⊢ bigSep Finset.univ fun c : Fin ((K (F := F)).nCore 0) => (P tab idx o₀).st 0 d c := by
  show _ ⊢ bigSep Finset.univ fun c : Fin (grid1.bound 0) => bigSep Finset.univ fun i : Fin (grid1.bound 1) => given tab idx o₀ d (coords c i)
  unfold given
  simp only [bigSep_sep']
  exact BI.sep_mono (deal (ℓ := eLoc d) (tab d)) (BI.sep_mono (deal (ℓ := iLoc d) (idx d)) (Entails.of_eq (out_tiles d (o₀ d))))

/-- What the tiles bring back is the output, at the gathered rows. -/
theorem call_out (d : Dev nD) :
    (bigSep Finset.univ fun c : Fin ((K (F := F)).nCore 0) => (P tab idx o₀).dn 0 d c)
      ⊢ (iprop(oLoc d ↦{fullShare} G (tab d) (idx d)) : sProp 𝕄) :=
  Entails.of_eq (out_tiles d (G (tab d) (idx d))).symm

end Call

/-! ## The launch -/

variable [FloatOps F]

theorem bigSep_emp' {I : Type} (s : Finset I) : (bigSep s fun _ => iprop(emp)) = (iprop(emp) : sProp 𝕄) := bigSep_emp_const s

/-- The search's staging cells, pairwise distinct. -/
theorem pin_inj : Function.Injective (Pipeline.cellOf (nD := nD) (τ := τ) (Pipeline.pin (pcfgs (F := F)) adm)) := (launch.toP (Val := Elt F)).cellOf_inj adm

/-- The launch element: the SparseCore call's protocol and the search's. -/
def u₀ : UU := (initOf (K (F := F)).hsCells (K (F := F)).hsToks, (initOf (Pipeline.cells (nD := nD) (τ := τ) (Pipeline.pin (pcfgs (F := F)) adm) pin_inj) (Pipeline.launchToks (nD := nD) (τ := τ) (Pipeline.pin (pcfgs (F := F)) adm) pin_inj), 1))

/-- What a device's search starts with. -/
abbrev ghost (d : Dev nD) : sProp 𝕄 := iprop(cellsGhost (Pipeline.pin (pcfgs (F := F)) adm) EP 0 d ∗ toksInit (Pipeline.pin (pcfgs (F := F)) adm) EP 0 d)

theorem own_EP (x : UP) : (BI.own (((Emb.inl : Emb UP (UP × Counters)).trans (embR : Emb (UP × Counters) 𝕄)) x) : sProp 𝕄) ⊢ BI.own (EP x) := .rfl

theorem hu₀ (tab : Dev nD → S1024x128.Idx → Elt F .f32) (idx : Dev nD → S1x18432.Idx → BitVec 32) (o₀ : Dev nD → S18432x128.Idx → Elt F .f32) :
    (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P tab idx o₀).x q thr) := by
  unfold u₀
  iintro Hu
  ihave H := (ownU_pair (initOf (K (F := F)).hsCells (K (F := F)).hsToks) _) $$ Hu
  icases H with ⟨HH, HR⟩
  ihave HR := (own_pair_emb embR _ (1 : Counters)) $$ HR
  icases HR with ⟨HP, -⟩
  ihave HP := (own_EP _) $$ HP
  ihave HP := (Pipeline.fund_ghost (Pipeline.pin (pcfgs (F := F)) adm) EP pin_inj) $$ HP
  imod HP
  icases HP with ⟨HC, HT⟩
  imodintro
  isplitl [HH]; · iexact HH
  isplitl [HC HT]
  · unfold ghost
    rw [bigSep_sep']
    simp only [bigSep_univ_of_subsingleton (0 : Fin 1)]
    isplitl [HC] <;> iassumption
  rw [show (bigSep Finset.univ fun thr : Thread nD τ => bigSep Finset.univ fun q : Fin 1 => (P tab idx o₀).x q thr) = bigSep Finset.univ fun _ => iprop(emp) from
    bigSep_congr fun _ _ => bigSep_univ_of_subsingleton (0 : Fin 1), bigSep_emp']
  iempintro

/-! ## @main -/

/-- The operations before the search, between it and the SparseCore call, and after that. -/
abbrev opsPre : List (HloOp τ sig (Elt F)) := [
  StableHlo.binary main_arg0 main_arg0 main_v0 (mulf : (⟨S18432x64, .f32⟩ : BufTy).Contents (Elt F) → (⟨S18432x64, .f32⟩ : BufTy).Contents (Elt F) → (⟨S18432x64, .f32⟩ : BufTy).Contents (Elt F)),
  StableHlo.nullary main_cst (constant S_ .f32 0x00000000#32),
  StableHlo.binary main_v0 main_cst main_v1 ((fun x v => Host.reduceAdd x v reducesTo_S18432x64_S18432_d1 h_S_) : (⟨S18432x64, .f32⟩ : BufTy).Contents (Elt F) → (⟨S_, .f32⟩ : BufTy).Contents (Elt F) → (⟨S18432, .f32⟩ : BufTy).Contents (Elt F)),
  StableHlo.unary main_v1 main_v2 (broadcastInDim S1x18432 ![1] bcast_S18432_S1x18432_1 : (⟨S18432, .f32⟩ : BufTy).Contents (Elt F) → (⟨S1x18432, .f32⟩ : BufTy).Contents (Elt F)),
  StableHlo.binary main_arg1 main_arg1 main_v3 (mulf : (⟨S1024x64, .f32⟩ : BufTy).Contents (Elt F) → (⟨S1024x64, .f32⟩ : BufTy).Contents (Elt F) → (⟨S1024x64, .f32⟩ : BufTy).Contents (Elt F)),
  StableHlo.nullary main_cst_0 (constant S_ .f32 0x00000000#32),
  StableHlo.binary main_v3 main_cst_0 main_v4 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
  StableHlo.unary main_v4 main_v5 (broadcastInDim S1024x1 ![0] bcast_S1024_S1024x1_0 : (⟨S1024, .f32⟩ : BufTy).Contents (Elt F) → (⟨S1024x1, .f32⟩ : BufTy).Contents (Elt F)),
  StableHlo.unary main_arg0 main_v6 ((transpose S64x18432 [1, 0] · transposes_S18432x64_S64x18432_1_0) : (⟨S18432x64, .f32⟩ : BufTy).Contents (Elt F) → (⟨S64x18432, .f32⟩ : BufTy).Contents (Elt F)),
  StableHlo.nullary main_cst_1 (constant S_ .f32 0xC0000000#32),
  StableHlo.unary main_cst_1 main_v7 (broadcastInDim S1024x64 ![] bcast_S_S1024x64 : (⟨S_, .f32⟩ : BufTy).Contents (Elt F) → (⟨S1024x64, .f32⟩ : BufTy).Contents (Elt F)),
  StableHlo.binary main_v7 main_arg1 main_v8 (mulf : (⟨S1024x64, .f32⟩ : BufTy).Contents (Elt F) → (⟨S1024x64, .f32⟩ : BufTy).Contents (Elt F) → (⟨S1024x64, .f32⟩ : BufTy).Contents (Elt F)),
  StableHlo.nullary main_cst_2 (constant S_ .f32 0x00000000#32),
  StableHlo.unary main_cst_2 main_v9 (broadcastInDim S1024x64 ![] bcast_S_S1024x64 : (⟨S_, .f32⟩ : BufTy).Contents (Elt F) → (⟨S1024x64, .f32⟩ : BufTy).Contents (Elt F)),
  StableHlo.binary main_arg1 main_v9 main_v10 ((fun a b => concatenate S1024x128 1 [⟨S1024x64, a⟩, ⟨S1024x64, b⟩] concatenates_S1024x64_S1024x64_S1024x128_d1) : (⟨S1024x64, .f32⟩ : BufTy).Contents (Elt F) → (⟨S1024x64, .f32⟩ : BufTy).Contents (Elt F) → (⟨S1024x128, .f32⟩ : BufTy).Contents (Elt F))]
abbrev opsMid : List (HloOp τ sig (Elt F)) := [
  StableHlo.reshape main_v11_0 main_v12 (rfl : (.i32 : EltTy) = .i32) shapeCasts_S6x1x3072_S18432,
  StableHlo.reshape main_v12 main_v13 (rfl : (.i32 : EltTy) = .i32) shapeCasts_S18432_S1x18432]
abbrev opsPost : List (HloOp τ sig (Elt F)) := [
  StableHlo.unary main_v14 main_v15 ((extractStridedSlice S18432x64 ![0, 0] · slices_S18432x128_S18432x64_0_0) : (⟨S18432x128, .f32⟩ : BufTy).Contents (Elt F) → (⟨S18432x64, .f32⟩ : BufTy).Contents (Elt F)),
  StableHlo.reshape main_v11_1 main_v16 (rfl : (.f32 : EltTy) = .f32) shapeCasts_S1x1_S_,
  StableHlo.nullary main_cst_3 (constant S_ .f32 0x49900000#32),
  StableHlo.binary main_v16 main_cst_3 main_v17 (Host.divf : (⟨S_, .f32⟩ : BufTy).Contents (Elt F) → (⟨S_, .f32⟩ : BufTy).Contents (Elt F) → (⟨S_, .f32⟩ : BufTy).Contents (Elt F))]

/-- The search, called. -/
abbrev callSearch : Prog (TpuEff nD τ sig (Elt F) (SparseCore.Sig (ΛP (F := F)) 1) .tc) PUnit := Prog.lift (.customCall (SparseCore.inner (Pipeline.entry 0)) ())

theorem main_eq (d : Dev nD) : main (F := F) d = StableHlo.seq opsPre >>= fun _ => (callSearch >>= fun _ => StableHlo.seq opsMid >>= fun _ =>
    ((K (F := F)).run d 0 >>= fun _ => StableHlo.seq opsPost >>= fun _ => pure ⟨⟩)) := rfl

abbrev dr (r : Ref sig .tc) : DevRef τ sig := Proc.devRef .tc r

/-- @main's arrays. -/
abbrev SA : Finset (DevRef τ sig) := {dr main_arg0, dr main_arg1, dr main_v0, dr main_cst, dr main_v1, dr main_v2, dr main_v3, dr main_cst_0, dr main_v4, dr main_v5, dr main_v6, dr main_cst_1, dr main_v7, dr main_v8, dr main_cst_2, dr main_v9, dr main_v10, dr main_v11_0, dr main_v12, dr main_v13, dr main_v14, dr main_v15, dr main_v11_1, dr main_v16, dr main_cst_3, dr main_v17}
/-- The SparseCore call's. -/
abbrev S3 : Finset (DevRef τ sig) := {dr main_v10, dr main_v13, dr main_v14}
/-- All but its table and list, which it keeps. -/
abbrev SB : Finset (DevRef τ sig) := {dr main_arg0, dr main_arg1, dr main_v0, dr main_cst, dr main_v1, dr main_v2, dr main_v3, dr main_cst_0, dr main_v4, dr main_v5, dr main_v6, dr main_cst_1, dr main_v7, dr main_v8, dr main_cst_2, dr main_v9, dr main_v11_0, dr main_v12, dr main_v14, dr main_v15, dr main_v11_1, dr main_v16, dr main_cst_3, dr main_v17}

variable [∀ e, Nonempty (Elt F e)]
variable (m : (ℓ : Loc nD τ sig) → Buf (Elt F) ℓ) (ρ : Dev nD → PrngReg)

/-- The arrays' contents at launch, before the search, after it, before the SparseCore call, after it, and at the end. -/
def V0 (d : Dev nD) : Valuation τ sig (Elt F) := fun b => m (d, b)
def V1 (d : Dev nD) : Valuation τ sig (Elt F) := StableHlo.after opsPre (V0 m d)
def V2 (d : Dev nD) : Valuation τ sig (Elt F) := Wout (V1 m) d
def V3 (d : Dev nD) : Valuation τ sig (Elt F) := StableHlo.after opsMid (V2 m d)
abbrev tab (d : Dev nD) : S1024x128.Idx → Elt F .f32 := V3 m d (dr main_v10)
abbrev idx (d : Dev nD) : S1x18432.Idx → BitVec 32 := V3 m d (dr main_v13)
abbrev out₀ (d : Dev nD) : S18432x128.Idx → Elt F .f32 := V3 m d (dr main_v14)
def V4 (d : Dev nD) : Valuation τ sig (Elt F) := Function.update (V3 m d) (dr main_v14) (G (tab m d) (idx m d))
def V5 (d : Dev nD) : Valuation τ sig (Elt F) := StableHlo.after opsPost (V4 m d)

theorem held_S3 (d : Dev nD) (W : Valuation τ sig (Elt F)) :
    (StableHlo.held (T d) S3 W : sProp 𝕄) = iprop((eLoc d ↦{fullShare} W (dr main_v10)) ∗ (iLoc d ↦{fullShare} W (dr main_v13)) ∗ (oLoc d ↦{fullShare} W (dr main_v14))) := by
  unfold StableHlo.held S3
  rw [SparseCore.bigSep_insert' (by decide), SparseCore.bigSep_insert' (by decide), bigSep_singleton]

set_option maxHeartbeats 4000000 in
theorem unscoped_held (d : Dev nD) : (unscopedBufs d (fun b => m ((SparseCore.T d).loc b)) : sProp 𝕄) = StableHlo.held (T d) SA (V0 m d) := by
  unfold unscopedBufs StableHlo.held SA
  rw [show (Finset.univ.filter fun b : Ref sig .tc => ¬ b.isScoped) = {main_arg0, main_arg1, main_v0, main_cst, main_v1, main_v2, main_v3, main_cst_0, main_v4, main_v5, main_v6, main_cst_1, main_v7, main_v8, main_cst_2, main_v9, main_v10, main_v11_0, main_v12, main_v13, main_v14, main_v15, main_v11_1, main_v16, main_cst_3, main_v17} by decide]
  repeat rw [SparseCore.bigSep_insert' (by decide)]
  rw [bigSep_singleton]
  repeat rw [SparseCore.bigSep_insert' (by decide)]
  rw [bigSep_singleton]
  rfl

theorem S3_sub : S3 ⊆ SA := by decide
theorem search_sub : arrRefs spec0 ⊆ SA := by decide

/-- Before the search: its arrays, and the rest, -/
theorem held_search (d : Dev nD) : (StableHlo.held (T d) SA (V1 m d) : sProp 𝕄)
    = iprop(StableHlo.held (T d) (arrRefs spec0) (V1 m d) ∗ StableHlo.held (T d) (SA \ arrRefs spec0) (V1 m d)) :=
  StableHlo.held_sub_split (T d) search_sub _
/-- and after it. -/
theorem held_searched (d : Dev nD) : (iprop(StableHlo.held (T d) (arrRefs spec0) (V2 m d) ∗ StableHlo.held (T d) (SA \ arrRefs spec0) (V1 m d)) : sProp 𝕄)
    = StableHlo.held (T d) SA (V2 m d) := by
  rw [StableHlo.held_sub_split (T d) search_sub (V2 m d)]
  refine congrArg₂ _ rfl (StableHlo.held_congr (T d) fun b hb => ?_)
  have hn : ∀ w, Proc.devRef .tc (arrRef spec0 w) ≠ b := fun w h => (Finset.mem_sdiff.mp hb).2 (h ▸ Finset.mem_map.mpr ⟨_, Finset.mem_image.mpr ⟨w, Finset.mem_univ _, rfl⟩, rfl⟩)
  unfold V2 Wout
  rw [Function.update_of_ne (hn 5).symm, Function.update_of_ne (hn 4).symm]

/-- Before the SparseCore call: its three arrays, and the rest. -/
theorem held_before (d : Dev nD) : (StableHlo.held (T d) SA (V3 m d) : sProp 𝕄)
    = iprop(((eLoc d ↦{fullShare} tab m d) ∗ (iLoc d ↦{fullShare} idx m d) ∗ (oLoc d ↦{fullShare} out₀ m d)) ∗ StableHlo.held (T d) (SA \ S3) (V3 m d)) := by
  rw [StableHlo.held_sub_split (T d) S3_sub, held_S3]

/-- After it: the output and the rest, as @main's arrays but for the table and the list. -/
theorem held_after (d : Dev nD) :
    (iprop((oLoc d ↦{fullShare} G (tab m d) (idx m d)) ∗ StableHlo.held (T d) (SA \ S3) (V3 m d)) : sProp 𝕄) = StableHlo.held (T d) SB (V4 m d) := by
  rw [StableHlo.held_sub_split (T d) (show ({dr main_v14} : Finset (DevRef τ sig)) ⊆ SB by decide) (V4 m d)]
  refine congrArg₂ _ ?_ ?_
  · unfold StableHlo.held
    rw [bigSep_singleton, show V4 m d (dr main_v14) = G (tab m d) (idx m d) from Function.update_self _ _ _]
  · rw [show SA \ S3 = SB \ {dr main_v14} by decide]
    refine StableHlo.held_congr (T d) fun b hb => (Function.update_of_ne ?_ _ _).symm
    rintro rfl
    exact absurd hb (by decide)

theorem pre_bufs : ∀ op ∈ opsPre (F := F), op.bufs ⊆ SA :=
  List.forall_mem_cons.mpr ⟨show ({dr main_arg0, dr main_arg0, dr main_v0} : Finset (DevRef τ sig)) ⊆ SA by decide,
  List.forall_mem_cons.mpr ⟨show ({dr main_cst} : Finset (DevRef τ sig)) ⊆ SA by decide,
  List.forall_mem_cons.mpr ⟨show ({dr main_v0, dr main_cst, dr main_v1} : Finset (DevRef τ sig)) ⊆ SA by decide,
  List.forall_mem_cons.mpr ⟨show ({dr main_v1, dr main_v2} : Finset (DevRef τ sig)) ⊆ SA by decide,
  List.forall_mem_cons.mpr ⟨show ({dr main_arg1, dr main_arg1, dr main_v3} : Finset (DevRef τ sig)) ⊆ SA by decide,
  List.forall_mem_cons.mpr ⟨show ({dr main_cst_0} : Finset (DevRef τ sig)) ⊆ SA by decide,
  List.forall_mem_cons.mpr ⟨show ({dr main_v3, dr main_cst_0, dr main_v4} : Finset (DevRef τ sig)) ⊆ SA by decide,
  List.forall_mem_cons.mpr ⟨show ({dr main_v4, dr main_v5} : Finset (DevRef τ sig)) ⊆ SA by decide,
  List.forall_mem_cons.mpr ⟨show ({dr main_arg0, dr main_v6} : Finset (DevRef τ sig)) ⊆ SA by decide,
  List.forall_mem_cons.mpr ⟨show ({dr main_cst_1} : Finset (DevRef τ sig)) ⊆ SA by decide,
  List.forall_mem_cons.mpr ⟨show ({dr main_cst_1, dr main_v7} : Finset (DevRef τ sig)) ⊆ SA by decide,
  List.forall_mem_cons.mpr ⟨show ({dr main_v7, dr main_arg1, dr main_v8} : Finset (DevRef τ sig)) ⊆ SA by decide,
  List.forall_mem_cons.mpr ⟨show ({dr main_cst_2} : Finset (DevRef τ sig)) ⊆ SA by decide,
  List.forall_mem_cons.mpr ⟨show ({dr main_cst_2, dr main_v9} : Finset (DevRef τ sig)) ⊆ SA by decide,
  List.forall_mem_cons.mpr ⟨show ({dr main_arg1, dr main_v9, dr main_v10} : Finset (DevRef τ sig)) ⊆ SA by decide,
  List.forall_mem_nil _⟩⟩⟩⟩⟩⟩⟩⟩⟩⟩⟩⟩⟩⟩⟩
theorem pre_fresh : ∀ op ∈ opsPre (F := F), op.fresh = ∅ :=
  List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_nil _⟩⟩⟩⟩⟩⟩⟩⟩⟩⟩⟩⟩⟩⟩⟩
theorem mid_bufs : ∀ op ∈ opsMid (F := F), op.bufs ⊆ SA :=
  List.forall_mem_cons.mpr ⟨show ({dr main_v11_0, dr main_v12} : Finset (DevRef τ sig)) ⊆ SA by decide,
  List.forall_mem_cons.mpr ⟨show ({dr main_v12, dr main_v13} : Finset (DevRef τ sig)) ⊆ SA by decide,
  List.forall_mem_nil _⟩⟩
theorem mid_fresh : ∀ op ∈ opsMid (F := F), op.fresh = ∅ :=
  List.forall_mem_cons.mpr ⟨rfl, List.forall_mem_cons.mpr ⟨rfl, List.forall_mem_nil _⟩⟩
theorem post_bufs : ∀ op ∈ opsPost (F := F), op.bufs ⊆ SB :=
  List.forall_mem_cons.mpr ⟨show ({dr main_v14, dr main_v15} : Finset (DevRef τ sig)) ⊆ SB by decide,
  List.forall_mem_cons.mpr ⟨show ({dr main_v11_1, dr main_v16} : Finset (DevRef τ sig)) ⊆ SB by decide,
  List.forall_mem_cons.mpr ⟨show ({dr main_cst_3} : Finset (DevRef τ sig)) ⊆ SB by decide,
  List.forall_mem_cons.mpr ⟨show ({dr main_v16, dr main_cst_3, dr main_v17} : Finset (DevRef τ sig)) ⊆ SB by decide,
  List.forall_mem_nil _⟩⟩⟩⟩
theorem post_fresh : ∀ op ∈ opsPost (F := F), op.fresh = ∅ :=
  List.forall_mem_cons.mpr ⟨rfl, List.forall_mem_cons.mpr ⟨rfl, List.forall_mem_cons.mpr ⟨rfl, List.forall_mem_cons.mpr ⟨rfl, List.forall_mem_nil _⟩⟩⟩⟩

/-- The TensorCore's state opens at what it owes. -/
theorem tcSt_owing (d : Dev nD) : ((K (F := F)).tcSt EH d 0 : sProp 𝕄) ⊢ iprop(startOwes d ∗ (startOwes d -∗ (K (F := F)).tcSt EH d 0)) := by
  unfold SparseCore.Cfg.tcSt
  iintro ⟨HO, Hrest⟩
  isplitl [HO]; · iexact HO
  iintro HO
  isplitl [HO]; · iexact HO
  iexact Hrest

/-- The search's call among the pipelines' labels. -/
abbrev innerSearch : Prog (TpuEff nD τ sig (Elt F) (ΛP (F := F)) .tc) PUnit := .op (.customCall (Pipeline.entry 0) ()) .ret

theorem lift_search (d : Dev nD) (Φ : PUnit → sProp 𝕄) : wp frame (wpE (D (F := F)) 𝒱 (SparseCore.T d) none) Set.univ innerSearch Φ
    ⊢ wp frame (wpE ((K (F := F)).defs (D (F := F))) 𝒱 (SparseCore.T d) none) Set.univ callSearch Φ := by
  have h := (K (F := F)).wp_liftProg (D (F := F)) 𝒱 (SparseCore.T d) Set.univ none innerSearch Φ
  rwa [show SparseCore.liftProg innerSearch = callSearch (F := F) from rfl] at h

/-- The search's call, from the arrays at `V1` to the arrays at `V2`. -/
theorem search_run (κ : GSem nD τ sig → ℕ) (d : Dev nD) (Φ : PUnit → sProp 𝕄) :
    iprop((K (F := F)).ctx EH (P (tab m) (idx m) (out₀ m)) κ ∗ boundary (d.tc : Thread nD τ) ∗ StableHlo.held (d.tc : Thread nD τ) (arrRefs spec0) (V1 m d)
        ∗ (K (F := F)).tcSt EH d 0 ∗ ghost d
        ∗ (iprop(boundary (d.tc : Thread nD τ) ∗ StableHlo.held (d.tc : Thread nD τ) (arrRefs spec0) (V2 m d) ∗ (K (F := F)).tcSt EH d 0) -∗ Φ ⟨⟩))
      ⊢ wp frame (wpE ((K (F := F)).defs (D (F := F))) 𝒱 (SparseCore.T d) none) Set.univ callSearch Φ := by
  have hr := Pipeline.RegionSeg.wp (pcfgs (F := F)) adm (pdats (V1 m)) none pin_inj EP defs₀ 𝒱₀ (K (F := F)).L (K (F := F)).lev (reg (V1 m)) d none
    (fun _ h => nomatch h) .ret Φ
  iintro ⟨Hctx, Hb, Hheld, Hst, ⟨HC, HT⟩, Hk⟩
  iapply (lift_search d Φ)
  iapply hr
  ihave Hlev := (SparseCore.Cfg.ctx_levAts κ) $$ Hctx
  ihave Hst := (tcSt_owing d) $$ Hst
  icases Hst with ⟨HO, Hst⟩
  isplitl [Hk Hst]
  · iintro ⟨Hb, HO⟩
    ihave HO := (show (reg (V1 m)).post d ⊢ iprop(StableHlo.held (d.tc : Thread nD τ) (arrRefs spec0) (V2 m d) ∗ startOwes d) from .rfl) $$ HO
    icases HO with ⟨Hheld, HO⟩
    rw [wp_ret]
    imodintro
    iapply Hk
    isplitl [Hb]; · iexact Hb
    isplitl [Hheld]; · iexact Hheld
    iapply Hst; iexact HO
  isplitl [Hb]; · iexact Hb
  isplitl [Hheld HO]
  · iapply (show iprop(StableHlo.held (d.tc : Thread nD τ) (arrRefs spec0) (V1 m d) ∗ startOwes d) ⊢ (reg (V1 m)).pre d from .rfl)
    isplitl [Hheld] <;> iassumption
  isplitl [Hlev]; · iexact Hlev
  isplitl [HC] <;> iassumption

/-- What @main leaves: its arguments and its results, among the arrays it ends with. -/
abbrev FIN (d : Dev nD) : sProp 𝕄 := StableHlo.held (T d) SB (V5 m d)

theorem hmain (κ : GSem nD τ sig → ℕ) (d : Dev nD) :
    iprop((K (F := F)).ctx EH (P (tab m) (idx m) (out₀ m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, Hg⟩
  iapply (StableHlo.wp_seq 𝒱 none Set.univ d SA _ opsPre pre_bufs pre_fresh (V0 m d)) $$ [Hb Hheld]
  · isplitl [Hb] <;> iassumption
  iintro ⟨Hb, Hheld⟩
  ihave Hheld := (show (StableHlo.held (d.tc : Thread nD τ) SA (StableHlo.after opsPre (V0 m d)) : sProp 𝕄) ⊢ StableHlo.held (T d) SA (V1 m d) from .rfl) $$ Hheld
  ihave Hheld := (Entails.of_eq (held_search m d)) $$ Hheld
  icases Hheld with ⟨Harr, Hrest⟩
  rw [wp_bind]
  iapply (search_run m κ d)
  isplitr; · iexact Hctx
  isplitl [Hb]; · iexact Hb
  isplitl [Harr]; · iexact Harr
  isplitl [Hst]; · iexact Hst
  isplitl [Hg]; · iexact Hg
  iintro ⟨Hb, Harr, Hst⟩
  ihave Hheld := (Entails.of_eq (held_searched m d)) $$ [Harr Hrest]
  · isplitl [Harr] <;> iassumption
  iapply (StableHlo.wp_seq 𝒱 none Set.univ d SA _ opsMid mid_bufs mid_fresh (V2 m d)) $$ [Hb Hheld]
  · isplitl [Hb] <;> iassumption
  iintro ⟨Hb, Hheld⟩
  ihave Hheld := (show (StableHlo.held (d.tc : Thread nD τ) SA (StableHlo.after opsMid (V2 m d)) : sProp 𝕄) ⊢ StableHlo.held (T d) SA (V3 m d) from .rfl) $$ Hheld
  ihave Hheld := (Entails.of_eq (held_before m d)) $$ Hheld
  icases Hheld with ⟨H3, Hrest⟩
  ihave H3 := (call_in (tab m) (idx m) (out₀ m) d) $$ H3
  rw [wp_bind]
  iapply ((K (F := F)).wp_run (D (F := F)) 𝒱 (EH := EH) (P := P (tab m) (idx m) (out₀ m)) κ d 0) $$ [Hst H3 Hb Hrest Hts]
  isplitr; · iexact Hctx
  isplitl [Hst]; · iexact Hst
  isplitl [H3]; · iexact H3
  iintro ⟨Hst, Hdn⟩
  ihave Ho := (call_out (tab m) (idx m) (out₀ m) d) $$ Hdn
  ihave Hheld := (Entails.of_eq (held_after m d)) $$ [Ho Hrest]
  · isplitl [Ho] <;> iassumption
  iapply (StableHlo.wp_seq 𝒱 none Set.univ d SB _ opsPost post_bufs post_fresh (V4 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-- What is read of a device's final memory. -/
abbrev reads : List (Ref sig .tc) := [main_arg0, main_arg1, main_v15, main_v12, main_v17]
def fq (d : Dev nD) (s' : Phys nD τ sig (Elt F)) : Prop := ∀ r ∈ reads, s'.mem.mem (d, dr r) = V5 m d (dr r)

theorem agree (d : Dev nD) (s' : Phys nD τ sig (Elt F)) (r : DevRef τ sig) (hr : r ∈ SB) :
    (iprop(FIN m d ∗ SI s') : sProp 𝕄) ⊢ ⌜s'.mem.mem (d, r) = V5 m d r⌝ := by
  unfold FIN
  rw [StableHlo.held_sub_split (T d) (show ({r} : Finset (DevRef τ sig)) ⊆ SB from Finset.singleton_subset_iff.mpr hr) (V5 m d)]
  unfold StableHlo.held
  rw [bigSep_singleton]
  iintro ⟨⟨H, -⟩, HSI⟩
  ihave H := (SI_pointsTo_agree (st := s') (ℓ := (d, r)) (I := Finset.univ) (q := fullShare) (f := V5 m d r)) $$ [HSI H]
  · isplitl [HSI] <;> iassumption
  icases H with %h
  ipureintro; exact funext fun i => h i (Finset.mem_univ i)

theorem agree_all (d : Dev nD) (s' : Phys nD τ sig (Elt F)) : ∀ l : List (Ref sig .tc), (∀ r ∈ l, dr r ∈ SB) →
    ((iprop(FIN m d ∗ SI s') : sProp 𝕄) ⊢ ⌜∀ r ∈ l, s'.mem.mem (d, dr r) = V5 m d (dr r)⌝)
  | [], _ => by iintro -; ipureintro; exact fun _ h => nomatch h
  | r :: l, h => by
    iintro H
    ihave H := (persistent_entails_right (agree m d s' (dr r) (h r (List.mem_cons_self ..)))) $$ H
    icases H with ⟨%h0, H⟩
    ihave H := (agree_all d s' l fun r' hr => h r' (List.mem_cons_of_mem _ hr)) $$ H
    icases H with %h1
    ipureintro; exact List.forall_mem_cons.mpr ⟨h0, h1⟩

theorem hfin (d : Dev nD) (s' : Phys nD τ sig (Elt F)) : iprop(FIN m d ∗ SI s') ⊢ (⌜fq m d s'⌝ : sProp 𝕄) :=
  agree_all m d s' reads (by decide)

/-- The run: the arguments and the results end at `V5`, no semaphore left raised. -/
def QC : PUnit × MemSt nD τ sig (Elt F) → Prop := fun r =>
  (∀ d : Dev nD, ∀ b ∈ reads, r.2.mem (d, dr b) = V5 m d (dr b)) ∧ r.2.sem = fun _ => 0

theorem run_main (hidx : ∀ d j, (idx m d j).toNat < 1024) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab m) (idx m) (out₀ m)) (A := ∅) facts v₀
    (fun q hq => match q with | 0 => nomatch hq)
    (fun q _ => match q with | 0 => tileObl hidx)
    (fun q _ => match q with | 0 => SparseCore.Cfg.VecSplit.of_plain (vecSplit (tab m) (idx m) (out₀ m)))
    m ρ main (fun d => ghost d) (FIN m) (u₀ (F := F)) (sep_elim_left.trans (hu₀ (tab m) (idx m) (out₀ m))) (hmain m ρ) (fq m) (hfin m) (QC m) (fun _ h hz => ⟨h, hz⟩)

end Cert.Proof.Whole

end
-- ==== Proof.WholeIdeal.lean ====
/-
  The search over the extended reals: the least distance of a vector is the minimum over the 1024 rows, and the number found
  is that of the first row whose root is the least's. Such a row always exists, so the number is one of the table's rows.
-/
module

public import proofs.«01_k».proof.Proof.WholeSearch
public import Idealize.ShloMosaic.Lib.ValueLayout
public import Idealize.ShloMosaic.PureOps.Ideal.Laws
public import Idealize.ShloMosaic.Lib.Pipeline.Value

@[expose] public section

set_option Elab.async false

noncomputable section

namespace Cert.Proof.Whole

open Cert.KernelIdeal Cert.KernelIdeal.Gen
open Idealize.ShloMosaic
open Idealize.ShloMosaic.ValueIdx (ix1 ix2 ix3)

/-! ## Folding by the lower of each two -/

theorem cut_apply {α : Type} {m k : ℕ} (o : ℕ) (y : (⟨2, ![m, 3072]⟩ : Shape).Idx → α) (h : (⟨2, ![m, 3072]⟩ : Shape).Slices ![o, 0] ⟨2, ![k, 3072]⟩)
    (r : Fin k) (c : Fin 3072) (r' : Fin m) (hr : r'.val = o + r.val) :
    extractStridedSlice ⟨2, ![k, 3072]⟩ ![o, 0] y h (ix2 r c) = y (ix2 r' c) :=
  extractStridedSlice_apply _ _ _ _ _ fun a => match a with | ⟨0, _⟩ => hr | ⟨1, _⟩ => (Nat.zero_add _).symm

/-- The lower of the two halves is bounded below by what bounds all rows. -/
theorem le_half {m k : ℕ} (hm : m = k + k) (y : FVec Ideal ⟨2, ![m, 3072]⟩ .f32) (h0 : (⟨2, ![m, 3072]⟩ : Shape).Slices ![0, 0] ⟨2, ![k, 3072]⟩)
    (h1 : (⟨2, ![m, 3072]⟩ : Shape).Slices ![k, 0] ⟨2, ![k, 3072]⟩) (c : Fin 3072) (a : EReal) :
    (∀ r : Fin k, a ≤ minimumf (extractStridedSlice ⟨2, ![k, 3072]⟩ ![0, 0] y h0) (extractStridedSlice ⟨2, ![k, 3072]⟩ ![k, 0] y h1) (ix2 r c))
      ↔ ∀ r : Fin m, a ≤ y (ix2 r c) := by
  have key : ∀ r : Fin k, minimumf (extractStridedSlice ⟨2, ![k, 3072]⟩ ![0, 0] y h0) (extractStridedSlice ⟨2, ![k, 3072]⟩ ![k, 0] y h1) (ix2 r c)
      = min (y (ix2 ⟨r.val, by omega⟩ c) : EReal) (y (ix2 ⟨k + r.val, by omega⟩ c)) := fun r =>
    congrArg₂ (fun p q : EReal => min p q) (cut_apply 0 y h0 r c _ (Nat.zero_add _).symm) (cut_apply k y h1 r c _ rfl)
  constructor
  · intro h r
    by_cases hr : r.val < k
    · exact (le_min_iff.1 ((h ⟨r.val, hr⟩).trans_eq (key _))).1
    · have := (le_min_iff.1 ((h ⟨r.val - k, by omega⟩).trans_eq (key _))).2
      rwa [show (⟨k + (r.val - k), by omega⟩ : Fin m) = r from Fin.ext (by show k + (r.val - k) = r.val; omega)] at this
  · intro h r
    exact (le_min (h _) (h _)).trans_eq (key r).symm

theorem le_fold8 (y : FVec Ideal S8x3072 .f32) (c : Fin 3072) (a : EReal) :
    a ≤ fold8 y (ix2 0 c) ↔ ∀ r : Fin 8, a ≤ y (ix2 r c) := by
  rw [← le_half (m := 8) (k := 4) rfl y slices_S8x3072_o0_0_S4x3072 slices_S8x3072_o4_0_S4x3072 c a,
    ← le_half (m := 4) (k := 2) rfl _ slices_S4x3072_o0_0_S2x3072 slices_S4x3072_o2_0_S2x3072 c a,
    ← le_half (m := 2) (k := 1) rfl _ slices_S2x3072_o0_0_S1x3072 slices_S2x3072_o1_0_S1x3072 c a]
  exact ⟨fun h r => by obtain rfl : r = 0 := Subsingleton.elim _ _; exact h, fun h => h 0⟩

/-- A running minimum, at an entry. -/
theorem le_foldl {s : Shape} {β : Type} (f : β → FVec Ideal s .f32) (i : s.Idx) (a : EReal) :
    ∀ (l : List β) (acc : FVec Ideal s .f32), a ≤ (l.foldl (fun b p => minimumf b (f p)) acc) i ↔ a ≤ acc i ∧ ∀ p ∈ l, a ≤ f p i
  | [], acc => by simp
  | p :: l, acc => by
    rw [List.foldl_cons, le_foldl f i a l]
    show a ≤ min (acc i : EReal) (f p i) ∧ _ ↔ _
    rw [le_min_iff, List.forall_mem_cons, and_assoc]

/-! ## The groups -/

/-- Row `r` of group `j`. -/
def rowOf (j : Fin 128) (r : Fin 8) : Fin 1024 := ⟨8 * j.val + r.val, by omega⟩

theorem rowOf_surj (k : Fin 1024) : ∃ j r, k = rowOf j r :=
  ⟨⟨k.val / 8, by omega⟩, ⟨k.val % 8, by omega⟩, Fin.ext (show k.val = 8 * (k.val / 8) + k.val % 8 by omega)⟩

theorem group_apply (x : FVec Ideal S1024x3072 .f32) (j : Fin 128) (r : Fin 8) (c : Fin 3072) :
    group x j (ix2 r c) = x (ix2 (rowOf j r) c) :=
  cut_apply (8 * j.val) x (slices_group j) r c (rowOf j r) rfl

theorem groups_fst : groups.map (·.1) = List.finRange 128 := by decide
theorem groups_cons : groups = (0, 0x00000000#32) :: groups.tail := rfl

theorem forall_groups {P : Fin 128 → Prop} : (∀ p ∈ groups, P p.1) ↔ ∀ j, P j := by
  have h : (∀ j ∈ groups.map (·.1), P j) ↔ ∀ p ∈ groups, P p.1 := by simp only [List.forall_mem_map]
  rw [← h, groups_fst]
  simp

theorem le_least (x : FVec Ideal S1024x3072 .f32) (c : Fin 3072) (a : EReal) :
    a ≤ least x (ix2 0 c) ↔ ∀ k : Fin 1024, a ≤ x (ix2 k c) := by
  unfold least
  rw [le_fold8]
  have h : ∀ r : Fin 8, a ≤ (groups.tail.foldl (fun a p => minimumf a (group x p.1)) (group x 0)) (ix2 r c) ↔ ∀ j : Fin 128, a ≤ x (ix2 (rowOf j r) c) := by
    intro r
    rw [le_foldl (fun p : Fin 128 × BitVec 32 => group x p.1), ← forall_groups (P := fun j => a ≤ x (ix2 (rowOf j r) c)), groups_cons, List.forall_mem_cons]
    simp only [group_apply]
    rfl
  exact ⟨fun hh k => by obtain ⟨j, r, rfl⟩ := rowOf_surj k; exact (h r).1 (hh r) j, fun hh r => (h r).2 fun j => hh _⟩

/-- The least is the infimum, -/
theorem least_apply (x : FVec Ideal S1024x3072 .f32) (c : Fin 3072) : (least x (ix2 0 c) : EReal) = ⨅ k : Fin 1024, (x (ix2 k c) : EReal) :=
  eq_of_forall_le_iff fun a => by rw [le_least, le_iInf_iff]

/-- and some row attains it. -/
theorem least_attained (x : FVec Ideal S1024x3072 .f32) (c : Fin 3072) : ∃ k : Fin 1024, least x (ix2 0 c) = x (ix2 k c) := by
  obtain ⟨k, hk⟩ := exists_eq_ciInf_of_finite (f := fun k : Fin 1024 => (x (ix2 k c) : EReal))
  exact ⟨k, (least_apply x c).trans hk.symm⟩

/-! ## The number found -/

/-- The kernel's root of one number. -/
def rootE (v : EReal) : EReal := if v = 0 then 0 else v * Ideal.rsqrt v

theorem root_apply {s : Shape} (x : FVec Ideal s .f32) (i : s.Idx) : root x i = rootE (x i) := by
  show Scalar.select (Ideal.cmp .oeq (x i : EReal) (Ideal.ofBits .f32 0x00000000#32)) (Ideal.ofBits .f32 0x00000000#32) ((x i : EReal) * Ideal.rsqrt (x i)) = _
  rw [Ideal.ofBits_zero_f32]
  unfold rootE Scalar.select Ideal.cmp
  by_cases h : (x i : EReal) = 0 <;> simp [h]

/-- A normal single with no sign: its value is its significand scaled. -/
theorem value_of_word {b : BitVec 32} {n : ℕ} (hs : b.extractLsb' 31 1 = 0#1) (he : (b.extractLsb' 23 8).toNat ≠ 255 ∧ (b.extractLsb' 23 8).toNat ≠ 0 ∧ (b.extractLsb' 23 8).toNat ≤ 150)
    (hn : 2 ^ 23 + (b.extractLsb' 0 23).toNat = n * 2 ^ (150 - (b.extractLsb' 23 8).toNat)) : Ideal.ofBits .f32 b = ((n : ℝ) : EReal) := by
  show Ideal.ieee 8 23 b = _
  unfold Ideal.ieee
  rw [if_neg (by simpa using he.1), if_neg he.2.1]
  refine congrArg _ ?_
  have hneg : (b.extractLsb' (8 + 23) 1 == 1#1) = false := by rw [show 8 + 23 = 31 from rfl, hs]; rfl
  rw [hneg, hn]
  generalize hq : (b.extractLsb' 23 8).toNat = q at he
  obtain ⟨d, hd⟩ : ∃ d, q + d = 150 := ⟨150 - q, by omega⟩
  rw [show 150 - q = d by omega, show ((q : ℤ) - (2 ^ (8 - 1) - 1) - (23 : ℕ)) = -(d : ℤ) by push_cast; norm_num; omega]
  rw [zpow_neg, zpow_natCast]
  push_cast
  simp

theorem groups_words : ∀ p ∈ groups.tail, (p.2.extractLsb' 31 1 = 0#1 ∧ ((p.2.extractLsb' 23 8).toNat ≠ 255 ∧ (p.2.extractLsb' 23 8).toNat ≠ 0 ∧ (p.2.extractLsb' 23 8).toNat ≤ 150)
    ∧ 2 ^ 23 + (p.2.extractLsb' 0 23).toNat = (8 * p.1.val) * 2 ^ (150 - (p.2.extractLsb' 23 8).toNat)) := by decide +kernel

theorem groups_value : ∀ p ∈ groups, Ideal.ofBits .f32 p.2 = (((8 * p.1.val : ℕ) : ℝ) : EReal) := by
  rw [groups_cons, List.forall_mem_cons]
  refine ⟨by rw [Ideal.ofBits_zero_f32]; simp, fun p hp => ?_⟩
  obtain ⟨h1, h2, h3⟩ := groups_words p hp
  exact value_of_word h1 h2 h3

theorem value_1024 : Ideal.ofBits .f32 0x44800000#32 = (((1024 : ℕ) : ℝ) : EReal) := value_of_word (by decide) (by decide) (by decide)

theorem rows_apply (r : Fin 8) (c : Fin 3072) : (k0_pay12 (F := Ideal) (ix2 r c) : EReal) = ((r.val : ℝ) : EReal) := by
  show (((BitVec.ofNat 32 (0 * 8 + r.val) : BitVec 32).toInt : ℝ) : EReal) = _
  rw [zero_mul, zero_add]
  rw [show (BitVec.ofNat 32 (r.val) : BitVec 32).toInt = (r.val : ℤ) from by revert r; decide]
  push_cast; rfl

/-- The second pass before its conversion to an integer. -/
def found (x : FVec Ideal S1024x3072 .f32) (s : FVec Ideal S1x3072 .f32) : FVec Ideal S1x3072 .f32 :=
  fold8 (groups.foldl (step x s k0_pay12) (broadcast S8x3072 (Scalar.ofBits .f32 0x44800000#32)))

theorem bcast_row (s : FVec Ideal S1x3072 .f32) (r : Fin 8) (c : Fin 3072) : broadcastTo S8x3072 s broadcasts_S1x3072_S8x3072 (ix2 r c) = s (ix2 0 c) :=
  broadcastTo_apply _ _ _ _ fun a => match a with | ⟨0, _⟩ => rfl | ⟨1, _⟩ => rfl

theorem le_found (x : FVec Ideal S1024x3072 .f32) (s : FVec Ideal S1x3072 .f32) (c : Fin 3072) (a : EReal) :
    a ≤ found x s (ix2 0 c) ↔ a ≤ ((1024 : ℕ) : ℝ) ∧ ∀ k : Fin 1024, rootE (x (ix2 k c)) = s (ix2 0 c) → a ≤ ((k.val : ℝ) : EReal) := by
  unfold found
  rw [le_fold8]
  have h : ∀ r : Fin 8, a ≤ (groups.foldl (step x s k0_pay12) (broadcast S8x3072 (Scalar.ofBits .f32 0x44800000#32))) (ix2 r c)
      ↔ a ≤ ((1024 : ℕ) : ℝ) ∧ ∀ j : Fin 128, rootE (x (ix2 (rowOf j r) c)) = s (ix2 0 c) → a ≤ (((rowOf j r).val : ℝ) : EReal) := by
    intro r
    have e : (broadcast S8x3072 (Scalar.ofBits .f32 0x44800000#32) : FVec Ideal S8x3072 .f32) (ix2 r c) = (((1024 : ℕ) : ℝ) : EReal) := value_1024
    unfold step
    rw [le_foldl (fun p : Fin 128 × BitVec 32 => select (cmpf .oeq (root (group x p.1)) (broadcastTo S8x3072 s broadcasts_S1x3072_S8x3072))
      (addf k0_pay12 (broadcast S8x3072 (Scalar.ofBits .f32 p.2))) (broadcast S8x3072 (Scalar.ofBits .f32 0x44800000#32))), e,
      ← forall_groups (P := fun j => rootE (x (ix2 (rowOf j r) c)) = s (ix2 0 c) → a ≤ (((rowOf j r).val : ℝ) : EReal))]
    refine and_congr_right fun ha => forall₂_congr fun p hp => ?_
    have hsel : (select (cmpf .oeq (root (group x p.1)) (broadcastTo S8x3072 s broadcasts_S1x3072_S8x3072))
        (addf k0_pay12 (broadcast S8x3072 (Scalar.ofBits .f32 p.2))) (broadcast S8x3072 (Scalar.ofBits .f32 0x44800000#32)) : FVec Ideal S8x3072 .f32) (ix2 r c)
        = if rootE (x (ix2 (rowOf p.1 r) c)) = s (ix2 0 c) then (((rowOf p.1 r).val : ℝ) : EReal) else (((1024 : ℕ) : ℝ) : EReal) := by
      show Scalar.select (Ideal.cmp .oeq (root (group x p.1) (ix2 r c)) (broadcastTo S8x3072 s broadcasts_S1x3072_S8x3072 (ix2 r c)))
        ((k0_pay12 (F := Ideal) (ix2 r c) : EReal) + Ideal.ofBits .f32 p.2) (Ideal.ofBits .f32 0x44800000#32) = _
      rw [root_apply, group_apply, bcast_row, value_1024, rows_apply, groups_value p hp]
      unfold Scalar.select Ideal.cmp
      rw [show ((r.val : ℝ) : EReal) + (((8 * p.1.val : ℕ) : ℝ) : EReal) = (((rowOf p.1 r).val : ℝ) : EReal) from by
        rw [← EReal.coe_add]; refine congrArg _ ?_; show _ = ((8 * p.1.val + r.val : ℕ) : ℝ); push_cast; ring]
      by_cases hh : rootE (x (ix2 (rowOf p.1 r) c)) = s (ix2 0 c) <;> simp [hh]
    rw [hsel]
    by_cases hh : rootE (x (ix2 (rowOf p.1 r) c)) = s (ix2 0 c)
    · rw [if_pos hh]; exact ⟨fun z _ => z, fun z => z hh⟩
    · rw [if_neg hh]; exact ⟨fun _ z => absurd z hh, fun _ => ha⟩
  constructor
  · intro hh
    refine ⟨((h 0).1 (hh 0)).1, fun k => ?_⟩
    obtain ⟨j, r, rfl⟩ := rowOf_surj k
    exact ((h r).1 (hh r)).2 j
  · exact fun hh r => (h r).2 ⟨hh.1, fun j => hh.2 _⟩

/-- A natural number converted is itself. -/
theorem fptosi_nat (n : ℕ) (hn : n < 2 ^ 31) : Ideal.fptosi 32 ((n : ℝ) : EReal) = BitVec.ofNat 32 n := by
  unfold Ideal.fptosi
  rw [Ideal.toIntClamped_coe, if_pos (Nat.cast_nonneg n), Int.floor_natCast]
  rw [min_eq_right (by norm_num <;> omega), max_eq_right (by norm_num <;> omega)]
  exact BitVec.ofInt_natCast ..

theorem first_apply (x : FVec Ideal S1024x3072 .f32) (s : FVec Ideal S1x3072 .f32) (c : Fin 3072) :
    first x s k0_pay12 (ix3 0 0 c) = Ideal.fptosi 32 (found x s (ix2 0 c)) :=
  ValueIdx.shapeCast_ab_1ab_apply (a := 1) (b := 3072) _ shapeCasts_S1x3072_S1x1x3072 0 0 c

/-- The first row whose root is `s`, where there is one. -/
theorem first_found (x : FVec Ideal S1024x3072 .f32) (s : FVec Ideal S1x3072 .f32) (c : Fin 3072) (k : Fin 1024)
    (hk : rootE (x (ix2 k c)) = s (ix2 0 c)) (hlt : ∀ k' < k, rootE (x (ix2 k' c)) ≠ s (ix2 0 c)) :
    first x s k0_pay12 (ix3 0 0 c) = BitVec.ofNat 32 k.val := by
  have e : (found x s (ix2 0 c) : EReal) = ((k.val : ℝ) : EReal) := eq_of_forall_le_iff fun a => by
    rw [le_found]
    refine ⟨fun h => h.2 k hk, fun h => ⟨h.trans (by exact_mod_cast k.isLt.le), fun k' hk' => h.trans ?_⟩⟩
    have : k ≤ k' := not_lt.1 fun hh => hlt k' hh hk'
    exact_mod_cast this
  rw [first_apply, e]
  exact fptosi_nat _ (by omega)

section
variable (A : FVec Ideal S1024x64 .f32) (B : FVec Ideal S64x3072 .f32) (C : FVec Ideal S1x3072 .f32) (D' : FVec Ideal S1024x1 .f32)

/-- The number found at a vector: the first row whose root of the distance is the root of the least. -/
theorem num_spec (c : Fin 3072) : ∃ k : Fin 1024, num A B C D' (ix3 0 0 c) = BitVec.ofNat 32 k.val
    ∧ rootE (dist A B C D' (ix2 k c)) = rootE (low A B C D' (ix2 0 c))
    ∧ ∀ k' < k, rootE (dist A B C D' (ix2 k' c)) ≠ rootE (low A B C D' (ix2 0 c)) := by
  classical
  have hex : ∃ k : Fin 1024, rootE (dist A B C D' (ix2 k c)) = rootE (low A B C D' (ix2 0 c)) := by
    obtain ⟨k, hk⟩ := least_attained (dist A B C D') c
    exact ⟨k, congrArg rootE hk.symm⟩
  obtain ⟨k, hk, hlt⟩ : ∃ k : Fin 1024, rootE (dist A B C D' (ix2 k c)) = rootE (low A B C D' (ix2 0 c))
      ∧ ∀ k' < k, rootE (dist A B C D' (ix2 k' c)) ≠ rootE (low A B C D' (ix2 0 c)) := by
    obtain ⟨k, hk, hmin⟩ := WellFounded.has_min (wellFounded_lt (α := Fin 1024)) {k | rootE (dist A B C D' (ix2 k c)) = rootE (low A B C D' (ix2 0 c))} hex
    exact ⟨k, hk, fun k' hk' e => hmin k' e hk'⟩
  refine ⟨k, ?_, hk, hlt⟩
  refine first_found (dist A B C D') (root (low A B C D')) c k ?_ fun k' hk' => ?_
  · rw [root_apply]; exact hk
  · rw [root_apply]; exact hlt k' hk'

theorem num_lt (c : Fin 3072) : (num A B C D' (ix3 0 0 c)).toNat < 1024 := by
  obtain ⟨k, hk, -⟩ := num_spec A B C D' c
  rw [hk, BitVec.toNat_ofNat]
  omega
end

end Cert.Proof.Whole

end
-- ==== Proof.WholeValue.lean ====
/-
  What the whole kernel leaves in its arrays, entry by entry: the row numbers are the search's, block by block; a row of the
  result is the table's row its number names; and the mean is the total of the least distances divided by the number of entries.
-/
module

public import proofs.«01_k».proof.Proof.WholeMain
public import proofs.«01_k».proof.Proof.WholeIdeal
public import Idealize.ShloMosaic.Lib.Pipeline.ValueKit.Geometry
public import Idealize.ShloMosaic.Lib.Routing.Ops

@[expose] public section

set_option Elab.async false

noncomputable section

namespace Cert.Proof.Whole

open Cert.KernelIdeal Cert.KernelIdeal.Gen
open Idealize.ShloMosaic Idealize.ShloMosaic.StableHlo Idealize.SL.Sem
open Idealize.ShloMosaic.Pipeline (Window arrRef)
open Idealize.ShloMosaic.ValueIdx (ix1 ix2 ix3)

variable {F : FTy → Type} [FloatOps F]

/-! ## The blocks of the search's arrays -/

section Blocks
variable (W : Dev nD → Valuation τ sig (Elt F)) (c : Dev nD)

theorem index_vec : ∀ t : Fin cfg0.N, (cfg0.win 1).index t 0 = 0 ∧ (cfg0.win 1).index t 1 = t.val := by decide
theorem index_len : ∀ t : Fin cfg0.N, (cfg0.win 2).index t 0 = 0 ∧ (cfg0.win 2).index t 1 = t.val := by decide
theorem index_num : ∀ t : Fin cfg0.N, (cfg0.win 4).index t 0 = t.val ∧ (cfg0.win 4).index t 1 = 0 ∧ (cfg0.win 4).index t 2 = 0 := by decide
theorem index_tab : (cfg0.win 0).index pt0 0 = 0 ∧ (cfg0.win 0).index pt0 1 = 0 := by decide
theorem index_row : (cfg0.win 3).index pt0 0 = 0 ∧ (cfg0.win 3).index pt0 1 = 0 := by decide

/-- Vector `j` of block `t` among all. -/
def vec (t : Fin cfg0.N) (j : Fin 3072) : Fin 18432 := ⟨3072 * t.val + j.val, by have : t.val < 6 := points ▸ t.isLt; omega⟩

theorem vecIn_apply (t : Fin cfg0.N) (k : Fin 64) (j : Fin 3072) : vecIn W c t (ix2 k j) = W c (dr main_v6) (ix2 k (vec t j)) := by
  refine (View.read_apply _ _).trans ((cast_eq _ _).trans ?_)
  refine congrArg (W c (dr main_v6)) (funext fun a => Fin.ext ?_)
  refine (Window.rect_emb_val (cfg0.win 1) t (ix2 k j) a).trans ?_
  match a with
  | ⟨0, _⟩ => show (cfg0.win 1).index t 0 * 64 + k.val = k.val; rw [(index_vec t).1]; omega
  | ⟨1, _⟩ => show (cfg0.win 1).index t 1 * 3072 + j.val = 3072 * t.val + j.val; rw [(index_vec t).2]; omega

theorem lenIn_apply (t : Fin cfg0.N) (j : Fin 3072) : lenIn W c t (ix2 0 j) = W c (dr main_v2) (ix2 0 (vec t j)) := by
  refine (View.read_apply _ _).trans ((cast_eq _ _).trans ?_)
  refine congrArg (W c (dr main_v2)) (funext fun a => Fin.ext ?_)
  refine (Window.rect_emb_val (cfg0.win 2) t (ix2 (0 : Fin 1) j) a).trans ?_
  match a with
  | ⟨0, _⟩ => show (cfg0.win 2).index t 0 * 1 + 0 = 0; rw [(index_len t).1]
  | ⟨1, _⟩ => show (cfg0.win 2).index t 1 * 3072 + j.val = 3072 * t.val + j.val; rw [(index_len t).2]; omega

theorem tabIn_eq : tabIn W c = W c (dr main_v8) := by
  funext y
  refine (View.read_apply _ _).trans ((cast_eq _ _).trans ?_)
  refine congrArg (W c (dr main_v8)) (funext fun a => Fin.ext ?_)
  refine (Window.rect_emb_val (cfg0.win 0) pt0 y a).trans ?_
  match a with
  | ⟨0, _⟩ => show (cfg0.win 0).index pt0 0 * 1024 + _ = _; rw [index_tab.1]; exact Nat.zero_add _
  | ⟨1, _⟩ => show (cfg0.win 0).index pt0 1 * 64 + _ = _; rw [index_tab.2]; exact Nat.zero_add _

theorem rowIn_eq : rowIn W c = W c (dr main_v5) := by
  funext y
  refine (View.read_apply _ _).trans ((cast_eq _ _).trans ?_)
  refine congrArg (W c (dr main_v5)) (funext fun a => Fin.ext ?_)
  refine (Window.rect_emb_val (cfg0.win 3) pt0 y a).trans ?_
  match a with
  | ⟨0, _⟩ => show (cfg0.win 3).index pt0 0 * 1024 + _ = _; rw [index_row.1]; exact Nat.zero_add _
  | ⟨1, _⟩ => show (cfg0.win 3).index pt0 1 * 1 + _ = _; rw [index_row.2]; exact Nat.zero_add _

variable [∀ e, Nonempty (Elt F e)]

/-- The array of row numbers. -/
def nums : S6x1x3072.Idx → BitVec 32 := fun i => numAt W c ⟨(i 0).val, (i 0).isLt⟩ (ix3 0 0 (i 2))

theorem arr_nums : (dat W c).arrAt 4 cfg0.N = nums W c := by
  refine (dat W c).arrAt_eq_of_covers 4 _ (by decide +kernel) fun t hf y => (cast_eq _ _).trans ?_
  have h0 : ((((cfg0.win 4).blk t).view.emb y) 0).val = t.val := by
    refine (Window.rect_emb_val (cfg0.win 4) t y 0).trans ?_
    have hy : (y 0).val < 1 := (y 0).isLt
    show (cfg0.win 4).index t 0 * 1 + (y 0).val = t.val
    rw [(index_num t).1]; omega
  have h2 : ((((cfg0.win 4).blk t).view.emb y) 2).val = (y 2).val := by
    refine (Window.rect_emb_val (cfg0.win 4) t y 2).trans ?_
    show (cfg0.win 4).index t 2 * 3072 + (y 2).val = (y 2).val
    rw [(index_num t).2.2]; omega
  have e : ∀ (t' : Fin cfg0.N) (x : S1x1x3072.Idx) (j : Fin 3072), t'.val = t.val → (x 2).val = j.val → numAt W c t x = numAt W c t' (ix3 0 0 j) := by
    intro t' x j ht hj
    obtain rfl : t' = t := Fin.ext ht
    refine congrArg (numAt W c t') (funext fun a => Fin.ext ?_)
    match a with
    | ⟨0, _⟩ => have : (x 0).val < 1 := (x 0).isLt; show (x 0).val = 0; omega
    | ⟨1, _⟩ => have : (x 1).val < 1 := (x 1).isLt; show (x 1).val = 0; omega
    | ⟨2, _⟩ => exact hj
  exact e _ _ _ h0 h2.symm

abbrev pt5 : Fin cfg0.N := ⟨5, by decide⟩

theorem arr_total : (dat W c).arrAt 5 cfg0.N = totAt W c 5 :=
  (dat W c).arrAt_eq_of_after_last 5 pt5 (by decide +kernel) (totAt W c 5) fun _ => (cast_eq _ _).trans rfl

end Blocks

/-! ## The arrays about the two calls -/

variable (m : (ℓ : Loc nD τ sig) → Buf (Elt F) ℓ) (d : Dev nD)

theorem tab2_eq : V1 m d (dr main_v8) = mulf (broadcastInDim S1024x64 ![] bcast_S_S1024x64 (constant S_ .f32 0xC0000000#32)) (m (d, dr main_arg1)) := by
  unfold V1
  after_results
  rfl
theorem vecs_eq : V1 m d (dr main_v6) = transpose S64x18432 [1, 0] (m (d, dr main_arg0)) transposes_S18432x64_S64x18432_1_0 := by
  unfold V1
  after_results
  rfl
theorem lens_eq : V1 m d (dr main_v2) = broadcastInDim S1x18432 ![1] bcast_S18432_S1x18432_1
    (Host.reduceAdd (mulf (m (d, dr main_arg0)) (m (d, dr main_arg0))) (constant (F := F) S_ .f32 0x00000000#32) reducesTo_S18432x64_S18432_d1 h_S_) := by
  unfold V1
  after_results
  rfl
theorem rows_eq : V1 m d (dr main_v5) = broadcastInDim S1024x1 ![0] bcast_S1024_S1024x1_0
    (Host.reduceAdd (mulf (m (d, dr main_arg1)) (m (d, dr main_arg1))) (constant (F := F) S_ .f32 0x00000000#32) reducesTo_S1024x64_S1024_d1 h_S_) := by
  unfold V1
  after_results
  rfl

variable [∀ e, Nonempty (Elt F e)]

theorem V2_of_ne {b : DevRef τ sig} (h4 : b ≠ dr main_v11_0) (h5 : b ≠ dr main_v11_1) : V2 m d b = V1 m d b := by
  unfold V2 Wout
  rw [Function.update_of_ne h5, Function.update_of_ne h4]
theorem V2_nums : V2 m d (dr main_v11_0) = nums (V1 m) d := by
  unfold V2 Wout
  rw [Function.update_of_ne (by decide), Function.update_self, arr_nums]
theorem V2_total : V2 m d (dr main_v11_1) = totAt (V1 m) d 5 := by
  unfold V2 Wout
  rw [Function.update_self, arr_total]

theorem tab_eq : tab m d = concatenate S1024x128 1 [⟨S1024x64, m (d, dr main_arg1)⟩,
    ⟨S1024x64, broadcastInDim S1024x64 ![] bcast_S_S1024x64 (constant S_ .f32 0x00000000#32)⟩] concatenates_S1024x64_S1024x64_S1024x128_d1 := by
  unfold tab V3
  after_results
  rw [V2_of_ne m d (by decide) (by decide)]
  unfold V1
  after_results
  rfl

theorem flat_eq : V3 m d (dr main_v12) = shapeCast S18432 (nums (V1 m) d) shapeCasts_S6x1x3072_S18432 := by
  unfold V3
  after_results
  rw [V2_nums]
  rfl
theorem idx_eq : idx m d = shapeCast S1x18432 (shapeCast S18432 (nums (V1 m) d) shapeCasts_S6x1x3072_S18432) shapeCasts_S18432_S1x18432 := by
  unfold idx V3
  after_results
  rw [V2_nums]
  rfl

theorem V5_arg0 : V5 m d (dr main_arg0) = m (d, dr main_arg0) := by
  unfold V5
  after_results
  unfold V4
  rw [Function.update_of_ne (by decide)]
  unfold V3
  after_results
  rw [V2_of_ne m d (by decide) (by decide)]
  unfold V1
  after_results
  rfl
theorem V5_arg1 : V5 m d (dr main_arg1) = m (d, dr main_arg1) := by
  unfold V5
  after_results
  unfold V4
  rw [Function.update_of_ne (by decide)]
  unfold V3
  after_results
  rw [V2_of_ne m d (by decide) (by decide)]
  unfold V1
  after_results
  rfl
theorem V5_nums : V5 m d (dr main_v12) = shapeCast S18432 (nums (V1 m) d) shapeCasts_S6x1x3072_S18432 := by
  unfold V5
  after_results
  unfold V4
  rw [Function.update_of_ne (by decide), flat_eq]
theorem V5_rows : V5 m d (dr main_v15) = extractStridedSlice S18432x64 ![0, 0] (G (tab m d) (idx m d)) slices_S18432x128_S18432x64_0_0 := by
  unfold V5
  after_results
  unfold V4
  rw [Function.update_self]
theorem V5_mean : V5 m d (dr main_v17) = Host.divf (shapeCast S_ (totAt (V1 m) d 5) shapeCasts_S1x1_S_) (constant S_ .f32 0x49900000#32) := by
  unfold V5
  after_results
  unfold V4
  rw [Function.update_of_ne (by decide)]
  unfold V3
  after_results
  rw [V2_total]
  rfl

/-! ## At an entry -/

theorem flat_apply (x : S6x1x3072.Idx → BitVec 32) (t : Fin cfg0.N) (j : Fin 3072) :
    shapeCast S18432 x shapeCasts_S6x1x3072_S18432 (ix1 (vec t j)) = x (ix3 ⟨t.val, t.isLt⟩ 0 j) := by
  refine shapeCast_apply x _ _ _ ?_
  rw [Shape.rowMajor_val_three, Shape.rowMajor_val_one]
  show (t.val * 1 + 0) * 3072 + j.val = 3072 * t.val + j.val
  omega

theorem vec_surj (n : Fin 18432) : ∃ t j, n = vec t j :=
  ⟨⟨n.val / 3072, by rw [points]; omega⟩, ⟨n.val % 3072, by omega⟩, Fin.ext (show n.val = 3072 * (n.val / 3072) + n.val % 3072 by omega)⟩

theorem V5_nums_apply (t : Fin cfg0.N) (j : Fin 3072) : V5 m d (dr main_v12) (ix1 (vec t j)) = numAt (V1 m) d t (ix3 0 0 j) := by
  rw [V5_nums]
  exact flat_apply _ t j

theorem idx_apply (z : Fin 1) (n : Fin 18432) : idx m d (ix2 z n) = V5 m d (dr main_v12) (ix1 n) := by
  rw [idx_eq, V5_nums]
  refine Routing.cast12 (a := 1) (b := 18432) (n := 18432) _ shapeCasts_S18432_S1x18432 z n n ?_
  have := z.isLt
  omega

theorem tab_apply (r : Fin 1024) (c : Fin 64) (c' : Fin 128) (hc : c'.val = c.val) :
    tab m d (ix2 r c') = m (d, dr main_arg1) (ix2 r c) := by
  rw [tab_eq]
  exact concatenate_pair_apply_left (t := S1024x128) (s₁ := S1024x64) (s₂ := S1024x64) 1 _ _ _ (ix2 r c') rfl (ix2 r c) fun b =>
    match b with | ⟨0, _⟩ => rfl | ⟨1, _⟩ => hc.symm

theorem iIx_eq (n : Fin 18432) : iIx n = ix2 (0 : Fin 1) n := funext fun a => match a with | ⟨0, _⟩ => rfl | ⟨1, _⟩ => rfl
theorem eIx_eq (r : Fin 1024) (c : Fin 128) : eIx r c = ix2 r c := funext fun a => match a with | ⟨0, _⟩ => rfl | ⟨1, _⟩ => rfl

/-- A row of the result is the table's row its number names. -/
theorem V5_rows_apply (n : Fin 18432) (c : Fin 64) (k : Fin 1024) (hk : V5 m d (dr main_v12) (ix1 n) = BitVec.ofNat 32 k.val) :
    V5 m d (dr main_v15) (ix2 n c) = m (d, dr main_arg1) (ix2 k c) := by
  rw [V5_rows]
  have hc : c.val < 128 := by have := c.isLt; omega
  refine (extractStridedSlice_apply (s := S18432x128) (t := S18432x64) ![0, 0] _ _ (ix2 n c) (ix2 n ⟨c.val, hc⟩) fun a =>
    match a with | ⟨0, _⟩ => (Nat.zero_add _).symm | ⟨1, _⟩ => (Nat.zero_add _).symm).trans ?_
  show tab m d (eIx ⟨(idx m d (iIx n)).toNat % 1024, _⟩ ⟨c.val, hc⟩) = _
  rw [eIx_eq, tab_apply m d _ c _ rfl]
  refine congrArg (fun r => m (d, dr main_arg1) (ix2 r c)) (Fin.ext ?_)
  show (idx m d (iIx n)).toNat % 1024 = _
  rw [iIx_eq, idx_apply, hk, BitVec.toNat_ofNat]
  have := k.isLt
  omega

/-! ## Over the extended reals the numbers lie in the table -/

section Ideal
variable (m : (ℓ : Loc nD τ sig) → Buf (Elt Ideal) ℓ) (d : Dev nD)

theorem idx_lt (j : S1x18432.Idx) : (idx m d j).toNat < 1024 := by
  obtain ⟨z, n, rfl⟩ : ∃ z n, j = ix2 z n := ⟨j 0, j 1, funext fun a => match a with | ⟨0, _⟩ => rfl | ⟨1, _⟩ => rfl⟩
  obtain ⟨t, j, rfl⟩ := vec_surj n
  rw [idx_apply, V5_nums_apply]
  exact num_lt _ _ _ _ j

/-- So from any memory the kernel runs: the arguments are unchanged, no semaphore is left raised, and the results are `V5`'s. -/
theorem run_ideal (ρ : Dev nD → PrngReg) :
    θ_run (Cert.KernelIdeal.defs (F := Ideal)) (Cert.KernelIdeal.threads (F := Ideal)) ⟨m, fun _ => 0, ρ⟩ fun r =>
      (∀ d : Dev nD, r.2.mem (d, dr main_arg0) = m (d, dr main_arg0) ∧ r.2.mem (d, dr main_arg1) = m (d, dr main_arg1)
        ∧ r.2.mem (d, dr main_v15) = V5 m d (dr main_v15) ∧ r.2.mem (d, dr main_v12) = V5 m d (dr main_v12) ∧ r.2.mem (d, dr main_v17) = V5 m d (dr main_v17))
      ∧ r.2.sem = fun _ => 0 :=
  (θ_run (Cert.KernelIdeal.defs (F := Ideal)) _ _).mono
    (fun _ hr => ⟨fun d => ⟨(hr.1 d _ (by simp)).trans (V5_arg0 m d), (hr.1 d _ (by simp)).trans (V5_arg1 m d), hr.1 d _ (by simp), hr.1 d _ (by simp), hr.1 d _ (by simp)⟩, hr.2⟩)
    (run_main m ρ fun d => idx_lt m d)

end Ideal

end Cert.Proof.Whole

end
-- ==== Proof.WholeRefRun.lean ====
/-
  The reference's run: the distances of all vectors to all rows as one array, the number of each vector's nearest row by
  `argmin` over their square roots, those rows by `jnp.take`, the mean of the squared differences, and the rows passed
  through the vectors.
-/
module

public import proofs.«01_k».proof.Defs
public import Idealize.ShloMosaic.Lib.StableHlo.Run
public import proofs.«01_k».proof.Proof.GatherRefRun
public import proofs.«01_k».proof.Proof.Gen.ReferenceIdeal

@[expose] public section

set_option Elab.async false

noncomputable section

namespace Cert.Proof.WholeRef

open Idealize.ShloMosaic Idealize.ShloMosaic.TcCoe Idealize.ShloMosaic.StableHlo Idealize.SL.Sem
open Cert.ReferenceIdeal Cert.ReferenceIdeal.Gen Cert.ReferenceIdeal.Facts

variable {F : FTy → Type} [FloatOps F]

/-! ## The values in the order they are computed -/

section
variable (z : FVec F S18432x64 .f32) (e : FVec F S1024x64 .f32)

/-- The squared distances, none below zero. -/
def dist2 : FVec F S18432x1024 .f32 :=
  maximumf (addf
      (subf (broadcastInDim S18432x1024 ![0, 1] bcast_S18432x1_S18432x1024_0_1 (broadcastInDim S18432x1 ![0] bcast_S18432_S18432x1_0
          (Host.reduceAdd (mulf z z) (constant (F := F) S_ .f32 0x00000000#32) reducesTo_S18432x64_S18432_d1 h_S_)))
        (mulf (broadcastInDim S18432x1024 ![] bcast_S_S18432x1024 (constant S_ .f32 0x40000000#32))
          (Host.dotGeneral dot_S18432x64_S64x1024_S18432x1024_1_0_0_1_n_n none z (transpose S64x1024 [1, 0] e transposes_S1024x64_S64x1024_1_0))))
      (broadcastInDim S18432x1024 ![0, 1] bcast_S1x1024_S18432x1024_0_1 (broadcastInDim S1x1024 ![1] bcast_S1024_S1x1024_1
        (Host.reduceAdd (mulf e e) (constant (F := F) S_ .f32 0x00000000#32) reducesTo_S1024x64_S1024_d1 h_S_))))
    (broadcastInDim S18432x1024 ![] bcast_S_S18432x1024 (constant S_ .f32 0x00000000#32))

/-- The nearest rows' numbers from the distances. -/
def argmin (x : FVec F S18432x1024 .f32) : IVec S18432 32 := fun j =>
  (Host.argReduce reducer_argmin_f32_i32 x (iotaInDim S18432x1024 32 1) (constant S_ .f32 0x7F800000#32) (constantI S_ 32 0#32)
    reducesTo_S18432x1024_S18432_d1 h_S_ j).2

/-- The mean of the squared differences. -/
def mean (q : FVec F S18432x64 .f32) : FVec F S_ .f32 :=
  Host.divf (Host.reduceAdd (mulf (subf z q) (subf z q)) (constant (F := F) S_ .f32 0x00000000#32) reducesTo_S18432x64_S_d0_1 h_S_) (constant S_ .f32 0x49900000#32)

/-- The vectors plus the whole of their difference to the rows. -/
def through (q : FVec F S18432x64 .f32) : FVec F S18432x64 .f32 :=
  addf z (mulf (broadcastInDim S18432x64 ![] bcast_S_S18432x64 (constant S_ .f32 0x3F800000#32)) (subf q z))

/-- The numbers found, -/
def nearest : IVec S18432 32 := argmin (Host.sqrt (dist2 z e))
/-- and their rows. -/
def picked : FVec F S18432x64 .f32 := GatherRef.taken e (nearest z e)
end

/-! ## The run -/

/-- The distances. -/
abbrev opsDist : List (HloOp τ sig (Elt F)) := [
  binary main_arg0 main_arg0 main_v0 (mulf : FVec F S18432x64 .f32 → FVec F S18432x64 .f32 → FVec F S18432x64 .f32),
  nullary main_cst (constant S_ .f32 0x00000000#32),
  binary main_v0 main_cst main_v1 ((fun x v => Host.reduceAdd x v reducesTo_S18432x64_S18432_d1 h_S_) : FVec F S18432x64 .f32 → FVec F S_ .f32 → FVec F S18432 .f32),
  unary main_v1 main_v2 (broadcastInDim S18432x1 ![0] bcast_S18432_S18432x1_0 : FVec F S18432 .f32 → FVec F S18432x1 .f32),
  unary main_arg1 main_v3 ((transpose S64x1024 [1, 0] · transposes_S1024x64_S64x1024_1_0) : FVec F S1024x64 .f32 → FVec F S64x1024 .f32),
  binary main_arg0 main_v3 main_v4 ((fun l r => Host.dotGeneral dot_S18432x64_S64x1024_S18432x1024_1_0_0_1_n_n none l r) : FVec F S18432x64 .f32 → FVec F S64x1024 .f32 → FVec F S18432x1024 .f32),
  nullary main_cst_0 (constant S_ .f32 0x40000000#32),
  unary main_cst_0 main_v5 (broadcastInDim S18432x1024 ![] bcast_S_S18432x1024 : FVec F S_ .f32 → FVec F S18432x1024 .f32),
  binary main_v5 main_v4 main_v6 (mulf : FVec F S18432x1024 .f32 → FVec F S18432x1024 .f32 → FVec F S18432x1024 .f32),
  unary main_v2 main_v7 (broadcastInDim S18432x1024 ![0, 1] bcast_S18432x1_S18432x1024_0_1 : FVec F S18432x1 .f32 → FVec F S18432x1024 .f32),
  binary main_v7 main_v6 main_v8 (subf : FVec F S18432x1024 .f32 → FVec F S18432x1024 .f32 → FVec F S18432x1024 .f32),
  binary main_arg1 main_arg1 main_v9 (mulf : FVec F S1024x64 .f32 → FVec F S1024x64 .f32 → FVec F S1024x64 .f32),
  nullary main_cst_1 (constant S_ .f32 0x00000000#32),
  binary main_v9 main_cst_1 main_v10 ((fun x v => Host.reduceAdd x v reducesTo_S1024x64_S1024_d1 h_S_) : FVec F S1024x64 .f32 → FVec F S_ .f32 → FVec F S1024 .f32),
  unary main_v10 main_v11 (broadcastInDim S1x1024 ![1] bcast_S1024_S1x1024_1 : FVec F S1024 .f32 → FVec F S1x1024 .f32),
  unary main_v11 main_v12 (broadcastInDim S18432x1024 ![0, 1] bcast_S1x1024_S18432x1024_0_1 : FVec F S1x1024 .f32 → FVec F S18432x1024 .f32),
  binary main_v8 main_v12 main_v13 (addf : FVec F S18432x1024 .f32 → FVec F S18432x1024 .f32 → FVec F S18432x1024 .f32),
  nullary main_cst_2 (constant S_ .f32 0x00000000#32),
  unary main_cst_2 main_v14 (broadcastInDim S18432x1024 ![] bcast_S_S18432x1024 : FVec F S_ .f32 → FVec F S18432x1024 .f32),
  binary main_v13 main_v14 main_v15 (maximumf : FVec F S18432x1024 .f32 → FVec F S18432x1024 .f32 → FVec F S18432x1024 .f32),
  unary main_v15 main_v16 (Host.sqrt : FVec F S18432x1024 .f32 → FVec F S18432x1024 .f32)]

/-- The nearest rows. -/
abbrev opsMin : List (HloOp τ sig (Elt F)) := [
  nullary main_call0_v0 (iotaInDim S18432x1024 32 1),
  nullary main_call0_cst (constant S_ .f32 0x7F800000#32),
  nullary main_call0_c (constantI S_ 32 0#32),
  quaternary main_v16 main_call0_v0 main_call0_cst main_call0_c main_call0_v1_0 ((fun x y u v j => (Host.argReduce reducer_argmin_f32_i32 x y u v reducesTo_S18432x1024_S18432_d1 h_S_ j).1) : FVec F S18432x1024 .f32 → IVec S18432x1024 32 → FVec F S_ .f32 → IVec S_ 32 → FVec F S18432 .f32),
  quaternary main_v16 main_call0_v0 main_call0_cst main_call0_c main_v17 ((fun x y u v j => (Host.argReduce reducer_argmin_f32_i32 x y u v reducesTo_S18432x1024_S18432_d1 h_S_ j).2) : FVec F S18432x1024 .f32 → IVec S18432x1024 32 → FVec F S_ .f32 → IVec S_ 32 → IVec S18432 32)]

/-- The rows taken. -/
abbrev opsTake : List (HloOp τ sig (Elt F)) := [
  nullary main_call1_c (constantI S_ 32 0#32),
  unary main_call1_c main_call1_v0 (broadcastInDim S18432 ![] bcast_S_S18432 : IVec S_ 32 → IVec S18432 32),
  binary main_v17 main_call1_v0 main_call1_v1 (cmpi .slt : IVec S18432 32 → IVec S18432 32 → IVec S18432 1),
  nullary main_call1_c_0 (constantI S_ 32 1024#32),
  unary main_call1_c_0 main_call1_v2 (broadcastInDim S18432 ![] bcast_S_S18432 : IVec S_ 32 → IVec S18432 32),
  binary main_v17 main_call1_v2 main_call1_v3 (addi : IVec S18432 32 → IVec S18432 32 → IVec S18432 32),
  ternary main_call1_v1 main_call1_v3 main_v17 main_call1_v4 (select : IVec S18432 1 → IVec S18432 32 → IVec S18432 32 → IVec S18432 32),
  unary main_call1_v4 main_call1_v5 (broadcastInDim S18432x1 ![0] bcast_S18432_S18432x1_0 : IVec S18432 32 → IVec S18432x1 32),
  nullary main_call1_c_1 (constantI S1 32 1023#32),
  nullary main_call1_c_2 (constantI S_ 32 0#32),
  unary main_call1_c_2 main_call1_v6 (broadcastInDim S18432x1 ![] bcast_S_S18432x1 : IVec S_ 32 → IVec S18432x1 32),
  binary main_call1_v5 main_call1_v6 main_call1_v7 (cmpi .sge : IVec S18432x1 32 → IVec S18432x1 32 → IVec S18432x1 1),
  unary main_call1_c_1 main_call1_v8 (broadcastInDim S1x1 ![1] bcast_S1_S1x1_1 : IVec S1 32 → IVec S1x1 32),
  unary main_call1_v8 main_call1_v9 (broadcastInDim S18432x1 ![0, 1] bcast_S1x1_S18432x1_0_1 : IVec S1x1 32 → IVec S18432x1 32),
  binary main_call1_v5 main_call1_v9 main_call1_v10 (cmpi .sle : IVec S18432x1 32 → IVec S18432x1 32 → IVec S18432x1 1),
  binary main_call1_v7 main_call1_v10 main_call1_v11 (andi : IVec S18432x1 1 → IVec S18432x1 1 → IVec S18432x1 1),
  nullary main_call1_c_3 (constantI S_ 1 1#1),
  binary main_call1_v11 main_call1_c_3 main_call1_v12 ((fun x v => Host.reduce IntOp.andi x v reducesTo_S18432x1_S18432_d1 h_S_) : IVec S18432x1 1 → IVec S_ 1 → IVec S18432 1),
  binary main_arg1 main_call1_v5 main_call1_v13 ((fun x i => Host.gather gather_S1024x64_S18432x1_S18432x64_1_0_n_n_0_1_164 x i) : FVec F S1024x64 .f32 → IVec S18432x1 32 → FVec F S18432x64 .f32),
  unary main_call1_v12 main_call1_v14 (broadcastInDim S18432x64 ![0] bcast_S18432_S18432x64_0 : IVec S18432 1 → IVec S18432x64 1),
  nullary main_call1_cst (constant S_ .f32 0x7FC00000#32),
  unary main_call1_cst main_call1_v15 (broadcastInDim S18432x64 ![] bcast_S_S18432x64 : FVec F S_ .f32 → FVec F S18432x64 .f32),
  ternary main_call1_v14 main_call1_v13 main_call1_v15 main_v18 (select : IVec S18432x64 1 → FVec F S18432x64 .f32 → FVec F S18432x64 .f32 → FVec F S18432x64 .f32)]

/-- The mean, and the rows passed through. -/
abbrev opsMean : List (HloOp τ sig (Elt F)) := [
  binary main_arg0 main_v18 main_v19 (subf : FVec F S18432x64 .f32 → FVec F S18432x64 .f32 → FVec F S18432x64 .f32),
  binary main_v19 main_v19 main_v20 (mulf : FVec F S18432x64 .f32 → FVec F S18432x64 .f32 → FVec F S18432x64 .f32),
  nullary main_cst_3 (constant S_ .f32 0x00000000#32),
  binary main_v20 main_cst_3 main_v21 ((fun x v => Host.reduceAdd x v reducesTo_S18432x64_S_d0_1 h_S_) : FVec F S18432x64 .f32 → FVec F S_ .f32 → FVec F S_ .f32),
  nullary main_cst_4 (constant S_ .f32 0x49900000#32),
  binary main_v21 main_cst_4 main_v22 (Host.divf : FVec F S_ .f32 → FVec F S_ .f32 → FVec F S_ .f32),
  binary main_v18 main_arg0 main_v23 (subf : FVec F S18432x64 .f32 → FVec F S18432x64 .f32 → FVec F S18432x64 .f32),
  nullary main_cst_5 (constant S_ .f32 0x3F800000#32),
  unary main_cst_5 main_v24 (broadcastInDim S18432x64 ![] bcast_S_S18432x64 : FVec F S_ .f32 → FVec F S18432x64 .f32),
  binary main_v24 main_v23 main_v25 (mulf : FVec F S18432x64 .f32 → FVec F S18432x64 .f32 → FVec F S18432x64 .f32),
  binary main_arg0 main_v25 main_v26 (addf : FVec F S18432x64 .f32 → FVec F S18432x64 .f32 → FVec F S18432x64 .f32)]

/-- All in order. -/
abbrev ops : List (HloOp τ sig (Elt F)) := opsDist ++ (opsMin ++ (opsTake ++ opsMean))

set_option maxRecDepth 8000 in
theorem main_eq (c : Dev nD) : main (F := F) c = seq ops := by
  simp only [main, fn_argmin.body, fn_take.body, fn_where.body, ops, opsDist, opsMin, opsTake, opsMean, List.cons_append, List.nil_append, seq, bind_assoc, pure_bind, main_call0, main_call1, main_call1_call0,
    TRef.nullary, TRef.unary, TRef.binary, TRef.ternary, TRef.quaternary, TRef.toBuf, TRef.ofBuf, cast_eq]
  iterate 60 refine congrArg₂ (· >>= ·) rfl (funext fun _ => ?_)
  rfl

variable (V : Valuation τ sig (Elt F))

theorem after_ops : after ops V = after opsMean (after opsTake (after opsMin (after opsDist V))) := rfl

theorem dist_eq : after opsDist V (main_v16 : DevRef τ sig) = Host.sqrt (dist2 (V (main_arg0 : DevRef τ sig)) (V (main_arg1 : DevRef τ sig))) := by
  after_results
  rfl
theorem dist_arg0 : after opsDist V (main_arg0 : DevRef τ sig) = V (main_arg0 : DevRef τ sig) := by
  after_results
theorem dist_arg1 : after opsDist V (main_arg1 : DevRef τ sig) = V (main_arg1 : DevRef τ sig) := by
  after_results

theorem min_eq : after opsMin V (main_v17 : DevRef τ sig) = argmin (V (main_v16 : DevRef τ sig)) := by
  after_results
  rfl
theorem min_arg0 : after opsMin V (main_arg0 : DevRef τ sig) = V (main_arg0 : DevRef τ sig) := by
  after_results
theorem min_arg1 : after opsMin V (main_arg1 : DevRef τ sig) = V (main_arg1 : DevRef τ sig) := by
  after_results

theorem take_eq : after opsTake V (main_v18 : DevRef τ sig) = GatherRef.taken (V (main_arg1 : DevRef τ sig)) (V (main_v17 : DevRef τ sig)) := by
  after_results
  rfl
theorem take_num : after opsTake V (main_v17 : DevRef τ sig) = V (main_v17 : DevRef τ sig) := by
  after_results
theorem take_arg0 : after opsTake V (main_arg0 : DevRef τ sig) = V (main_arg0 : DevRef τ sig) := by
  after_results
theorem take_arg1 : after opsTake V (main_arg1 : DevRef τ sig) = V (main_arg1 : DevRef τ sig) := by
  after_results

theorem mean_eq : after opsMean V (main_v22 : DevRef τ sig) = mean (V (main_arg0 : DevRef τ sig)) (V (main_v18 : DevRef τ sig)) := by
  after_results
  rfl
theorem through_eq : after opsMean V (main_v26 : DevRef τ sig) = through (V (main_arg0 : DevRef τ sig)) (V (main_v18 : DevRef τ sig)) := by
  after_results
  rfl
theorem mean_num : after opsMean V (main_v17 : DevRef τ sig) = V (main_v17 : DevRef τ sig) := by
  after_results
theorem mean_arg0 : after opsMean V (main_arg0 : DevRef τ sig) = V (main_arg0 : DevRef τ sig) := by
  after_results
theorem mean_arg1 : after opsMean V (main_arg1 : DevRef τ sig) = V (main_arg1 : DevRef τ sig) := by
  after_results

theorem out_num : after ops V (main_v17 : DevRef τ sig) = nearest (V (main_arg0 : DevRef τ sig)) (V (main_arg1 : DevRef τ sig)) := by
  rw [after_ops, mean_num, take_num, min_eq, dist_eq]; rfl
theorem picked_eq : after opsTake (after opsMin (after opsDist V)) (main_v18 : DevRef τ sig) = picked (V (main_arg0 : DevRef τ sig)) (V (main_arg1 : DevRef τ sig)) := by
  rw [take_eq, min_eq, min_arg1, dist_eq, dist_arg1]; rfl
theorem out_mean : after ops V (main_v22 : DevRef τ sig)
    = mean (V (main_arg0 : DevRef τ sig)) (picked (V (main_arg0 : DevRef τ sig)) (V (main_arg1 : DevRef τ sig))) := by
  rw [after_ops, mean_eq, picked_eq, take_arg0, min_arg0, dist_arg0]
theorem out_through : after ops V (main_v26 : DevRef τ sig)
    = through (V (main_arg0 : DevRef τ sig)) (picked (V (main_arg0 : DevRef τ sig)) (V (main_arg1 : DevRef τ sig))) := by
  rw [after_ops, through_eq, picked_eq, take_arg0, min_arg0, dist_arg0]
theorem out_arg0 : after ops V (main_arg0 : DevRef τ sig) = V (main_arg0 : DevRef τ sig) := by
  rw [after_ops, mean_arg0, take_arg0, min_arg0, dist_arg0]
theorem out_arg1 : after ops V (main_arg1 : DevRef τ sig) = V (main_arg1 : DevRef τ sig) := by
  rw [after_ops, mean_arg1, take_arg1, min_arg1, dist_arg1]

theorem ops_sub : (ops : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., binary_bufs_sub .., binary_bufs_sub .., nullary_bufs_sub .., unary_bufs_sub .., binary_bufs_sub .., binary_bufs_sub ..⟩

/-- From any memory: the results are the rows passed through, their numbers and the mean, the arguments are unchanged, and the
    program has no semaphore. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v26) = through (m ((c.tc : Thread nD τ).loc main_arg0)) (picked (m ((c.tc : Thread nD τ).loc main_arg0)) (m ((c.tc : Thread nD τ).loc main_arg1)))
        ∧ r.2.mem ((c.tc : Thread nD τ).loc main_v17) = nearest (m ((c.tc : Thread nD τ).loc main_arg0)) (m ((c.tc : Thread nD τ).loc main_arg1))
        ∧ r.2.mem ((c.tc : Thread nD τ).loc main_v22) = mean (m ((c.tc : Thread nD τ).loc main_arg0)) (picked (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v26).trans (out_through _), (h c main_v17).trans (out_num _), (h c main_v22).trans (out_mean _),
        (h c main_arg0).trans (out_arg0 _), (h c main_arg1).trans (out_arg1 _)⟩,
      sem_eq_zero_of_no_sems (by decide) r.2⟩)
    (run_seq (by decide) (by decide) defs main (fun _ => ops) main_eq (fun _ => ops_sub) m ρ)

end Cert.Proof.WholeRef

end
-- ==== Proof.WholeMath.lean ====
/-
  The mathematics the two programs share: over the reals both expansions of a squared distance are the sum of the squared
  differences, `v · (1/√v)` is the square root, and the fold of `argmin` ends at the least pair of value and number.
-/
module

public import proofs.«01_k».proof.Proof.WholeIdeal
public import proofs.«01_k».proof.Proof.WholeRefRun

@[expose] public section

set_option Elab.async false

noncomputable section

namespace Cert.Proof.Whole

open Idealize.ShloMosaic

/-! ## Sums of reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squared distance. -/
def sq (x y : Fin 64 → ℝ) : ℝ := ∑ k, (x k - y k) * (x k - y k)

theorem sq_nn (x y : Fin 64 → ℝ) : 0 ≤ sq x y := Finset.sum_nonneg fun _ _ => mul_self_nonneg _

/-- The kernel's expansion: the length of `x`, the product with `-2 y`, the length of `y`. -/
theorem sq_kernel (x y : Fin 64 → ℝ) :
    max (((∑ k, (x k : EReal) * x k) + ∑ k, (((-2 : ℝ) : EReal) * y k) * x k) + ∑ k, (y k : EReal) * y k) 0 = (sq x y : EReal) := by
  simp only [← EReal.coe_mul, ← coe_sum, ← EReal.coe_add]
  rw [show (∑ k, x k * x k) + (∑ k, -2 * y k * x k) + ∑ k, y k * y k = sq x y from by
    unfold sq
    rw [← Finset.sum_add_distrib, ← Finset.sum_add_distrib]
    exact Finset.sum_congr rfl fun k _ => by ring]
  exact max_eq_left (EReal.coe_nonneg.2 (sq_nn x y))

/-- The reference's: the length of `x`, less twice the product, plus the length of `y`. -/
theorem sq_reference (x y : Fin 64 → ℝ) :
    max (((∑ k, (x k : EReal) * x k) - ((2 : ℝ) : EReal) * ∑ k, (x k : EReal) * y k) + ∑ k, (y k : EReal) * y k) 0 = (sq x y : EReal) := by
  simp only [← EReal.coe_mul, ← coe_sum, ← EReal.coe_add, ← EReal.coe_sub]
  rw [show (∑ k, x k * x k) - 2 * (∑ k, x k * y k) + ∑ k, y k * y k = sq x y from by
    unfold sq
    rw [Finset.mul_sum, ← Finset.sum_sub_distrib, ← Finset.sum_add_distrib]
    exact Finset.sum_congr rfl fun k _ => by ring]
  exact max_eq_left (EReal.coe_nonneg.2 (sq_nn x y))

theorem rootE_coe {r : ℝ} (h : 0 ≤ r) : rootE (r : EReal) = ((Real.sqrt r : ℝ) : EReal) := by
  unfold rootE
  by_cases h0 : r = 0
  · subst h0; simp
  · rw [if_neg (by exact_mod_cast h0), Ideal.rsqrt_coe, if_neg (not_lt.2 h), if_neg h0, ← EReal.coe_mul]
    exact congrArg _ (by rw [← div_eq_mul_inv, Real.div_sqrt])

/-! ## The fold of `argmin` -/

/-- Pairs in order: by value, and of equal values by number. -/
def before (p q : EReal × BitVec 32) : Prop := p.1 < q.1 ∨ p.1 = q.1 ∧ p.2.toInt ≤ q.2.toInt

theorem before_refl (p : EReal × BitVec 32) : before p p := .inr ⟨rfl, le_refl _⟩

theorem before_trans {p q r : EReal × BitVec 32} (h : before p q) (h' : before q r) : before p r := by
  rcases h with h | ⟨h, k⟩ <;> rcases h' with h' | ⟨h', k'⟩
  · exact .inl (h.trans h')
  · exact .inl (h' ▸ h)
  · exact .inl (h ▸ h')
  · exact .inr ⟨h.trans h', k.trans k'⟩

/-- One step keeps one of the two pairs, and it is before both. -/
theorem step_before (a b : EReal × BitVec 32) :
    (Cert.ReferenceIdeal.reducer_argmin_f32_i32 (F := Ideal) a b = a ∨ Cert.ReferenceIdeal.reducer_argmin_f32_i32 (F := Ideal) a b = b)
      ∧ before (Cert.ReferenceIdeal.reducer_argmin_f32_i32 (F := Ideal) a b) a ∧ before (Cert.ReferenceIdeal.reducer_argmin_f32_i32 (F := Ideal) a b) b := by
  obtain ⟨x, i⟩ := a
  obtain ⟨y, j⟩ := b
  have e : Cert.ReferenceIdeal.reducer_argmin_f32_i32 (F := Ideal) (x, i) (y, j)
      = if x < y then (x, i) else if x = y ∧ i.toInt < j.toInt then (y, i) else (y, j) := by
    show (Scalar.select (IntOp.ori (Ideal.cmp .olt x y) (Ideal.cmp .une x x)) x y,
      Scalar.select (IntOp.ori (IntOp.ori (Ideal.cmp .olt x y) (Ideal.cmp .une x x)) (IntOp.andi (Ideal.cmp .oeq x y) (BitVec.ofBool (i.slt j)))) i j) = _
    unfold Scalar.select Ideal.cmp IntOp.ori IntOp.andi
    rw [BitVec.slt_eq_decide]
    by_cases h : x < y
    · simp [h, h.ne]
    · by_cases h' : x = y <;> by_cases h'' : i.toInt < j.toInt <;> simp [h, h', h'']
  rw [e]
  by_cases h : x < y
  · rw [if_pos h]; exact ⟨.inl rfl, before_refl _, .inl h⟩
  · rw [if_neg h]
    by_cases h' : x = y ∧ i.toInt < j.toInt
    · rw [if_pos h']; exact ⟨.inl (by rw [h'.1]), .inr ⟨h'.1.symm, le_refl _⟩, .inr ⟨rfl, h'.2.le⟩⟩
    · rw [if_neg h']
      refine ⟨.inr rfl, ?_, before_refl _⟩
      rcases lt_or_eq_of_le (not_lt.1 h) with hl | he
      · exact .inl hl
      · exact .inr ⟨he, not_lt.1 fun hn => h' ⟨he.symm, hn⟩⟩

/-- So the fold ends at one of the pairs met, before all of them. -/
theorem fold_before : ∀ (l : List (EReal × BitVec 32)) (a : EReal × BitVec 32),
    (l.foldl (Cert.ReferenceIdeal.reducer_argmin_f32_i32 (F := Ideal)) a = a ∨ l.foldl (Cert.ReferenceIdeal.reducer_argmin_f32_i32 (F := Ideal)) a ∈ l)
      ∧ before (l.foldl (Cert.ReferenceIdeal.reducer_argmin_f32_i32 (F := Ideal)) a) a
      ∧ ∀ p ∈ l, before (l.foldl (Cert.ReferenceIdeal.reducer_argmin_f32_i32 (F := Ideal)) a) p
  | [], a => ⟨.inl rfl, before_refl a, fun _ h => nomatch h⟩
  | b :: l, a => by
    obtain ⟨h1, h2, h3⟩ := fold_before l (Cert.ReferenceIdeal.reducer_argmin_f32_i32 (F := Ideal) a b)
    obtain ⟨s1, s2, s3⟩ := step_before a b
    rw [List.foldl_cons]
    refine ⟨?_, before_trans h2 s2, fun p hp => ?_⟩
    · rcases h1 with h1 | h1
      · rcases s1 with s1 | s1
        · exact .inl (h1.trans s1)
        · exact .inr (List.mem_cons.2 (.inl (h1.trans s1)))
      · exact .inr (List.mem_cons_of_mem _ h1)
    · rcases List.mem_cons.1 hp with rfl | hp
      · exact before_trans h2 s3
      · exact h3 p hp

/-! ## Two searches for the first least entry agree -/

/-- The number of the first least entry. -/
def IsFirst (r : Fin 1024 → ℝ) (k : Fin 1024) : Prop := (∀ k', r k ≤ r k') ∧ ∀ k' < k, r k < r k'

theorem isFirst_unique {r : Fin 1024 → ℝ} {k k' : Fin 1024} (h : IsFirst r k) (h' : IsFirst r k') : k = k' := by
  rcases lt_trichotomy k k' with hl | he | hl
  · exact absurd (h'.2 k hl) (not_lt.2 (h.1 k'))
  · exact he
  · exact absurd (h.2 k' hl) (not_lt.2 (h'.1 k))

/-! ## All vectors, block by block -/

theorem sum_blocks (G : Fin 18432 → ℝ) : ∑ n, G n = ∑ t : Fin 6, ∑ j : Fin 3072, G ⟨3072 * t.val + j.val, by omega⟩ := by
  rw [← Fintype.sum_prod_type' (f := fun (t : Fin 6) (j : Fin 3072) => G ⟨3072 * t.val + j.val, by omega⟩)]
  refine (Fintype.sum_equiv (finProdFinEquiv (m := 6) (n := 3072)) _ _ fun p => ?_).symm
  exact congrArg G (Fin.ext (Nat.add_comm _ _))

end Cert.Proof.Whole

end
-- ==== Proof.WholeFirst.lean ====
/-
  The reference's `argmin`: over a row of reals the fold ends at the number of the row's first least entry.
-/
module

public import proofs.«01_k».proof.Proof.WholeMath
public import Idealize.ShloMosaic.Lib.Pointwise.Reduce

@[expose] public section

set_option Elab.async false

noncomputable section

namespace Cert.Proof.Whole

open Idealize.ShloMosaic hiding ix1 ix2 ix3
open Idealize.ShloMosaic.ValueIdx (ix1 ix2 ix3)

theorem constant_apply (s : Shape) (w : BitVec 32) (i : s.Idx) : (constant (F := Ideal) s .f32 w i : EReal) = Ideal.ofBits .f32 w := rfl

theorem infinity : Ideal.ofBits .f32 0x7F800000#32 = (⊤ : EReal) := by
  simp [Ideal.ofBits, Ideal.ieee]

theorem ofNat_toInt (k : Fin 1024) : (BitVec.ofNat 32 k.val).toInt = (k.val : ℤ) := by
  rw [BitVec.toInt_eq_toNat_cond, BitVec.toNat_ofNat]
  have := k.isLt
  split <;> omega

/-- What a fold over a row meets. -/
theorem mem_fiber {s t : Shape} {axes : List (Fin s.rank)} (x : FVec Ideal s .f32) (y : IVec s 32) (h : s.ReducesTo axes t) (j : t.Idx) (p : EReal × BitVec 32) :
    p ∈ Host.argReduceFiber (α := EReal) x y h j ↔ ∃ i, h.drop i = j ∧ ((x i : EReal), y i) = p := by
  unfold Host.argReduceFiber
  rw [List.mem_map]
  constructor
  · rintro ⟨q, hq, rfl⟩
    exact ⟨_, of_decide_eq_true (List.mem_filter.1 hq).2, rfl⟩
  · rintro ⟨i, hi, rfl⟩
    refine ⟨s.rowMajor i, List.mem_filter.2 ⟨List.mem_finRange _, ?_⟩, ?_⟩
    · rw [Equiv.symm_apply_apply]; exact decide_eq_true hi
    · rw [Equiv.symm_apply_apply]

/-- The fold over a row of reals ends at the number of its first least entry. -/
theorem fold_first {a : ℕ} (x : FVec Ideal ⟨2, ![a, 1024]⟩ .f32) (h : (⟨2, ![a, 1024]⟩ : Shape).ReducesTo [1] ⟨1, ![a]⟩) (n : Fin a) (r : Fin 1024 → ℝ)
    (hr : ∀ k, (x (ix2 n k) : EReal) = (r k : EReal)) (p0 : EReal × BitVec 32) (h0 : p0.1 = ⊤) :
    ∃ k : Fin 1024, ((Host.argReduceFiber (α := EReal) x (iotaInDim ⟨2, ![a, 1024]⟩ 32 1) h (ix1 n)).foldl (Cert.ReferenceIdeal.reducer_argmin_f32_i32 (F := Ideal)) p0).2
      = BitVec.ofNat 32 k.val ∧ IsFirst r k := by
  obtain ⟨hmem, -, hall⟩ := fold_before (Host.argReduceFiber (α := EReal) x (iotaInDim ⟨2, ![a, 1024]⟩ 32 1) h (ix1 n)) p0
  have mem : ∀ p, p ∈ Host.argReduceFiber (α := EReal) x (iotaInDim ⟨2, ![a, 1024]⟩ 32 1) h (ix1 n) ↔ ∃ k : Fin 1024, ((r k : EReal), BitVec.ofNat 32 k.val) = p := fun p => by
    rw [mem_fiber]
    constructor
    · rintro ⟨i, hi, rfl⟩
      obtain ⟨k, rfl⟩ := (Shape.ReducesTo.fiber_r2_a1 h _ _).1 hi
      exact ⟨k, Prod.ext (hr k).symm rfl⟩
    · rintro ⟨k, rfl⟩
      exact ⟨ix2 n k, (Shape.ReducesTo.fiber_r2_a1 h _ _).2 ⟨k, rfl⟩, Prod.ext (hr k) rfl⟩
  generalize (Host.argReduceFiber (α := EReal) x (iotaInDim ⟨2, ![a, 1024]⟩ 32 1) h (ix1 n)).foldl (Cert.ReferenceIdeal.reducer_argmin_f32_i32 (F := Ideal)) p0 = q at hmem hall ⊢
  have hall' : ∀ k' : Fin 1024, before q ((r k' : EReal), BitVec.ofNat 32 k'.val) := fun k' => hall _ ((mem _).2 ⟨k', rfl⟩)
  have hm := hmem.resolve_left fun h => by
    rcases hall' 0 with h1 | h1
    · rw [h, h0] at h1; exact absurd h1 (by simp)
    · rw [h, h0] at h1; exact EReal.coe_ne_top _ h1.1.symm
  obtain ⟨k, rfl⟩ := (mem _).1 hm
  refine ⟨k, rfl, fun k' => ?_, fun k' hlt => ?_⟩
  · rcases hall' k' with h | h
    · exact (EReal.coe_lt_coe_iff.1 h).le
    · exact (EReal.coe_eq_coe_iff.1 h.1).le
  · rcases hall' k' with h | h
    · exact EReal.coe_lt_coe_iff.1 h
    · have := h.2
      simp only [ofNat_toInt] at this
      have : k'.val < k.val := hlt
      omega

/-- So the search for the least entry of each row finds it. -/
theorem argReduce_first {a : ℕ} (x : FVec Ideal ⟨2, ![a, 1024]⟩ .f32) (h : (⟨2, ![a, 1024]⟩ : Shape).ReducesTo [1] ⟨1, ![a]⟩) (hu : 0 < (⟨0, ![]⟩ : Shape).numel)
    (ix : FVec Ideal ⟨0, ![]⟩ .f32) (iy : IVec ⟨0, ![]⟩ 32) (h0 : (ix (Shape.Idx.first hu) : EReal) = ⊤) (n : Fin a) (r : Fin 1024 → ℝ)
    (hr : ∀ k, (x (ix2 n k) : EReal) = (r k : EReal)) :
    ∃ k : Fin 1024, (Host.argReduce (Cert.ReferenceIdeal.reducer_argmin_f32_i32 (F := Ideal)) x (iotaInDim ⟨2, ![a, 1024]⟩ 32 1) ix iy h hu (ix1 n)).2
      = BitVec.ofNat 32 k.val ∧ IsFirst r k := by
  rw [Ideal.argReduce_eq_reduce2, Host.reduce2_eq_foldl_fiber]
  exact fold_first x h n r hr _ h0

theorem argmin_eq (x : FVec Ideal ⟨2, ![18432, 1024]⟩ .f32) : WholeRef.argmin x = fun j => (Host.argReduce (Cert.ReferenceIdeal.reducer_argmin_f32_i32 (F := Ideal)) x
    (iotaInDim ⟨2, ![18432, 1024]⟩ 32 1) (constant Cert.ReferenceIdeal.S_ .f32 0x7F800000#32) (constantI Cert.ReferenceIdeal.S_ 32 0#32)
    Cert.ReferenceIdeal.Facts₀.reducesTo_S18432x1024_S18432_d1 Cert.ReferenceIdeal.Facts₀.h_S_ j).2 := rfl

theorem argmin_first (x : FVec Ideal ⟨2, ![18432, 1024]⟩ .f32) (n : Fin 18432) (r : Fin 1024 → ℝ) (hr : ∀ k, (x (ix2 n k) : EReal) = (r k : EReal)) :
    ∃ k : Fin 1024, WholeRef.argmin x (ix1 n) = BitVec.ofNat 32 k.val ∧ IsFirst r k := by
  obtain ⟨k, hk, hf⟩ := argReduce_first x Cert.ReferenceIdeal.Facts₀.reducesTo_S18432x1024_S18432_d1 Cert.ReferenceIdeal.Facts₀.h_S_
    (constant Cert.ReferenceIdeal.S_ .f32 0x7F800000#32) (constantI Cert.ReferenceIdeal.S_ 32 0#32) ((constant_apply _ _ _).trans infinity) n r hr
  exact ⟨k, (congrFun (argmin_eq x) (ix1 n)).trans hk, hf⟩

end Cert.Proof.Whole

end
-- ==== Proof.WholeAgree.lean ====
/-
  The whole kernel and its reference agree where the arguments are real: both find, for every vector, the number of the
  first row at the least distance; the rows follow, and the totals of the least squared distances are the totals of the
  squared differences.
-/
module

public import proofs.«01_k».proof.Proof.WholeValue
public import proofs.«01_k».proof.Proof.WholeFirst
public import Idealize.ShloMosaic.Lib.IdealHost
public import Idealize.ShloMosaic.Lib.MatmulPlain
public import Idealize.ShloMosaic.Lib.ReduceAll
public import proofs.«01_k».proof.Proof.Gen.Pre_finite

@[expose] public section

set_option Elab.async false

noncomputable section

namespace Cert.Proof.Whole

open Idealize.ShloMosaic hiding ix1 ix2 ix3
open Idealize.ShloMosaic.StableHlo Idealize.SL.Sem
open Idealize.ShloMosaic.ValueIdx (ix1 ix2 ix3)

/-! ## The precondition in words -/

/-- Entries whose absolute values are below the infinity's word are real. -/
theorem real_of_below {s : Shape} (x : FVec Ideal s .f32) (b : FVec Ideal s .f32) (i : s.Idx) (hb : b i = (⊤ : EReal)) (h : cmpf .olt (Host.absf x) b i = 1#1) :
    (x i : EReal) = (((x i : EReal).toReal : ℝ) : EReal) := by
  have h' : (max (x i : EReal) (-(x i))) < ⊤ := by
    have h1 : Ideal.cmp .olt (max (x i : EReal) (-(x i))) (b i) = 1#1 := h
    rw [hb] at h1
    by_contra hn
    unfold Ideal.cmp at h1
    simp [hn] at h1
  refine (EReal.coe_toReal ?_ ?_).symm
  · intro e; rw [e] at h'; simp at h'
  · intro e; rw [e] at h'; simp at h'

theorem finite {z : FVec Ideal ⟨2, ![18432, 64]⟩ .f32} {e : FVec Ideal ⟨2, ![1024, 64]⟩ .f32} (h : Cert.Pre_finite.fn (F := Ideal) z e = fun _ => 1#1) :
    (∀ i, (z i : EReal) = (((z i : EReal).toReal : ℝ) : EReal)) ∧ ∀ i, (e i : EReal) = (((e i : EReal).toReal : ℝ) : EReal) := by
  have and_one : ∀ p q : BitVec 1, IntOp.andi p q = 1#1 → p = 1#1 ∧ q = 1#1 := by decide
  have hh := congrFun h (fun a => nomatch a)
  simp only [Cert.Pre_finite.fn, andi] at hh
  obtain ⟨h0, h1⟩ := and_one _ _ hh
  haveI : Subsingleton Cert.Pre_finite.S_.Idx := ⟨fun a b => funext fun i => nomatch i⟩
  exact ⟨fun i => real_of_below z _ i infinity (Host.reduce_andi_all _ _ _ _ _ h0 i),
    fun i => real_of_below e _ i infinity (Host.reduce_andi_all _ _ _ _ _ h1 i)⟩

/-! ## The kernel's distances -/

theorem dist_apply (A : FVec Ideal ⟨2, ![1024, 64]⟩ .f32) (B : FVec Ideal ⟨2, ![64, 3072]⟩ .f32) (C : FVec Ideal ⟨2, ![1, 3072]⟩ .f32) (D' : FVec Ideal ⟨2, ![1024, 1]⟩ .f32)
    (k : Fin 1024) (j : Fin 3072) :
    dist A B C D' (ix2 k j) = max (((C (ix2 0 j) : EReal) + (0 + ∑ c, (A (ix2 k c) : EReal) * B (ix2 c j))) + D' (ix2 k 0)) 0 := by
  unfold dist Cert.KernelIdeal.Gen.k0_pay1
  simp only [shapeCast_self]
  have e : ∀ (a a' b b' d d' f : EReal), a = a' → b = b' → d = d' → f = 0 → max (a + b + d) f = max (a' + b' + d') 0 := by
    rintro a _ b _ d _ _ rfl rfl rfl rfl; rfl
  refine e _ _ _ _ _ _ _ ?_ ?_ ?_ Ideal.ofBits_zero_f32
  · exact broadcastTo_apply _ _ _ _ fun a => match a with | ⟨0, _⟩ => rfl | ⟨1, _⟩ => rfl
  · refine (Ideal.matmul_plain_apply (M := 1024) (K := 64) (N := 3072) none A B _ k j).trans ?_
    exact congrArg (· + _) Ideal.ofBits_zero_f32
  · exact broadcastTo_apply _ _ _ _ fun a => match a with | ⟨0, _⟩ => rfl | ⟨1, _⟩ => rfl

section
variable (m : (ℓ : Loc Cert.KernelIdeal.nD Cert.KernelIdeal.τ Cert.KernelIdeal.sig) → Buf (Elt Ideal) ℓ) (d : Dev Cert.KernelIdeal.nD)

abbrev zArg : FVec Ideal ⟨2, ![18432, 64]⟩ .f32 := m (d, dr Cert.KernelIdeal.main_arg0)
abbrev eArg : FVec Ideal ⟨2, ![1024, 64]⟩ .f32 := m (d, dr Cert.KernelIdeal.main_arg1)

/-- A vector and a row as reals. -/
def zRow (n : Fin 18432) (c : Fin 64) : ℝ := (zArg m d (ix2 n c) : EReal).toReal
def eRow (k : Fin 1024) (c : Fin 64) : ℝ := (eArg m d (ix2 k c) : EReal).toReal

variable (hz : ∀ i, (zArg m d i : EReal) = (((zArg m d i : EReal).toReal : ℝ) : EReal)) (he : ∀ i, (eArg m d i : EReal) = (((eArg m d i : EReal).toReal : ℝ) : EReal))

theorem reduce_rows {a : ℕ} (x : FVec Ideal ⟨2, ![a, 64]⟩ .f32) (h : (⟨2, ![a, 64]⟩ : Shape).ReducesTo [1] ⟨1, ![a]⟩) (hu : 0 < (⟨0, ![]⟩ : Shape).numel) (n : Fin a) :
    (Host.reduceAdd (mulf x x) (constant (F := Ideal) ⟨0, ![]⟩ .f32 0x00000000#32) h hu (ix1 n) : EReal) = ∑ c, (x (ix2 n c) : EReal) * x (ix2 n c) := by
  refine (Ideal.hostReduceAdd_r2_a1 h (mulf x x) _ (ix1 n)).trans ?_
  exact (congrArg (· + _) Ideal.ofBits_zero_f32).trans (zero_add _)

theorem two_neg : Ideal.ofBits .f32 0xC0000000#32 = ((-2 : ℝ) : EReal) := by
  simp [Ideal.ofBits, Ideal.ieee, -EReal.coe_mul]
  norm_num

theorem two_pos : Ideal.ofBits .f32 0x40000000#32 = ((2 : ℝ) : EReal) := (value_of_word (n := 2) (by decide) (by decide) (by decide)).trans (by norm_num)

include hz he in
theorem dist_real (t : Fin Cert.KernelIdeal.cfg0.N) (k : Fin 1024) (j : Fin 3072) :
    (dist (tabIn (V1 m) d) (vecIn (V1 m) d t) (lenIn (V1 m) d t) (rowIn (V1 m) d) (ix2 k j) : EReal) = (sq (zRow m d (vec t j)) (eRow m d k) : EReal) := by
  have h1 : (lenIn (V1 m) d t (ix2 0 j) : EReal) = ∑ c, (zRow m d (vec t j) c : EReal) * zRow m d (vec t j) c := by
    rw [lenIn_apply, lens_eq]
    refine (broadcastInDim_apply _ _ _ _ (ix1 (vec t j)) fun a => match a with | ⟨0, _⟩ => rfl).trans ?_
    refine (reduce_rows _ _ _ _).trans (Finset.sum_congr rfl fun c _ => ?_)
    unfold zRow; rw [← hz]
  have h2 : ∀ c : Fin 64, (tabIn (V1 m) d (ix2 k c) : EReal) = ((-2 : ℝ) : EReal) * eRow m d k c := fun c => by
    rw [tabIn_eq, tab2_eq]
    unfold eRow; rw [← he, ← two_neg]
    rfl
  have h3 : ∀ c : Fin 64, (vecIn (V1 m) d t (ix2 c j) : EReal) = zRow m d (vec t j) c := fun c => by
    rw [vecIn_apply, vecs_eq]
    unfold zRow; rw [← hz]
    exact transpose_apply _ _ _ _ _ fun b => match b with | ⟨0, _⟩ => rfl | ⟨1, _⟩ => rfl
  have h4 : (rowIn (V1 m) d (ix2 k 0) : EReal) = ∑ c, (eRow m d k c : EReal) * eRow m d k c := by
    rw [rowIn_eq, rows_eq]
    refine (broadcastInDim_apply _ _ _ _ (ix1 k) fun a => match a with | ⟨0, _⟩ => rfl).trans ?_
    refine (reduce_rows _ _ _ _).trans (Finset.sum_congr rfl fun c _ => ?_)
    unfold eRow; rw [← he]
  rw [dist_apply, h1, h4]
  simp only [h2, h3]
  rw [zero_add]
  exact sq_kernel _ _

include hz he in
/-- The kernel's number is the first nearest row's, and the least distance is that row's. -/
theorem kernel_first (t : Fin Cert.KernelIdeal.cfg0.N) (j : Fin 3072) : ∃ k : Fin 1024,
    numAt (V1 m) d t (ix3 0 0 j) = BitVec.ofNat 32 k.val ∧ IsFirst (fun k => Real.sqrt (sq (zRow m d (vec t j)) (eRow m d k))) k
      ∧ (lowAt (V1 m) d t (ix2 0 j) : EReal) = (sq (zRow m d (vec t j)) (eRow m d k) : EReal) := by
  obtain ⟨k, hk, hroot, hfirst⟩ := num_spec (tabIn (V1 m) d) (vecIn (V1 m) d t) (lenIn (V1 m) d t) (rowIn (V1 m) d) j
  obtain ⟨k0, hk0⟩ := least_attained (dist (tabIn (V1 m) d) (vecIn (V1 m) d t) (lenIn (V1 m) d t) (rowIn (V1 m) d)) j
  have hlow : (low (tabIn (V1 m) d) (vecIn (V1 m) d t) (lenIn (V1 m) d t) (rowIn (V1 m) d) (ix2 0 j) : EReal) = (sq (zRow m d (vec t j)) (eRow m d k0) : EReal) :=
    hk0.trans (dist_real m d hz he t k0 j)
  have hle : ∀ k', sq (zRow m d (vec t j)) (eRow m d k0) ≤ sq (zRow m d (vec t j)) (eRow m d k') := fun k' => by
    have h := least_apply (dist (tabIn (V1 m) d) (vecIn (V1 m) d t) (lenIn (V1 m) d t) (rowIn (V1 m) d)) j
    have h' : (low (tabIn (V1 m) d) (vecIn (V1 m) d t) (lenIn (V1 m) d t) (rowIn (V1 m) d) (ix2 0 j) : EReal)
        ≤ dist (tabIn (V1 m) d) (vecIn (V1 m) d t) (lenIn (V1 m) d t) (rowIn (V1 m) d) (ix2 k' j) := h.trans_le (iInf_le _ k')
    rw [hlow, dist_real m d hz he] at h'
    exact_mod_cast h'
  have hr : Real.sqrt (sq (zRow m d (vec t j)) (eRow m d k)) = Real.sqrt (sq (zRow m d (vec t j)) (eRow m d k0)) := by
    rw [hlow, dist_real m d hz he, rootE_coe (sq_nn _ _), rootE_coe (sq_nn _ _)] at hroot
    exact_mod_cast hroot
  refine ⟨k, hk, ⟨fun k' => hr.trans_le (Real.sqrt_le_sqrt (hle k')), fun k' hk' => ?_⟩, ?_⟩
  · have := hfirst k' hk'
    rw [hlow, dist_real m d hz he, rootE_coe (sq_nn _ _), rootE_coe (sq_nn _ _)] at this
    refine lt_of_le_of_ne (hr.trans_le (Real.sqrt_le_sqrt (hle k'))) fun h => this ?_
    rw [← hr]
    exact congrArg _ h.symm
  · exact hlow.trans (congrArg _ ((Real.sqrt_inj (sq_nn _ _) (sq_nn _ _)).1 hr.symm))

/-! ## The reference's -/

include hz he in
theorem ref_dist (n : Fin 18432) (k : Fin 1024) : (WholeRef.dist2 (zArg m d) (eArg m d) (ix2 n k) : EReal) = (sq (zRow m d n) (eRow m d k) : EReal) := by
  unfold WholeRef.dist2
  have e : ∀ (a a' b b' p p' q q' f : EReal), a = a' → b = b' → p = p' → q = q' → f = 0 → max (a - b * p + q) f = max (a' - b' * p' + q') 0 := by
    rintro a _ b _ p _ q _ _ rfl rfl rfl rfl rfl; rfl
  refine (e _ _ _ _ _ _ _ _ _ ?_ two_pos ?_ ?_ Ideal.ofBits_zero_f32).trans (sq_reference (zRow m d n) (eRow m d k))
  · refine (broadcastInDim_apply _ _ _ _ (ix2 n (0 : Fin 1)) fun a => match a with | ⟨0, _⟩ => rfl | ⟨1, _⟩ => rfl).trans ?_
    refine (broadcastInDim_apply _ _ _ _ (ix1 n) fun a => match a with | ⟨0, _⟩ => rfl).trans ?_
    refine (reduce_rows _ _ _ _).trans (Finset.sum_congr rfl fun c _ => ?_)
    unfold zRow; rw [← hz]
  · refine (Ideal.matmul_plain_apply (M := 18432) (K := 64) (N := 1024) (φ₁ := .f32) (φ₂ := .f32) none (zArg m d) _ (fun _ => (0 : EReal)) n k).trans ?_
    refine (zero_add _).trans (Finset.sum_congr rfl fun c _ => ?_)
    unfold zRow eRow
    rw [← hz, ← he]
    exact congrArg (_ * ·) (transpose_apply _ _ _ _ _ fun b => match b with | ⟨0, _⟩ => rfl | ⟨1, _⟩ => rfl)
  · refine (broadcastInDim_apply _ _ _ _ (ix2 (0 : Fin 1) k) fun a => match a with | ⟨0, _⟩ => rfl | ⟨1, _⟩ => rfl).trans ?_
    refine (broadcastInDim_apply _ _ _ _ (ix1 k) fun a => match a with | ⟨0, _⟩ => rfl).trans ?_
    refine (reduce_rows _ _ _ _).trans (Finset.sum_congr rfl fun c _ => ?_)
    unfold eRow; rw [← he]

theorem hostSqrt_apply {s : Shape} (x : FVec Ideal s .f32) (i : s.Idx) : (Host.sqrt x i : EReal) = Ideal.sqrt (x i) := rfl

include hz he in
theorem ref_first (n : Fin 18432) : ∃ k : Fin 1024, WholeRef.nearest (zArg m d) (eArg m d) (ix1 n) = BitVec.ofNat 32 k.val
    ∧ IsFirst (fun k => Real.sqrt (sq (zRow m d n) (eRow m d k))) k :=
  argmin_first (Host.sqrt (WholeRef.dist2 (zArg m d) (eArg m d))) n _ fun k => by
    rw [hostSqrt_apply, ref_dist m d hz he, Ideal.sqrt_coe, if_neg (not_lt.2 (sq_nn _ _))]

/-! ## They agree -/

include hz he in
/-- One number serves both. -/
theorem both_first (t : Fin Cert.KernelIdeal.cfg0.N) (j : Fin 3072) : ∃ k : Fin 1024,
    V5 m d (dr Cert.KernelIdeal.main_v12) (ix1 (vec t j)) = BitVec.ofNat 32 k.val
      ∧ WholeRef.nearest (zArg m d) (eArg m d) (ix1 (vec t j)) = BitVec.ofNat 32 k.val
      ∧ (lowAt (V1 m) d t (ix2 0 j) : EReal) = (sq (zRow m d (vec t j)) (eRow m d k) : EReal) := by
  obtain ⟨k, hk, hf, hl⟩ := kernel_first m d hz he t j
  obtain ⟨k', hk', hf'⟩ := ref_first m d hz he (vec t j)
  obtain rfl := isFirst_unique hf hf'
  exact ⟨k, (V5_nums_apply m d t j).trans hk, hk', hl⟩

include hz he in
theorem nums_agree : V5 m d (dr Cert.KernelIdeal.main_v12) = WholeRef.nearest (zArg m d) (eArg m d) := by
  funext i
  obtain ⟨n, rfl⟩ : ∃ n, i = ix1 n := ⟨i 0, funext fun a => match a with | ⟨0, _⟩ => rfl⟩
  obtain ⟨t, j, rfl⟩ := vec_surj n
  obtain ⟨k, hk, hk', -⟩ := both_first m d hz he t j
  exact hk.trans hk'.symm

include hz he in
theorem nearest_lt (i : Cert.ReferenceIdeal.S18432.Idx) : (WholeRef.nearest (zArg m d) (eArg m d) i).toNat < 1024 := by
  obtain ⟨n, rfl⟩ : ∃ n, i = ix1 n := ⟨i 0, funext fun a => match a with | ⟨0, _⟩ => rfl⟩
  obtain ⟨k, hk, -⟩ := ref_first m d hz he n
  rw [hk, BitVec.toNat_ofNat]
  omega

theorem taken_at (e : FVec Ideal ⟨2, ![1024, 64]⟩ .f32) (i : IVec ⟨1, ![18432]⟩ 32) (h : ∀ n, (i n).toNat < 1024) (n : Fin 18432) (c : Fin 64) (k : Fin 1024)
    (hk : i (ix1 n) = BitVec.ofNat 32 k.val) : GatherRef.taken e i (ix2 n c) = e (ix2 k c) := by
  have hv : (i (ix1 n)).toNat = k.val := by rw [hk, BitVec.toNat_ofNat]; omega
  have hf : (⟨(i (ix1 n)).toNat, h _⟩ : Fin 1024) = k := Fin.ext hv
  rw [GatherRef.taken_apply h, hf]

include hz he in
theorem picked_apply (n : Fin 18432) (c : Fin 64) (k : Fin 1024) (hk : WholeRef.nearest (zArg m d) (eArg m d) (ix1 n) = BitVec.ofNat 32 k.val) :
    WholeRef.picked (zArg m d) (eArg m d) (ix2 n c) = eArg m d (ix2 k c) :=
  taken_at (eArg m d) (WholeRef.nearest (zArg m d) (eArg m d)) (nearest_lt m d hz he) n c k hk

include hz he in
theorem rows_agree : V5 m d (dr Cert.KernelIdeal.main_v15) = WholeRef.through (zArg m d) (WholeRef.picked (zArg m d) (eArg m d)) := by
  funext i
  obtain ⟨n, c, rfl⟩ : ∃ n c, i = ix2 n c := ⟨i 0, i 1, funext fun a => match a with | ⟨0, _⟩ => rfl | ⟨1, _⟩ => rfl⟩
  obtain ⟨t, j, rfl⟩ := vec_surj n
  obtain ⟨k, hk, hk', -⟩ := both_first m d hz he t j
  refine (V5_rows_apply m d _ c k hk).trans ?_
  show (eArg m d (ix2 k c) : EReal) = (zArg m d (ix2 (vec t j) c) : EReal) + Ideal.ofBits .f32 0x3F800000#32 * ((WholeRef.picked (zArg m d) (eArg m d) (ix2 (vec t j) c) : EReal) - zArg m d (ix2 (vec t j) c))
  rw [picked_apply m d hz he _ c k hk', Ideal.ofBits_one_f32, one_mul, he (ix2 k c), hz (ix2 (vec t j) c), ← EReal.coe_sub, ← EReal.coe_add]
  exact congrArg _ (by ring)

/-! ## The totals -/

theorem multi_add {s t : Shape} {axes : List (Fin s.rank)} (x : FVec Ideal s .f32) (acc : BitVec 32) (h : s.Reduces axes t) (hφ : FKind.Formats .f32) (hacc : acc = FKind.neutral .add .f32 hφ) (j : t.Idx) :
    (multiReduction .add axes t x acc h hφ hacc j : EReal) = Ideal.reduceAdd h x j := rfl

theorem block_total (l : FVec Ideal ⟨2, ![1, 3072]⟩ .f32) : (Cert.KernelIdeal.Gen.k0_pay140 l (ix2 0 0) : EReal) = ∑ j : Fin 3072, (l (ix2 0 j) : EReal) := by
  unfold Cert.KernelIdeal.Gen.k0_pay140
  refine (shapeCast_apply _ _ _ (ix1 (0 : Fin 1)) (by decide)).trans ?_
  refine (multi_add (s := ⟨3, ![1, 1, 3072]⟩) (t := ⟨1, ![1]⟩) (axes := [1, 2]) _ 0#32 _ (.inl rfl) rfl (ix1 0)).trans ?_
  refine (Ideal.reduceAdd_r3_a12 (n0 := 1) (n1 := 1) (n2 := 3072) (t := ⟨1, ![1]⟩) _ _ (ix1 0)).trans ?_
  rw [Fin.sum_univ_one]
  exact Finset.sum_congr rfl fun j _ => ValueIdx.shapeCast_ab_1ab_apply (a := 1) (b := 3072) l _ 0 0 j

theorem totals (W : Dev Cert.KernelIdeal.nD → Valuation Cert.KernelIdeal.τ Cert.KernelIdeal.sig (Elt Ideal)) :
    ∀ n (hn : n < Cert.KernelIdeal.cfg0.N), (totAt W d n (ix2 0 0) : EReal) = ∑ t : Fin (n + 1), ∑ j : Fin 3072, (lowAt W d ⟨t.val, lt_of_lt_of_le t.isLt hn⟩ (ix2 0 j) : EReal)
  | 0, hn => by
    rw [Fin.sum_univ_one]
    exact block_total _
  | n + 1, hn => by
    rw [Fin.sum_univ_castSucc]
    refine Eq.trans ?_ (congrArg₂ (· + ·) (totals W n (by omega)) (block_total _))
    rw [totAt, dif_pos hn]
    unfold Cert.KernelIdeal.Gen.k0_pay141
    rw [shapeCast_self]
    rfl

include hz he in
theorem mean_agree : V5 m d (dr Cert.KernelIdeal.main_v17) = WholeRef.mean (zArg m d) (WholeRef.picked (zArg m d) (eArg m d)) := by
  rw [V5_mean]
  unfold WholeRef.mean
  refine congrArg (fun x => Host.divf x _) (funext fun i => ?_)
  refine (shapeCast_apply _ _ _ (ix2 (0 : Fin 1) (0 : Fin 1)) (by rw [Subsingleton.elim i fun a => nomatch a]; decide)).trans ?_
  refine (totals d (V1 m) 5 (by decide)).trans ?_
  refine Eq.trans ?_ ((Ideal.hostReduceAdd_r2_a01 _ _ _ i).trans ((congrArg (· + _) Ideal.ofBits_zero_f32).trans (zero_add _))).symm
  have key : ∀ (t : Fin Cert.KernelIdeal.cfg0.N) (j : Fin 3072), (lowAt (V1 m) d t (ix2 0 j) : EReal)
      = ((∑ c, (zRow m d (vec t j) c - (WholeRef.picked (zArg m d) (eArg m d) (ix2 (vec t j) c) : EReal).toReal) * (zRow m d (vec t j) c - (WholeRef.picked (zArg m d) (eArg m d) (ix2 (vec t j) c) : EReal).toReal) : ℝ) : EReal) := fun t j => by
    obtain ⟨k, -, hk', hl⟩ := both_first m d hz he t j
    rw [hl]
    refine congrArg _ (Finset.sum_congr rfl fun c _ => ?_)
    rw [picked_apply m d hz he _ c k hk']
    rfl
  have key' : ∀ n c, ((subf (zArg m d) (WholeRef.picked (zArg m d) (eArg m d)) (ix2 n c) : EReal) * subf (zArg m d) (WholeRef.picked (zArg m d) (eArg m d)) (ix2 n c))
      = (((zRow m d n c - (WholeRef.picked (zArg m d) (eArg m d) (ix2 n c) : EReal).toReal) * (zRow m d n c - (WholeRef.picked (zArg m d) (eArg m d) (ix2 n c) : EReal).toReal) : ℝ) : EReal) := fun n c => by
    obtain ⟨k, hk, -⟩ := ref_first m d hz he n
    have hs : (subf (zArg m d) (WholeRef.picked (zArg m d) (eArg m d)) (ix2 n c) : EReal) = ((zRow m d n c - (WholeRef.picked (zArg m d) (eArg m d) (ix2 n c) : EReal).toReal : ℝ) : EReal) := by
      show (zArg m d (ix2 n c) : EReal) - WholeRef.picked (zArg m d) (eArg m d) (ix2 n c) = _
      rw [picked_apply m d hz he n c k hk, EReal.coe_sub, ← he]
      unfold zRow; rw [← hz]
    rw [hs, EReal.coe_mul]
  refine Eq.trans ?_ (Finset.sum_congr rfl fun n _ => Finset.sum_congr rfl fun c _ => (key' n c).symm)
  simp only [← coe_sum]
  rw [sum_blocks, coe_sum]
  refine Finset.sum_congr rfl fun t _ => ?_
  rw [coe_sum]
  exact Finset.sum_congr rfl fun j _ => key ⟨t.val, _⟩ j

end

end Cert.Proof.Whole

end
-- ==== Proof.lean ====
/-
  The vector quantiser's certificate. The SparseCore call alone with the host operations about it leaves the rows `jnp.take`
  takes, as words and as extended reals. The whole kernel, the search and the gather one after the other, leaves over the
  extended reals what the reference does from real arguments: the rows, their numbers and the mean of the squared differences.
  The argument arrays end unchanged and every semaphore ends at zero.
-/
module

public import proofs.«01_k».proof.Proof.GatherValue
public import proofs.«01_k».proof.Proof.WholeAgree
public import proofs.«01_k».proof.Proof.Gen.Gather
public import proofs.«01_k».proof.Proof.Gen.GatherRef

@[expose] public section

noncomputable section

namespace Cert.Proof

open Idealize.ShloMosaic Idealize.SL.Sem

/-- The kernel as words: its text is the ideal program's, whose run holds over any float type. -/
theorem frame_p : Cert.quiescent_Gather := fun m ρ h =>
  (θ_run Cert.GatherIdeal.defs _ _).mono (fun _ hr => ⟨fun c => (hr.1 c).2, hr.2⟩)
    (Gather.run_value (F := Bits) m ρ fun d => Gather.in_range (h d))

theorem frame_pi : Cert.quiescent_GatherIdeal := fun m ρ h =>
  (θ_run Cert.GatherIdeal.defs _ _).mono (fun _ hr => ⟨fun c => (hr.1 c).2, hr.2⟩)
    (Gather.run_value (F := Ideal) m ρ fun d => Gather.in_range (h d))

theorem frame_ri : Cert.quiescent_GatherRefIdeal := fun m ρ _ =>
  (θ_run Cert.GatherRefIdeal.defs _ _).mono (fun _ hr => ⟨fun c => (hr.1 c).2, hr.2⟩) (GatherRef.run_main (F := Ideal) m ρ)

theorem frame_ri_pre : Cert.quiescent_GatherRefIdeal_pre_indices_in_range := fun m ρ _ =>
  (θ_run Cert.GatherRefIdeal.defs _ _).mono (fun _ hr => ⟨fun c => (hr.1 c).2, hr.2⟩) (GatherRef.run_main (F := Ideal) m ρ)

theorem frame_r : Cert.quiescent_GatherRef := fun m ρ _ =>
  (θ_run Cert.GatherRefIdeal.defs _ _).mono (fun _ hr => ⟨fun c => (hr.1 c).2, hr.2⟩) (GatherRef.run_main (F := Bits) m ρ)

/-- As words: both results are the rows taken. -/
theorem bitexact : Cert.bitexact_Gather_GatherRef := fun m ρ m' ρ' h hagree =>
  ⟨fun c => GatherRef.taken (F := Bits) (m (c, Gather.dr Cert.GatherIdeal.main_arg0)) (m (c, Gather.dr Cert.GatherIdeal.main_arg1)),
    (θ_run Cert.GatherIdeal.defs _ _).mono (fun _ hr c => hr.1 c) (Gather.run_value (F := Bits) m ρ fun d => Gather.in_range (h d)),
    (θ_run Cert.GatherRefIdeal.defs _ _).mono (fun _ hr c => ⟨(hr.1 c).1.trans (congrArg₂ GatherRef.taken (hagree c).1 (hagree c).2), (hr.1 c).2⟩)
      (GatherRef.run_main (F := Bits) m' ρ')⟩

/-- As extended reals: the same. -/
theorem algebraic : Cert.algebraic_GatherIdeal_GatherRefIdeal := fun m ρ m' ρ' h hagree =>
  ⟨fun c => GatherRef.taken (F := Ideal) (m (c, Gather.dr Cert.GatherIdeal.main_arg0)) (m (c, Gather.dr Cert.GatherIdeal.main_arg1)),
    (θ_run Cert.GatherIdeal.defs _ _).mono (fun _ hr c => hr.1 c) (Gather.run_value (F := Ideal) m ρ fun d => Gather.in_range (h d)),
    (θ_run Cert.GatherRefIdeal.defs _ _).mono (fun _ hr c => ⟨(hr.1 c).1.trans (congrArg₂ GatherRef.taken (hagree c).1 (hagree c).2), (hr.1 c).2⟩)
      (GatherRef.run_main (F := Ideal) m' ρ')⟩

/-! ## The whole kernel -/

theorem frame_whole : Cert.quiescent_KernelIdeal := fun m ρ _ =>
  (θ_run Cert.KernelIdeal.defs _ _).mono (fun _ hr => ⟨fun c => ⟨(hr.1 c).1, (hr.1 c).2.1⟩, hr.2⟩) (Whole.run_ideal m ρ)

theorem frame_whole_pre : Cert.quiescent_KernelIdeal_pre_finite := fun m ρ _ => frame_whole m ρ trivial

theorem frame_reference : Cert.quiescent_ReferenceIdeal := fun m ρ _ =>
  (θ_run Cert.ReferenceIdeal.defs _ _).mono (fun _ hr => ⟨fun c => (hr.1 c).2.2.2, hr.2⟩) (WholeRef.run_main (F := Ideal) m ρ)

theorem frame_reference_pre : Cert.quiescent_ReferenceIdeal_pre_finite := fun m ρ _ => frame_reference m ρ trivial

/-- From real arguments the kernel's three results are the reference's. -/
theorem algebraic_whole : Cert.algebraic_KernelIdeal_ReferenceIdeal_pre_finite := fun m ρ m' ρ' h hagree =>
  ⟨fun c => WholeRef.through (Whole.zArg m c) (WholeRef.picked (Whole.zArg m c) (Whole.eArg m c)),
    fun c => WholeRef.nearest (Whole.zArg m c) (Whole.eArg m c),
    fun c => WholeRef.mean (Whole.zArg m c) (WholeRef.picked (Whole.zArg m c) (Whole.eArg m c)),
    (θ_run Cert.KernelIdeal.defs _ _).mono (fun _ hr c =>
      have hf := Whole.finite (z := Whole.zArg m c) (e := Whole.eArg m c) (h c)
      ⟨(hr.1 c).2.2.1.trans (Whole.rows_agree m c hf.1 hf.2), (hr.1 c).2.2.2.1.trans (Whole.nums_agree m c hf.1 hf.2),
        (hr.1 c).2.2.2.2.trans (Whole.mean_agree m c hf.1 hf.2), (hr.1 c).1, (hr.1 c).2.1⟩) (Whole.run_ideal m ρ),
    (θ_run Cert.ReferenceIdeal.defs _ _).mono (fun _ hr c =>
      ⟨(hr.1 c).1.trans (congrArg₂ (fun z e => WholeRef.through z (WholeRef.picked z e)) (hagree c).1 (hagree c).2),
        (hr.1 c).2.1.trans (congrArg₂ WholeRef.nearest (hagree c).1 (hagree c).2),
        (hr.1 c).2.2.1.trans (congrArg₂ (fun z e => WholeRef.mean z (WholeRef.picked z e)) (hagree c).1 (hagree c).2), (hr.1 c).2.2.2⟩)
      (WholeRef.run_main (F := Ideal) m' ρ')⟩

theorem claim : Cert.Claim :=
  ⟨Cert.Gather.Gen.facts, Cert.GatherIdeal.Gen.facts, Cert.GatherRefIdeal.Gen.facts, Cert.GatherRef.Gen.facts, Cert.KernelIdeal.Gen.facts,
    Cert.ReferenceIdeal.Gen.facts, Cert.Pre_indices_in_range.Gen.facts, Cert.Pre_finite.Gen.facts,
    frame_p, frame_pi, frame_ri, frame_ri_pre, frame_r, frame_whole, frame_whole_pre, frame_reference, frame_reference_pre,
    trivial, bitexact, algebraic, algebraic_whole⟩

end Cert.Proof

end
